-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_on_reached [hKernelIdeal : Cert.KernelIdeal.Facts] [hReferenceIdeal : Cert.ReferenceIdeal.Facts] [hPre_routed : Cert.Pre_routed.Facts] [hOn_reached : Cert.On_reached.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 64]⟩ : Shape).Idx, (Cert.On_reached.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v3_0) i = v0 c i)
          ∧ (∀ i : (⟨2, ![64, 4096]⟩ : Shape).Idx, (Cert.On_reached.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v3_1) i = v1 c i)
          ∧ (∀ i : (⟨2, ![2048, 64]⟩ : Shape).Idx, (Cert.On_reached.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v3_2) i = v2 c i)
          ∧ (∀ i : (⟨2, ![64, 4096]⟩ : Shape).Idx, (Cert.On_reached.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 i = 1#1 → r.2.mem ((c.tc : Thread Cert.KernelIdeal.nD Cert.KernelIdeal.τ).loc Cert.KernelIdeal.main_v3_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2048, 64]⟩ : Shape).Idx, (Cert.On_reached.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v36_0) i = v0 c i)
          ∧ (∀ i : (⟨2, ![64, 4096]⟩ : Shape).Idx, (Cert.On_reached.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v36_1) i = v1 c i)
          ∧ (∀ i : (⟨2, ![2048, 64]⟩ : Shape).Idx, (Cert.On_reached.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v36_2) i = v2 c i)
          ∧ (∀ i : (⟨2, ![64, 4096]⟩ : Shape).Idx, (Cert.On_reached.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 i = 1#1 → r.2.mem ((c.tc : Thread Cert.ReferenceIdeal.nD Cert.ReferenceIdeal.τ).loc Cert.ReferenceIdeal.main_v36_3) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_routed : Cert.Pre_routed.Facts) (hOn_reached : Cert.On_reached.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ preserves_Kernel_KernelIdeal
    ∧ algebraic_KernelIdeal_ReferenceIdeal_on_reached (hKernelIdeal := hKernelIdeal) (hReferenceIdeal := hReferenceIdeal) (hPre_routed := hPre_routed) (hOn_reached := hOn_reached)
-- ==== On_reached.lean ====
abbrev S2x1024x64 : Shape := ⟨3, ![2, 1024, 64]⟩
abbrev S2x1024x4096 : Shape := ⟨3, ![2, 1024, 4096]⟩
abbrev S2x1024 : Shape := ⟨2, ![2, 1024]⟩
abbrev S16384x4096 : Shape := ⟨2, ![16384, 4096]⟩
abbrev S16384 : Shape := ⟨1, ![16384]⟩
abbrev S64 : Shape := ⟨1, ![64]⟩
abbrev S64x4096 : Shape := ⟨2, ![64, 4096]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S16384x1 : Shape := ⟨2, ![16384, 1]⟩
abbrev S16384x64 : Shape := ⟨2, ![16384, 64]⟩
abbrev S2048 : Shape := ⟨1, ![2048]⟩
abbrev S1x2048 : Shape := ⟨2, ![1, 2048]⟩
abbrev S16384x2048 : Shape := ⟨2, ![16384, 2048]⟩
abbrev S2048x64 : Shape := ⟨2, ![2048, 64]⟩

class Facts : Prop where
  bcast_S_S64x4096 : S_.BroadcastsInDim S64x4096 (![] : Fin 0 → Fin S64x4096.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  reducesTo_S64x64_S64_d0 : S64x64.ReducesTo [0] S64
  h_S_ : 0 < S_.numel
  bcast_S16384_S16384x1_0 : S16384.BroadcastsInDim S16384x1 (![0] : Fin 1 → Fin S16384x1.rank)
  bcast_S1x64_S16384x64_0_1 : S1x64.BroadcastsInDim S16384x64 (![0, 1] : Fin 2 → Fin S16384x64.rank)
  bcast_S16384x1_S16384x64_0_1 : S16384x1.BroadcastsInDim S16384x64 (![0, 1] : Fin 2 → Fin S16384x64.rank)
  natLt_1_32 : 1 < 32
  reducesTo_S16384x64_S16384_d1 : S16384x64.ReducesTo [1] S16384
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S2048x64 : S_.BroadcastsInDim S2048x64 (![] : Fin 0 → Fin S2048x64.rank)
  dot_S16384x2048_S16384x64_S2048x64_0_0_1_1_n_n_wf : DotDims.WF S16384x2048 S16384x64 S2048x64 [0] [0] [1] [1] [] []

variable [Facts]

def dot_S16384x2048_S16384x64_S2048x64_0_0_1_1_n_n : DotDims S16384x2048 S16384x64 S2048x64 where
  lhsContracting := [0]
  rhsContracting := [0]
  lhsNonContracting := [1]
  rhsNonContracting := [1]
  lhsBatch := []
  rhsBatch := []
  wf := dot_S16384x2048_S16384x64_S2048x64_0_0_1_1_n_n_wf
def fn_where {F : FTy → Type} [FloatOps F] (arg0 : IVec S64x64 1) (arg1 : IVec S64x1 32) (arg2 : IVec S_ 32) : IVec S64x64 32 :=
  let v0 : IVec S_ 32 := id arg2
  let v1 : IVec S64x64 32 := broadcastInDim S64x64 ![0, 1] bcast_S64x1_S64x64_0_1 arg1
  let v2 : IVec S64x64 32 := broadcastInDim S64x64 ![] bcast_S_S64x64 v0
  let v3 : IVec S64x64 32 := select arg0 v1 v2
  v3

def fn_part1 {F : FTy → Type} [FloatOps F] (main_arg5 : IVec S16384 32) (main_v0 : IVec S64x4096 1) (main_v18 : IVec S16384x1 32) (main_v19 : IVec S1x64 32) : IVec S2048x64 1 × IVec S64x4096 1 × IVec S2048x64 1 × IVec S64x4096 1 :=
  let main_v20 : IVec S16384x64 32 := broadcastInDim S16384x64 ![0, 1] bcast_S16384x1_S16384x64_0_1 main_v18
  let main_v21 : IVec S16384x64 32 := broadcastInDim S16384x64 ![0, 1] bcast_S1x64_S16384x64_0_1 main_v19
  let main_v22 : IVec S16384x64 1 := cmpi .eq main_v20 main_v21
  let main_v23 : FVec F S16384x64 .f32 := uitofp .f32 main_v22
  let main_v24 : IVec S16384x1 32 := broadcastInDim S16384x1 ![0] bcast_S16384_S16384x1_0 main_arg5
  let main_v25 : IVec S2048 32 := iotaInDim S2048 32 0
  let main_v26 : IVec S1x2048 32 := broadcastInDim S1x2048 ![1] bcast_S2048_S1x2048_1 main_v25
  let main_v27 : IVec S16384x2048 32 := broadcastInDim S16384x2048 ![0, 1] bcast_S16384x1_S16384x2048_0_1 main_v24
  let main_v28 : IVec S16384x2048 32 := broadcastInDim S16384x2048 ![0, 1] bcast_S1x2048_S16384x2048_0_1 main_v26
  let main_v29 : IVec S16384x2048 1 := cmpi .eq main_v27 main_v28
  let main_v30 : FVec F S16384x2048 .f32 := uitofp .f32 main_v29
  let main_v31 : FVec F S2048x64 .f32 := (fun l r => Host.dotGeneral dot_S16384x2048_S16384x64_S2048x64_0_0_1_1_n_n (some .fp32) l r) main_v30 main_v23
  let main_c_3 : IVec S_ 1 := constantI S_ 1 0#1
  let main_v32 : IVec S2048x64 1 := broadcastInDim S2048x64 ![] bcast_S_S2048x64 main_c_3
  let main_cst : FVec F S_ .f32 := constant S_ .f32 0x00000000#32
  let main_v33 : FVec F S2048x64 .f32 := broadcastInDim S2048x64 ![] bcast_S_S2048x64 main_cst
  let main_v34 : IVec S2048x64 1 := cmpf .oeq main_v31 main_v33
  (main_v32, main_v0, main_v34, main_v0)

def fn {F : FTy → Type} [FloatOps F] (main_arg0 : FVec F S2x1024x64 .f32) (main_arg1 : IVec S2x1024x4096 8) (main_arg2 : FVec F S2x1024 .f32) (main_arg3 : FVec F S16384x4096 .fp8e4m3) (main_arg4 : FVec F S16384 .f32) (main_arg5 : IVec S16384 32) (main_arg6 : IVec S64 32) (main_arg7 : FVec F S64x4096 .f32) : IVec S2048x64 1 × IVec S64x4096 1 × IVec S2048x64 1 × IVec S64x4096 1 :=
  let main_c : IVec S_ 1 := constantI S_ 1 1#1
  let main_v0 : IVec S64x4096 1 := broadcastInDim S64x4096 ![] bcast_S_S64x4096 main_c
  let main_v1 : IVec S64 32 := iotaInDim S64 32 0
  let main_v2 : IVec S64x1 32 := broadcastInDim S64x1 ![0] bcast_S64_S64x1_0 main_v1
  let main_v3 : IVec S1x64 32 := broadcastInDim S1x64 ![1] bcast_S64_S1x64_1 main_v1
  let main_v4 : IVec S64x64 32 := broadcastInDim S64x64 ![0, 1] bcast_S64x1_S64x64_0_1 main_v2
  let main_v5 : IVec S64x64 32 := broadcastInDim S64x64 ![0, 1] bcast_S1x64_S64x64_0_1 main_v3
  let main_v6 : IVec S64x64 1 := cmpi .sle main_v4 main_v5
  let main_v7 : IVec S64x1 32 := broadcastInDim S64x1 ![0] bcast_S64_S64x1_0 main_arg6
  let main_c_0 : IVec S_ 32 := constantI S_ 32 0#32
  let main_v8 : IVec S64x64 32 := fn_where (F := F) main_v6 main_v7 main_c_0
  let main_c_1 : IVec S_ 32 := constantI S_ 32 0#32
  let main_v9 : IVec S64 32 := (fun x v => Host.reduce IntOp.addi x v reducesTo_S64x64_S64_d0 h_S_) main_v8 main_c_1
  let main_v10 : IVec S16384 32 := iotaInDim S16384 32 0
  let main_v11 : IVec S1x64 32 := broadcastInDim S1x64 ![1] bcast_S64_S1x64_1 main_v9
  let main_v12 : IVec S16384x1 32 := broadcastInDim S16384x1 ![0] bcast_S16384_S16384x1_0 main_v10
  let main_v13 : IVec S16384x64 32 := broadcastInDim S16384x64 ![0, 1] bcast_S1x64_S16384x64_0_1 main_v11
  let main_v14 : IVec S16384x64 32 := broadcastInDim S16384x64 ![0, 1] bcast_S16384x1_S16384x64_0_1 main_v12
  let main_v15 : IVec S16384x64 1 := cmpi .sle main_v13 main_v14
  let main_v16 : IVec S16384x64 32 := (extui 32 · natLt_1_32) main_v15
  let main_c_2 : IVec S_ 32 := constantI S_ 32 0#32
  let main_v17 : IVec S16384 32 := (fun x v => Host.reduce IntOp.addi x v reducesTo_S16384x64_S16384_d1 h_S_) main_v16 main_c_2
  let main_v18 : IVec S16384x1 32 := broadcastInDim S16384x1 ![0] bcast_S16384_S16384x1_0 main_v17
  let main_v19 : IVec S1x64 32 := broadcastInDim S1x64 ![1] bcast_S64_S1x64_1 main_v1
  fn_part1 (F := F) main_arg5 main_v0 main_v18 main_v19
-- ==== Pre_routed.lean ====
abbrev S2x1024x64 : Shape := ⟨3, ![2, 1024, 64]⟩
abbrev S2x1024x4096 : Shape := ⟨3, ![2, 1024, 4096]⟩
abbrev S2x1024 : Shape := ⟨2, ![2, 1024]⟩
abbrev S16384x4096 : Shape := ⟨2, ![16384, 4096]⟩
abbrev S16384 : Shape := ⟨1, ![16384]⟩
abbrev S64 : Shape := ⟨1, ![64]⟩
abbrev S64x4096 : Shape := ⟨2, ![64, 4096]⟩
abbrev S_ : Shape := ⟨0, ![]⟩
abbrev S16384x1 : Shape := ⟨2, ![16384, 1]⟩
abbrev S1x64 : Shape := ⟨2, ![1, 64]⟩
abbrev S16384x64 : Shape := ⟨2, ![16384, 64]⟩

class Facts : Prop where
  bcast_S_S16384 : S_.BroadcastsInDim S16384 (![] : Fin 0 → Fin S16384.rank)
  bcast_S_S64 : S_.BroadcastsInDim S64 (![] : Fin 0 → Fin S64.rank)
  bcast_S16384_S16384x1_0 : S16384.BroadcastsInDim S16384x1 (![0] : Fin 1 → Fin S16384x1.rank)
  bcast_S64_S1x64_1 : S64.BroadcastsInDim S1x64 (![1] : Fin 1 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  reducesTo_S64_S_d0 : S64.ReducesTo [0] S_
  h_S_ : 0 < S_.numel
  bcast_S_S16384x64 : S_.BroadcastsInDim S16384x64 (![] : Fin 0 → Fin S16384x64.rank)

variable [Facts]

def fn_part1 {F : FTy → Type} [FloatOps F] (main_arg6 : IVec S64 32) (main_v18 : IVec S16384x64 1) : IVec S16384x64 1 :=
  let main_c_3 : IVec S_ 32 := constantI S_ 32 0#32
  let main_v19 : IVec S_ 32 := (fun x v => Host.reduce IntOp.addi x v reducesTo_S64_S_d0 h_S_) main_arg6 main_c_3
  let main_c_4 : IVec S_ 32 := constantI S_ 32 16384#32
  let main_v20 : IVec S_ 1 := cmpi .eq main_v19 main_c_4
  let main_v21 : IVec S16384x64 1 := broadcastInDim S16384x64 ![] bcast_S_S16384x64 main_v20
  let main_v22 : IVec S16384x64 1 := andi main_v18 main_v21
  main_v22

def fn {F : FTy → Type} [FloatOps F] (main_arg0 : FVec F S2x1024x64 .f32) (main_arg1 : IVec S2x1024x4096 8) (main_arg2 : FVec F S2x1024 .f32) (main_arg3 : FVec F S16384x4096 .fp8e4m3) (main_arg4 : FVec F S16384 .f32) (main_arg5 : IVec S16384 32) (main_arg6 : IVec S64 32) (main_arg7 : FVec F S64x4096 .f32) : IVec S16384x64 1 :=
  let main_c : IVec S_ 32 := constantI S_ 32 0#32
  let main_v0 : IVec S16384 32 := broadcastInDim S16384 ![] bcast_S_S16384 main_c
  let main_v1 : IVec S16384 1 := cmpi .sge main_arg5 main_v0
  let main_c_0 : IVec S_ 32 := constantI S_ 32 2048#32
  let main_v2 : IVec S16384 32 := broadcastInDim S16384 ![] bcast_S_S16384 main_c_0
  let main_v3 : IVec S16384 1 := cmpi .slt main_arg5 main_v2
  let main_v4 : IVec S16384 1 := andi main_v1 main_v3
  let main_v5 : FVec F S16384 .f32 := subf main_arg4 main_arg4
  let main_cst : FVec F S_ .f32 := constant S_ .f32 0x00000000#32
  let main_v6 : FVec F S16384 .f32 := broadcastInDim S16384 ![] bcast_S_S16384 main_cst
  let main_v7 : IVec S16384 1 := cmpf .oeq main_v5 main_v6
  let main_v8 : IVec S16384 1 := andi main_v4 main_v7
  let main_c_1 : IVec S_ 32 := constantI S_ 32 0#32
  let main_v9 : IVec S64 32 := broadcastInDim S64 ![] bcast_S_S64 main_c_1
  let main_v10 : IVec S64 1 := cmpi .sge main_arg6 main_v9
  let main_c_2 : IVec S_ 32 := constantI S_ 32 16384#32
  let main_v11 : IVec S64 32 := broadcastInDim S64 ![] bcast_S_S64 main_c_2
  let main_v12 : IVec S64 1 := cmpi .sle main_arg6 main_v11
  let main_v13 : IVec S64 1 := andi main_v10 main_v12
  let main_v14 : IVec S16384x1 1 := broadcastInDim S16384x1 ![0] bcast_S16384_S16384x1_0 main_v8
  let main_v15 : IVec S1x64 1 := broadcastInDim S1x64 ![1] bcast_S64_S1x64_1 main_v13
  let main_v16 : IVec S16384x64 1 := broadcastInDim S16384x64 ![0, 1] bcast_S16384x1_S16384x64_0_1 main_v14
  let main_v17 : IVec S16384x64 1 := broadcastInDim S16384x64 ![0, 1] bcast_S1x64_S16384x64_0_1 main_v15
  let main_v18 : IVec S16384x64 1 := andi main_v16 main_v17
  fn_part1 (F := F) main_arg6 main_v18
-- ==== Kernel.lean ====
abbrev S2x1024x64 : Shape := ⟨3, ![2, 1024, 64]⟩
abbrev S2x1024x4096 : Shape := ⟨3, ![2, 1024, 4096]⟩
abbrev S2x1024 : Shape := ⟨2, ![2, 1024]⟩
abbrev S16384x4096 : Shape := ⟨2, ![16384, 4096]⟩
abbrev S16384 : Shape := ⟨1, ![16384]⟩
abbrev S64 : Shape := ⟨1, ![64]⟩
abbrev S64x4096 : Shape := ⟨2, ![64, 4096]⟩
abbrev S2048x4096 : Shape := ⟨2, ![2048, 4096]⟩
abbrev S1x16384 : Shape := ⟨2, ![1, 16384]⟩
abbrev S2048x64 : Shape := ⟨2, ![2048, 64]⟩
abbrev S512x4096 : Shape := ⟨2, ![512, 4096]⟩
abbrev S1x512 : Shape := ⟨2, ![1, 512]⟩
abbrev S18432x128 : Shape := ⟨2, ![18432, 128]⟩
abbrev S256x256 : Shape := ⟨2, ![256, 256]⟩
abbrev S2064x128 : Shape := ⟨2, ![2064, 128]⟩
abbrev S64x128 : Shape := ⟨2, ![64, 128]⟩
abbrev S8x128 : Shape := ⟨2, ![8, 128]⟩
abbrev S1 : Shape := ⟨1, ![1]⟩
abbrev S1x128 : Shape := ⟨2, ![1, 128]⟩
abbrev S32x128 : Shape := ⟨2, ![32, 128]⟩
abbrev S8x512 : Shape := ⟨2, ![8, 512]⟩
abbrev S8x1 : Shape := ⟨2, ![8, 1]⟩
abbrev S32x512 : Shape := ⟨2, ![32, 512]⟩
abbrev S32x4096 : Shape := ⟨2, ![32, 4096]⟩
abbrev S8x4096 : Shape := ⟨2, ![8, 4096]⟩
abbrev S256x128 : Shape := ⟨2, ![256, 128]⟩
abbrev S16x128 : Shape := ⟨2, ![16, 128]⟩
abbrev S8 : Shape := ⟨1, ![8]⟩
abbrev S64x1 : Shape := ⟨2, ![64, 1]⟩
abbrev S128x4096 : Shape := ⟨2, ![128, 4096]⟩
abbrev S128x128 : Shape := ⟨2, ![128, 128]⟩
abbrev S128x64 : Shape := ⟨2, ![128, 64]⟩
abbrev S128x1 : Shape := ⟨2, ![128, 1]⟩
abbrev S128 : Shape := ⟨1, ![128]⟩

abbrev nBuf : Space → Nat
  | .hbm => 15
  | .vmem => 20
  | .smem => 4
  | _ => 0

abbrev bufTy : (tb : Table) → Fin (tcTables nBuf tb) → BufTy
  | .hbm, ⟨0, _⟩ => ⟨S2x1024x64, .f32⟩
  | .hbm, ⟨1, _⟩ => ⟨S2x1024x4096, .i8⟩
  | .hbm, ⟨2, _⟩ => ⟨S2x1024, .f32⟩
  | .hbm, ⟨3, _⟩ => ⟨S16384x4096, .fp8e4m3⟩
  | .hbm, ⟨4, _⟩ => ⟨S16384, .f32⟩
  | .hbm, ⟨5, _⟩ => ⟨S16384, .i32⟩
  | .hbm, ⟨6, _⟩ => ⟨S64, .i32⟩
  | .hbm, ⟨7, _⟩ => ⟨S64x4096, .f32⟩
  | .hbm, ⟨8, _⟩ => ⟨S2048x4096, .i8⟩
  | .hbm, ⟨9, _⟩ => ⟨S1x16384, .f32⟩
  | .hbm, ⟨10, _⟩ => ⟨S2048x64, .f32⟩
  | .hbm, ⟨11, _⟩ => ⟨S2048x64, .f32⟩
  | .hbm, ⟨12, _⟩ => ⟨S64x4096, .f32⟩
  | .hbm, ⟨13, _⟩ => ⟨S2048x64, .f32⟩
  | .hbm, ⟨14, _⟩ => ⟨S64x4096, .f32⟩
  | .local _ .vmem, ⟨0, _⟩ => ⟨S2048x4096, .i8⟩
  | .local _ .vmem, ⟨1, _⟩ => ⟨S2x1024, .f32⟩
  | .local _ .vmem, ⟨2, _⟩ => ⟨S512x4096, .fp8e4m3⟩
  | .local _ .vmem, ⟨3, _⟩ => ⟨S512x4096, .fp8e4m3⟩
  | .local _ .vmem, ⟨4, _⟩ => ⟨S1x512, .f32⟩
  | .local _ .vmem, ⟨5, _⟩ => ⟨S1x512, .f32⟩
  | .local _ .vmem, ⟨6, _⟩ => ⟨S2048x64, .f32⟩
  | .local _ .vmem, ⟨7, _⟩ => ⟨S64x4096, .f32⟩
  | .local _ .vmem, ⟨8, _⟩ => ⟨S2048x64, .f32⟩
  | .local _ .vmem, ⟨9, _⟩ => ⟨S64x4096, .f32⟩
  | .local _ .vmem, ⟨10, _⟩ => ⟨S2048x64, .f32⟩
  | .local _ .vmem, ⟨11, _⟩ => ⟨S64x4096, .f32⟩
  | .local _ .vmem, ⟨12, _⟩ => ⟨S18432x128, .i32⟩
  | .local _ .vmem, ⟨13, _⟩ => ⟨S256x256, .fp8e5m2⟩
  | .local _ .vmem, ⟨14, _⟩ => ⟨S2064x128, .f32⟩
  | .local _ .vmem, ⟨15, _⟩ => ⟨S2064x128, .i32⟩
  | .local _ .vmem, ⟨16, _⟩ => ⟨S64x4096, .f32⟩
  | .local _ .vmem, ⟨17, _⟩ => ⟨S64x128, .i32⟩
  | .local _ .vmem, ⟨18, _⟩ => ⟨S64x128, .i32⟩
  | .local _ .vmem, ⟨19, _⟩ => ⟨S8x128, .i32⟩
  | .local _ .smem, ⟨0, _⟩ => ⟨S16384, .i32⟩
  | .local _ .smem, ⟨1, _⟩ => ⟨S64, .i32⟩
  | .local _ .smem, ⟨2, _⟩ => ⟨S64, .i32⟩
  | .local _ .smem, ⟨3, _⟩ => ⟨S1, .i32⟩
  | _, _ => ⟨S2x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_stg0_0 : Ref sig .tc := ⟨.smem, 0, rfl⟩
abbrev cc0_stg1_0 : Ref sig .tc := ⟨.smem, 1, rfl⟩
abbrev cc0_scratch8 : Ref sig .tc := ⟨.smem, 2, rfl⟩
abbrev cc0_scratch9 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_32 : BitVec 32 := 0#32
  let c64_i32 : BitVec 32 := 64#32
  let v84 : BitVec 32 := Scalar.addi c0_i32_32 c64_i32
  let c1_i32_33 : BitVec 32 := 1#32
  ⟨c0_i32_32, v84, c1_i32_33⟩
def k0_off1 (k0_t1 : Fin k0_t1_loop.trips) : Fin 1 → Nat :=
  let c0_i32_32 : BitVec 32 := 0#32
  let c1_i32_33 : BitVec 32 := 1#32
  let arg23 : BitVec 32 := Scf.iv c0_i32_32 c1_i32_33 k0_t1
  let v126 : Index := Scalar.indexCast arg23
  ![v126.toNat]
def k0_off2 (k0_t1 : Fin k0_t1_loop.trips) : Fin 2 → Nat :=
  let c0_i32_32 : BitVec 32 := 0#32
  let c1_i32_33 : BitVec 32 := 1#32
  let arg23 : BitVec 32 := Scf.iv c0_i32_32 c1_i32_33 k0_t1
  let v132 : Index := Scalar.indexCast arg23
  let c0_59 : Index := 0#32
  ![v132.toNat, 0]
@[reducible] def k0_t2_loop : Scf.Loop 32 :=
  let c0_i32_55 : BitVec 32 := 0#32
  let c64_i32_56 : BitVec 32 := 64#32
  let v125 : BitVec 32 := Scalar.addi c0_i32_55 c64_i32_56
  let c1_i32_57 : BitVec 32 := 1#32
  ⟨c0_i32_55, v125, c1_i32_57⟩
def k0_mult1 (k0_t2 : Fin k0_t2_loop.trips) : BitVec 32 :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  v126
def k0_off3 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v128 : Index := Scalar.indexCast v127
  let c0_59 : Index := 0#32
  ![v128.toNat, 0]
def k0_off4 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v132 : Index := Scalar.indexCast v127
  let c128 : Index := 128#32
  ![v132.toNat, 128]
def k0_off5 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v136 : Index := Scalar.indexCast v127
  let c256 : Index := 256#32
  ![v136.toNat, 256]
def k0_off6 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v140 : Index := Scalar.indexCast v127
  let c384 : Index := 384#32
  ![v140.toNat, 384]
def k0_off7 (k0_t2 : Fin k0_t2_loop.trips) (c0_i32_76 : BitVec 32) (c0_i32_77 : BitVec 32) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v192 : BitVec 32 := Scalar.addi v127 c0_i32_76
  let c9_i32 : BitVec 32 := 9#32
  let v193 : BitVec 32 := Scalar.muli v192 c9_i32
  let v194 : BitVec 32 := Scalar.addi v193 c0_i32_77
  let v195 : Index := Scalar.indexCast v194
  let c0_78 : Index := 0#32
  ![v195.toNat, 0]
def k0_off8 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v220 : Index := Scalar.indexCast v127
  let c512 : Index := 512#32
  ![v220.toNat, 512]
def k0_off9 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v224 : Index := Scalar.indexCast v127
  let c640 : Index := 640#32
  ![v224.toNat, 640]
def k0_off10 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v228 : Index := Scalar.indexCast v127
  let c768 : Index := 768#32
  ![v228.toNat, 768]
def k0_off11 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v232 : Index := Scalar.indexCast v127
  let c896 : Index := 896#32
  ![v232.toNat, 896]
def k0_off12 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v312 : Index := Scalar.indexCast v127
  let c1024 : Index := 1024#32
  ![v312.toNat, 1024]
def k0_off13 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v316 : Index := Scalar.indexCast v127
  let c1152 : Index := 1152#32
  ![v316.toNat, 1152]
def k0_off14 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v320 : Index := Scalar.indexCast v127
  let c1280 : Index := 1280#32
  ![v320.toNat, 1280]
def k0_off15 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v324 : Index := Scalar.indexCast v127
  let c1408 : Index := 1408#32
  ![v324.toNat, 1408]
def k0_off16 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v404 : Index := Scalar.indexCast v127
  let c1536 : Index := 1536#32
  ![v404.toNat, 1536]
def k0_off17 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v408 : Index := Scalar.indexCast v127
  let c1664 : Index := 1664#32
  ![v408.toNat, 1664]
def k0_off18 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v412 : Index := Scalar.indexCast v127
  let c1792 : Index := 1792#32
  ![v412.toNat, 1792]
def k0_off19 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v416 : Index := Scalar.indexCast v127
  let c1920 : Index := 1920#32
  ![v416.toNat, 1920]
def k0_off20 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v496 : Index := Scalar.indexCast v127
  let c2048 : Index := 2048#32
  ![v496.toNat, 2048]
def k0_off21 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v500 : Index := Scalar.indexCast v127
  let c2176 : Index := 2176#32
  ![v500.toNat, 2176]
def k0_off22 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v504 : Index := Scalar.indexCast v127
  let c2304 : Index := 2304#32
  ![v504.toNat, 2304]
def k0_off23 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v508 : Index := Scalar.indexCast v127
  let c2432 : Index := 2432#32
  ![v508.toNat, 2432]
def k0_off24 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v588 : Index := Scalar.indexCast v127
  let c2560 : Index := 2560#32
  ![v588.toNat, 2560]
def k0_off25 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v592 : Index := Scalar.indexCast v127
  let c2688 : Index := 2688#32
  ![v592.toNat, 2688]
def k0_off26 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v596 : Index := Scalar.indexCast v127
  let c2816 : Index := 2816#32
  ![v596.toNat, 2816]
def k0_off27 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v600 : Index := Scalar.indexCast v127
  let c2944 : Index := 2944#32
  ![v600.toNat, 2944]
def k0_off28 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v680 : Index := Scalar.indexCast v127
  let c3072 : Index := 3072#32
  ![v680.toNat, 3072]
def k0_off29 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v684 : Index := Scalar.indexCast v127
  let c3200 : Index := 3200#32
  ![v684.toNat, 3200]
def k0_off30 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v688 : Index := Scalar.indexCast v127
  let c3328 : Index := 3328#32
  ![v688.toNat, 3328]
def k0_off31 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v692 : Index := Scalar.indexCast v127
  let c3456 : Index := 3456#32
  ![v692.toNat, 3456]
def k0_off32 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v772 : Index := Scalar.indexCast v127
  let c3584 : Index := 3584#32
  ![v772.toNat, 3584]
def k0_off33 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v776 : Index := Scalar.indexCast v127
  let c3712 : Index := 3712#32
  ![v776.toNat, 3712]
def k0_off34 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v780 : Index := Scalar.indexCast v127
  let c3840 : Index := 3840#32
  ![v780.toNat, 3840]
def k0_off35 (k0_t2 : Fin k0_t2_loop.trips) : Fin 2 → Nat :=
  let c0_i32_55 : BitVec 32 := 0#32
  let c1_i32_57 : BitVec 32 := 1#32
  let arg23 : BitVec 32 := Scf.iv c0_i32_55 c1_i32_57 k0_t2
  let c32_i32 : BitVec 32 := 32#32
  let v126 : BitVec 32 := Scalar.muli arg23 c32_i32
  let v127 : BitVec 32 := v126
  let v784 : Index := Scalar.indexCast v127
  let c3968 : Index := 3968#32
  ![v784.toNat, 3968]
def k0_off36 (arg23 : BitVec 32) : Fin 1 → Nat :=
  let v82 : Index := Scalar.indexCast arg23
  ![v82.toNat]

def k0_chk1 (arg23 : BitVec 32) : Prop :=
  (∀ a, (k0_off36 arg23) a + S1.size a ≤ S64.size a)
theorem k0_off36_inb : ∀ (arg23 : BitVec 32) (k0_hw1 : k0_chk1 arg23), ∀ a, (k0_off36 arg23) a + S1.size a ≤ S64.size a := fun arg23 k0_hw1 => k0_hw1

def k0_off37 (arg23 : BitVec 32) : Fin 1 → Nat :=
  let v82 : Index := Scalar.indexCast arg23
  ![v82.toNat]

def k0_chk2 (arg23 : BitVec 32) : Prop :=
  (∀ a, (k0_off37 arg23) a + S1.size a ≤ S64.size a)
theorem k0_off37_inb : ∀ (arg23 : BitVec 32) (k0_hw2 : k0_chk2 arg23), ∀ a, (k0_off37 arg23) a + S1.size a ≤ S64.size a := fun arg23 k0_hw2 => k0_hw2

def k0_mult2 (v5 : BitVec 32) : BitVec 32 :=
  let c3_i32 : BitVec 32 := 3#32
  let v9 : BitVec 32 := Scalar.shrui v5 c3_i32
  let c8_i32 : BitVec 32 := 8#32
  let v25 : BitVec 32 := Scalar.muli v9 c8_i32
  v25

def k0_off38 (v5 : BitVec 32) : Fin 2 → Nat :=
  let c3_i32 : BitVec 32 := 3#32
  let v9 : BitVec 32 := Scalar.shrui v5 c3_i32
  let c8_i32 : BitVec 32 := 8#32
  let v25 : BitVec 32 := Scalar.muli v9 c8_i32
  let v26 : BitVec 32 := v25
  let v27 : Index := Scalar.indexCast v26
  let c0_5 : Index := 0#32
  ![v27.toNat, 0]
def k0_off39 (v5 : BitVec 32) : Fin 2 → Nat :=
  let c3_i32 : BitVec 32 := 3#32
  let v9 : BitVec 32 := Scalar.shrui v5 c3_i32
  let c8_i32 : BitVec 32 := 8#32
  let v25 : BitVec 32 := Scalar.muli v9 c8_i32
  let v26 : BitVec 32 := v25
  let v50 : Index := Scalar.indexCast v26
  let c0_10 : Index := 0#32
  ![v50.toNat, 0]

def k0_chk3 (v5 : BitVec 32) : Prop :=
  (8 ∣ (k0_mult2 v5).toNat) ∧
  (∀ a, (k0_off38 v5) a + S8x1.size a ≤ S64x128.size a) ∧
  (∀ a, (k0_off39 v5) a + S8x4096.size a ≤ S64x4096.size a)
theorem k0_mult2_dvd : ∀ (v5 : BitVec 32) (k0_hw3 : k0_chk3 v5), 8 ∣ (k0_mult2 v5).toNat := fun v5 k0_hw3 => k0_hw3.1
theorem k0_off38_inb : ∀ (v5 : BitVec 32) (k0_hw3 : k0_chk3 v5), ∀ a, (k0_off38 v5) a + S8x1.size a ≤ S64x128.size a := fun v5 k0_hw3 => k0_hw3.2.1
theorem k0_off39_inb : ∀ (v5 : BitVec 32) (k0_hw3 : k0_chk3 v5), ∀ a, (k0_off39 v5) a + S8x4096.size a ≤ S64x4096.size a := fun v5 k0_hw3 => k0_hw3.2.2

@[reducible] def k0_t3_loop (v5 : BitVec 32) (v7 : BitVec 32) : Scf.Loop 32 :=
  let c0_i32_17 : BitVec 32 := 0#32
  let c3_i32_2 : BitVec 32 := 3#32
  let v10 : BitVec 32 := Scalar.shrui v7 c3_i32_2
  let c1_i32_12 : BitVec 32 := 1#32
  let v63 : BitVec 32 := Scalar.addi v10 c1_i32_12
  let c3_i32 : BitVec 32 := 3#32
  let v9 : BitVec 32 := Scalar.shrui v5 c3_i32
  let c1_i32 : BitVec 32 := 1#32
  let v62 : BitVec 32 := Scalar.addi v9 c1_i32
  let v64 : BitVec 32 := Scalar.subi v63 v62
  let c1_i32_13 : BitVec 32 := 1#32
  let c1_i32_14 : BitVec 32 := 1#32
  let v65 : BitVec 32 := Scalar.subi c1_i32_13 c1_i32_14
  let v66 : BitVec 32 := Scalar.addi v64 v65
  let c1_i32_15 : BitVec 32 := 1#32
  let v67 : BitVec 32 := Scalar.divsi v66 c1_i32_15
  let v68 : BitVec 32 := Scalar.subi v67 c0_i32_17
  let c1_i32_18 : BitVec 32 := 1#32
  let v70 : BitVec 32 := Scalar.divsi v68 c1_i32_18
  let v71 : BitVec 32 := Scalar.muli v70 c1_i32_18
  let v72 : BitVec 32 := Scalar.addi c0_i32_17 v71
  let c1_i32_19 : BitVec 32 := 1#32
  ⟨c0_i32_17, v72, c1_i32_19⟩

def k0_mult3 (v5 : BitVec 32) (v7 : BitVec 32) (k0_t3 : Fin (k0_t3_loop v5 v7).trips) : BitVec 32 :=
  let c3_i32 : BitVec 32 := 3#32
  let v9 : BitVec 32 := Scalar.shrui v5 c3_i32
  let c1_i32 : BitVec 32 := 1#32
  let v62 : BitVec 32 := Scalar.addi v9 c1_i32
  let c0_i32_17 : BitVec 32 := 0#32
  let c1_i32_19 : BitVec 32 := 1#32
  let arg23 : BitVec 32 := Scf.iv c0_i32_17 c1_i32_19 k0_t3
  let c1_i32_16 : BitVec 32 := 1#32
  let v82 : BitVec 32 := Scalar.muli arg23 c1_i32_16
  let v83 : BitVec 32 := Scalar.addi v62 v82
  let c8_i32_30 : BitVec 32 := 8#32
  let v84 : BitVec 32 := Scalar.muli v83 c8_i32_30
  v84
def k0_off40 (v5 : BitVec 32) (v7 : BitVec 32) (k0_t3 : Fin (k0_t3_loop v5 v7).trips) : Fin 2 → Nat :=
  let c3_i32 : BitVec 32 := 3#32
  let v9 : BitVec 32 := Scalar.shrui v5 c3_i32
  let c1_i32 : BitVec 32 := 1#32
  let v62 : BitVec 32 := Scalar.addi v9 c1_i32
  let c0_i32_17 : BitVec 32 := 0#32
  let c1_i32_19 : BitVec 32 := 1#32
  let arg23 : BitVec 32 := Scf.iv c0_i32_17 c1_i32_19 k0_t3
  let c1_i32_16 : BitVec 32 := 1#32
  let v82 : BitVec 32 := Scalar.muli arg23 c1_i32_16
  let v83 : BitVec 32 := Scalar.addi v62 v82
  let c8_i32_30 : BitVec 32 := 8#32
  let v84 : BitVec 32 := Scalar.muli v83 c8_i32_30
  let v85 : BitVec 32 := v84
  let v86 : Index := Scalar.indexCast v85
  let c0_31 : Index := 0#32
  ![v86.toNat, 0]
def k0_off41 (v5 : BitVec 32) (v7 : BitVec 32) (k0_t3 : Fin (k0_t3_loop v5 v7).trips) : Fin 2 → Nat :=
  let c3_i32 : BitVec 32 := 3#32
  let v9 : BitVec 32 := Scalar.shrui v5 c3_i32
  let c1_i32 : BitVec 32 := 1#32
  let v62 : BitVec 32 := Scalar.addi v9 c1_i32
  let c0_i32_17 : BitVec 32 := 0#32
  let c1_i32_19 : BitVec 32 := 1#32
  let arg23 : BitVec 32 := Scf.iv c0_i32_17 c1_i32_19 k0_t3
  let c1_i32_16 : BitVec 32 := 1#32
  let v82 : BitVec 32 := Scalar.muli arg23 c1_i32_16
  let v83 : BitVec 32 := Scalar.addi v62 v82
  let c8_i32_30 : BitVec 32 := 8#32
  let v84 : BitVec 32 := Scalar.muli v83 c8_i32_30
  let v85 : BitVec 32 := v84
  let v109 : Index := Scalar.indexCast v85
  let c0_37 : Index := 0#32
  ![v109.toNat, 0]
@[reducible] def k0_t4_loop (v5 : BitVec 32) (v7 : BitVec 32) : Scf.Loop 32 :=
  let c0_i32_17 : BitVec 32 := 0#32
  let c3_i32_2 : BitVec 32 := 3#32
  let v10 : BitVec 32 := Scalar.shrui v7 c3_i32_2
  let c1_i32_12 : BitVec 32 := 1#32
  let v63 : BitVec 32 := Scalar.addi v10 c1_i32_12
  let c3_i32 : BitVec 32 := 3#32
  let v9 : BitVec 32 := Scalar.shrui v5 c3_i32
  let c1_i32 : BitVec 32 := 1#32
  let v62 : BitVec 32 := Scalar.addi v9 c1_i32
  let v64 : BitVec 32 := Scalar.subi v63 v62
  let c1_i32_13 : BitVec 32 := 1#32
  let c1_i32_14 : BitVec 32 := 1#32
  let v65 : BitVec 32 := Scalar.subi c1_i32_13 c1_i32_14
  let v66 : BitVec 32 := Scalar.addi v64 v65
  let c1_i32_15 : BitVec 32 := 1#32
  let v67 : BitVec 32 := Scalar.divsi v66 c1_i32_15
  let v68 : BitVec 32 := Scalar.subi v67 c0_i32_17
  let c1_i32_18 : BitVec 32 := 1#32
  let v70 : BitVec 32 := Scalar.divsi v68 c1_i32_18
  let v71 : BitVec 32 := Scalar.muli v70 c1_i32_18
  let v72 : BitVec 32 := Scalar.addi c0_i32_17 v71
  let v69 : BitVec 32 := Scalar.addi c0_i32_17 v68
  let c1_i32_20 : BitVec 32 := 1#32
  ⟨v72, v69, c1_i32_20⟩
def k0_mult4 (v5 : BitVec 32) (v7 : BitVec 32) (k0_t4 : Fin (k0_t4_loop v5 v7).trips) : BitVec 32 :=
  let c3_i32 : BitVec 32 := 3#32
  let v9 : BitVec 32 := Scalar.shrui v5 c3_i32
  let c1_i32 : BitVec 32 := 1#32
  let v62 : BitVec 32 := Scalar.addi v9 c1_i32
  let c0_i32_17 : BitVec 32 := 0#32
  let c3_i32_2 : BitVec 32 := 3#32
  let v10 : BitVec 32 := Scalar.shrui v7 c3_i32_2
  let c1_i32_12 : BitVec 32 := 1#32
  let v63 : BitVec 32 := Scalar.addi v10 c1_i32_12
  let v64 : BitVec 32 := Scalar.subi v63 v62
  let c1_i32_13 : BitVec 32 := 1#32
  let c1_i32_14 : BitVec 32 := 1#32
  let v65 : BitVec 32 := Scalar.subi c1_i32_13 c1_i32_14
  let v66 : BitVec 32 := Scalar.addi v64 v65
  let c1_i32_15 : BitVec 32 := 1#32
  let v67 : BitVec 32 := Scalar.divsi v66 c1_i32_15
  let v68 : BitVec 32 := Scalar.subi v67 c0_i32_17
  let c1_i32_18 : BitVec 32 := 1#32
  let v70 : BitVec 32 := Scalar.divsi v68 c1_i32_18
  let v71 : BitVec 32 := Scalar.muli v70 c1_i32_18
  let v72 : BitVec 32 := Scalar.addi c0_i32_17 v71
  let c1_i32_20 : BitVec 32 := 1#32
  let arg23 : BitVec 32 := Scf.iv v72 c1_i32_20 k0_t4
  let c1_i32_16 : BitVec 32 := 1#32
  let v82 : BitVec 32 := Scalar.muli arg23 c1_i32_16
  let v83 : BitVec 32 := Scalar.addi v62 v82
  let c8_i32_30 : BitVec 32 := 8#32
  let v84 : BitVec 32 := Scalar.muli v83 c8_i32_30
  v84
def k0_off42 (v5 : BitVec 32) (v7 : BitVec 32) (k0_t4 : Fin (k0_t4_loop v5 v7).trips) : Fin 2 → Nat :=
  let c3_i32 : BitVec 32 := 3#32
  let v9 : BitVec 32 := Scalar.shrui v5 c3_i32
  let c1_i32 : BitVec 32 := 1#32
  let v62 : BitVec 32 := Scalar.addi v9 c1_i32
  let c0_i32_17 : BitVec 32 := 0#32
  let c3_i32_2 : BitVec 32 := 3#32
  let v10 : BitVec 32 := Scalar.shrui v7 c3_i32_2
  let c1_i32_12 : BitVec 32 := 1#32
  let v63 : BitVec 32 := Scalar.addi v10 c1_i32_12
  let v64 : BitVec 32 := Scalar.subi v63 v62
  let c1_i32_13 : BitVec 32 := 1#32
  let c1_i32_14 : BitVec 32 := 1#32
  let v65 : BitVec 32 := Scalar.subi c1_i32_13 c1_i32_14
  let v66 : BitVec 32 := Scalar.addi v64 v65
  let c1_i32_15 : BitVec 32 := 1#32
  let v67 : BitVec 32 := Scalar.divsi v66 c1_i32_15
  let v68 : BitVec 32 := Scalar.subi v67 c0_i32_17
  let c1_i32_18 : BitVec 32 := 1#32
  let v70 : BitVec 32 := Scalar.divsi v68 c1_i32_18
  let v71 : BitVec 32 := Scalar.muli v70 c1_i32_18
  let v72 : BitVec 32 := Scalar.addi c0_i32_17 v71
  let c1_i32_20 : BitVec 32 := 1#32
  let arg23 : BitVec 32 := Scf.iv v72 c1_i32_20 k0_t4
  let c1_i32_16 : BitVec 32 := 1#32
  let v82 : BitVec 32 := Scalar.muli arg23 c1_i32_16
  let v83 : BitVec 32 := Scalar.addi v62 v82
  let c8_i32_30 : BitVec 32 := 8#32
  let v84 : BitVec 32 := Scalar.muli v83 c8_i32_30
  let v85 : BitVec 32 := v84
  let v86 : Index := Scalar.indexCast v85
  let c0_31 : Index := 0#32
  ![v86.toNat, 0]
def k0_off43 (v5 : BitVec 32) (v7 : BitVec 32) (k0_t4 : Fin (k0_t4_loop v5 v7).trips) : Fin 2 → Nat :=
  let c3_i32 : BitVec 32 := 3#32
  let v9 : BitVec 32 := Scalar.shrui v5 c3_i32
  let c1_i32 : BitVec 32 := 1#32
  let v62 : BitVec 32 := Scalar.addi v9 c1_i32
  let c0_i32_17 : BitVec 32 := 0#32
  let c3_i32_2 : BitVec 32 := 3#32
  let v10 : BitVec 32 := Scalar.shrui v7 c3_i32_2
  let c1_i32_12 : BitVec 32 := 1#32
  let v63 : BitVec 32 := Scalar.addi v10 c1_i32_12
  let v64 : BitVec 32 := Scalar.subi v63 v62
  let c1_i32_13 : BitVec 32 := 1#32
  let c1_i32_14 : BitVec 32 := 1#32
  let v65 : BitVec 32 := Scalar.subi c1_i32_13 c1_i32_14
  let v66 : BitVec 32 := Scalar.addi v64 v65
  let c1_i32_15 : BitVec 32 := 1#32
  let v67 : BitVec 32 := Scalar.divsi v66 c1_i32_15
  let v68 : BitVec 32 := Scalar.subi v67 c0_i32_17
  let c1_i32_18 : BitVec 32 := 1#32
  let v70 : BitVec 32 := Scalar.divsi v68 c1_i32_18
  let v71 : BitVec 32 := Scalar.muli v70 c1_i32_18
  let v72 : BitVec 32 := Scalar.addi c0_i32_17 v71
  let c1_i32_20 : BitVec 32 := 1#32
  let arg23 : BitVec 32 := Scf.iv v72 c1_i32_20 k0_t4
  let c1_i32_16 : BitVec 32 := 1#32
  let v82 : BitVec 32 := Scalar.muli arg23 c1_i32_16
  let v83 : BitVec 32 := Scalar.addi v62 v82
  let c8_i32_30 : BitVec 32 := 8#32
  let v84 : BitVec 32 := Scalar.muli v83 c8_i32_30
  let v85 : BitVec 32 := v84
  let v109 : Index := Scalar.indexCast v85
  let c0_37 : Index := 0#32
  ![v109.toNat, 0]

def k0_chk4 (v5 : BitVec 32) (v7 : BitVec 32) : Prop :=
  ((k0_t3_loop v5 v7).OK) ∧
  (∀ k0_t3 : Fin (k0_t3_loop v5 v7).trips, 8 ∣ (k0_mult3 v5 v7 k0_t3).toNat) ∧
  (∀ k0_t3 : Fin (k0_t3_loop v5 v7).trips, ∀ a, (k0_off40 v5 v7 k0_t3) a + S8x1.size a ≤ S64x128.size a) ∧
  (∀ k0_t3 : Fin (k0_t3_loop v5 v7).trips, ∀ a, (k0_off41 v5 v7 k0_t3) a + S8x4096.size a ≤ S64x4096.size a) ∧
  ((k0_t4_loop v5 v7).OK) ∧
  (∀ k0_t4 : Fin (k0_t4_loop v5 v7).trips, 8 ∣ (k0_mult4 v5 v7 k0_t4).toNat) ∧
  (∀ k0_t4 : Fin (k0_t4_loop v5 v7).trips, ∀ a, (k0_off42 v5 v7 k0_t4) a + S8x1.size a ≤ S64x128.size a) ∧
  (∀ k0_t4 : Fin (k0_t4_loop v5 v7).trips, ∀ a, (k0_off43 v5 v7 k0_t4) a + S8x4096.size a ≤ S64x4096.size a)
theorem k0_t3_ok : ∀ (v5 : BitVec 32) (v7 : BitVec 32) (k0_hw4 : k0_chk4 v5 v7), (k0_t3_loop v5 v7).OK := fun v5 v7 k0_hw4 => k0_hw4.1
theorem k0_mult3_dvd : ∀ (v5 : BitVec 32) (v7 : BitVec 32) (k0_hw4 : k0_chk4 v5 v7) (k0_t3 : Fin (k0_t3_loop v5 v7).trips), 8 ∣ (k0_mult3 v5 v7 k0_t3).toNat := fun v5 v7 k0_hw4 k0_t3 => k0_hw4.2.1 k0_t3
theorem k0_off40_inb : ∀ (v5 : BitVec 32) (v7 : BitVec 32) (k0_hw4 : k0_chk4 v5 v7) (k0_t3 : Fin (k0_t3_loop v5 v7).trips), ∀ a, (k0_off40 v5 v7 k0_t3) a + S8x1.size a ≤ S64x128.size a := fun v5 v7 k0_hw4 k0_t3 => k0_hw4.2.2.1 k0_t3
theorem k0_off41_inb : ∀ (v5 : BitVec 32) (v7 : BitVec 32) (k0_hw4 : k0_chk4 v5 v7) (k0_t3 : Fin (k0_t3_loop v5 v7).trips), ∀ a, (k0_off41 v5 v7 k0_t3) a + S8x4096.size a ≤ S64x4096.size a := fun v5 v7 k0_hw4 k0_t3 => k0_hw4.2.2.2.1 k0_t3
theorem k0_t4_ok : ∀ (v5 : BitVec 32) (v7 : BitVec 32) (k0_hw4 : k0_chk4 v5 v7), (k0_t4_loop v5 v7).OK := fun v5 v7 k0_hw4 => k0_hw4.2.2.2.2.1
theorem k0_mult4_dvd : ∀ (v5 : BitVec 32) (v7 : BitVec 32) (k0_hw4 : k0_chk4 v5 v7) (k0_t4 : Fin (k0_t4_loop v5 v7).trips), 8 ∣ (k0_mult4 v5 v7 k0_t4).toNat := fun v5 v7 k0_hw4 k0_t4 => k0_hw4.2.2.2.2.2.1 k0_t4
theorem k0_off42_inb : ∀ (v5 : BitVec 32) (v7 : BitVec 32) (k0_hw4 : k0_chk4 v5 v7) (k0_t4 : Fin (k0_t4_loop v5 v7).trips), ∀ a, (k0_off42 v5 v7 k0_t4) a + S8x1.size a ≤ S64x128.size a := fun v5 v7 k0_hw4 k0_t4 => k0_hw4.2.2.2.2.2.2.1 k0_t4
theorem k0_off43_inb : ∀ (v5 : BitVec 32) (v7 : BitVec 32) (k0_hw4 : k0_chk4 v5 v7) (k0_t4 : Fin (k0_t4_loop v5 v7).trips), ∀ a, (k0_off43 v5 v7 k0_t4) a + S8x4096.size a ≤ S64x4096.size a := fun v5 v7 k0_hw4 k0_t4 => k0_hw4.2.2.2.2.2.2.2 k0_t4

@[reducible] def k0_t5_loop : Scf.Loop 32 :=
  let c0_i32_26 : BitVec 32 := 0#32
  let c16_i32 : BitVec 32 := 16#32
  let v78 : BitVec 32 := Scalar.addi c0_i32_26 c16_i32
  let c1_i32_27 : BitVec 32 := 1#32
  ⟨c0_i32_26, v78, c1_i32_27⟩
def k0_mult5 (k0_t5 : Fin k0_t5_loop.trips) : BitVec 32 :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  v84
def k0_off44 (i : grid0.Coords) (k0_t5 : Fin k0_t5_loop.trips) (c0_i32_33 : BitVec 32) : Fin 1 → Nat :=
  let arg0 : BitVec 32 := BitVec.ofNat 32 (i 0).val
  let c512_i32 : BitVec 32 := 512#32
  let v3 : BitVec 32 := Scalar.muli arg0 c512_i32
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let c0_i32_32 : BitVec 32 := 0#32
  let v86 : BitVec 32 := Scalar.addi v85 c0_i32_32
  let v87 : BitVec 32 := Scalar.addi v3 v86
  let v88 : BitVec 32 := Scalar.addi v87 c0_i32_33
  let v89 : Index := Scalar.indexCast v88
  ![v89.toNat]
def k0_off45 (v90 : BitVec 32) : Fin 2 → Nat :=
  let c9_i32_37 : BitVec 32 := 9#32
  let v151 : BitVec 32 := Scalar.muli v90 c9_i32_37
  let v152 : Index := Scalar.indexCast v151
  let c0_38 : Index := 0#32
  ![v152.toNat, 0]

def k0_off46 (v94 : BitVec 32) : Fin 2 → Nat :=
  let c9_i32_39 : BitVec 32 := 9#32
  let v155 : BitVec 32 := Scalar.muli v94 c9_i32_39
  let v156 : Index := Scalar.indexCast v155
  let c0_40 : Index := 0#32
  ![v156.toNat, 0]

def k0_off47 (v98 : BitVec 32) : Fin 2 → Nat :=
  let c9_i32_41 : BitVec 32 := 9#32
  let v159 : BitVec 32 := Scalar.muli v98 c9_i32_41
  let v160 : Index := Scalar.indexCast v159
  let c0_42 : Index := 0#32
  ![v160.toNat, 0]

def k0_off48 (v102 : BitVec 32) : Fin 2 → Nat :=
  let c9_i32_43 : BitVec 32 := 9#32
  let v163 : BitVec 32 := Scalar.muli v102 c9_i32_43
  let v164 : Index := Scalar.indexCast v163
  let c0_44 : Index := 0#32
  ![v164.toNat, 0]

def k0_off49 (v106 : BitVec 32) : Fin 2 → Nat :=
  let c9_i32_45 : BitVec 32 := 9#32
  let v167 : BitVec 32 := Scalar.muli v106 c9_i32_45
  let v168 : Index := Scalar.indexCast v167
  let c0_46 : Index := 0#32
  ![v168.toNat, 0]

def k0_off50 (v110 : BitVec 32) : Fin 2 → Nat :=
  let c9_i32_47 : BitVec 32 := 9#32
  let v171 : BitVec 32 := Scalar.muli v110 c9_i32_47
  let v172 : Index := Scalar.indexCast v171
  let c0_48 : Index := 0#32
  ![v172.toNat, 0]

def k0_off51 (v114 : BitVec 32) : Fin 2 → Nat :=
  let c9_i32_49 : BitVec 32 := 9#32
  let v175 : BitVec 32 := Scalar.muli v114 c9_i32_49
  let v176 : Index := Scalar.indexCast v175
  let c0_50 : Index := 0#32
  ![v176.toNat, 0]

def k0_off52 (v118 : BitVec 32) : Fin 2 → Nat :=
  let c9_i32_51 : BitVec 32 := 9#32
  let v179 : BitVec 32 := Scalar.muli v118 c9_i32_51
  let v180 : Index := Scalar.indexCast v179
  let c0_52 : Index := 0#32
  ![v180.toNat, 0]

def k0_off53 (v122 : BitVec 32) : Fin 2 → Nat :=
  let c9_i32_53 : BitVec 32 := 9#32
  let v183 : BitVec 32 := Scalar.muli v122 c9_i32_53
  let v184 : Index := Scalar.indexCast v183
  let c0_54 : Index := 0#32
  ![v184.toNat, 0]

def k0_off54 (v126 : BitVec 32) : Fin 2 → Nat :=
  let c9_i32_55 : BitVec 32 := 9#32
  let v187 : BitVec 32 := Scalar.muli v126 c9_i32_55
  let v188 : Index := Scalar.indexCast v187
  let c0_56 : Index := 0#32
  ![v188.toNat, 0]

def k0_off55 (v130 : BitVec 32) : Fin 2 → Nat :=
  let c9_i32_57 : BitVec 32 := 9#32
  let v191 : BitVec 32 := Scalar.muli v130 c9_i32_57
  let v192 : Index := Scalar.indexCast v191
  let c0_58 : Index := 0#32
  ![v192.toNat, 0]

def k0_off56 (v134 : BitVec 32) : Fin 2 → Nat :=
  let c9_i32_59 : BitVec 32 := 9#32
  let v195 : BitVec 32 := Scalar.muli v134 c9_i32_59
  let v196 : Index := Scalar.indexCast v195
  let c0_60 : Index := 0#32
  ![v196.toNat, 0]

def k0_off57 (v138 : BitVec 32) : Fin 2 → Nat :=
  let c9_i32_61 : BitVec 32 := 9#32
  let v199 : BitVec 32 := Scalar.muli v138 c9_i32_61
  let v200 : Index := Scalar.indexCast v199
  let c0_62 : Index := 0#32
  ![v200.toNat, 0]

def k0_off58 (v142 : BitVec 32) : Fin 2 → Nat :=
  let c9_i32_63 : BitVec 32 := 9#32
  let v203 : BitVec 32 := Scalar.muli v142 c9_i32_63
  let v204 : Index := Scalar.indexCast v203
  let c0_64 : Index := 0#32
  ![v204.toNat, 0]

def k0_off59 (v146 : BitVec 32) : Fin 2 → Nat :=
  let c9_i32_65 : BitVec 32 := 9#32
  let v207 : BitVec 32 := Scalar.muli v146 c9_i32_65
  let v208 : Index := Scalar.indexCast v207
  let c0_66 : Index := 0#32
  ![v208.toNat, 0]

def k0_off60 (v150 : BitVec 32) : Fin 2 → Nat :=
  let c9_i32_67 : BitVec 32 := 9#32
  let v211 : BitVec 32 := Scalar.muli v150 c9_i32_67
  let v212 : Index := Scalar.indexCast v211
  let c0_68 : Index := 0#32
  ![v212.toNat, 0]

def k0_off61 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v223 : Index := Scalar.indexCast v85
  let c0_70 : Index := 0#32
  ![v223.toNat, 0]
def k0_off62 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v234 : Index := Scalar.indexCast v85
  let c128 : Index := 128#32
  ![v234.toNat, 128]
def k0_off63 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v246 : Index := Scalar.indexCast v85
  let c256 : Index := 256#32
  ![v246.toNat, 256]
def k0_off64 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v258 : Index := Scalar.indexCast v85
  let c384 : Index := 384#32
  ![v258.toNat, 384]
def k0_off65 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v270 : Index := Scalar.indexCast v85
  let c512 : Index := 512#32
  ![v270.toNat, 512]
def k0_off66 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v282 : Index := Scalar.indexCast v85
  let c640 : Index := 640#32
  ![v282.toNat, 640]
def k0_off67 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v294 : Index := Scalar.indexCast v85
  let c768 : Index := 768#32
  ![v294.toNat, 768]
def k0_off68 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v306 : Index := Scalar.indexCast v85
  let c896 : Index := 896#32
  ![v306.toNat, 896]
def k0_off69 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v318 : Index := Scalar.indexCast v85
  let c1024 : Index := 1024#32
  ![v318.toNat, 1024]
def k0_off70 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v330 : Index := Scalar.indexCast v85
  let c1152 : Index := 1152#32
  ![v330.toNat, 1152]
def k0_off71 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v342 : Index := Scalar.indexCast v85
  let c1280 : Index := 1280#32
  ![v342.toNat, 1280]
def k0_off72 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v354 : Index := Scalar.indexCast v85
  let c1408 : Index := 1408#32
  ![v354.toNat, 1408]
def k0_off73 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v366 : Index := Scalar.indexCast v85
  let c1536 : Index := 1536#32
  ![v366.toNat, 1536]
def k0_off74 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v378 : Index := Scalar.indexCast v85
  let c1664 : Index := 1664#32
  ![v378.toNat, 1664]
def k0_off75 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v390 : Index := Scalar.indexCast v85
  let c1792 : Index := 1792#32
  ![v390.toNat, 1792]
def k0_off76 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v402 : Index := Scalar.indexCast v85
  let c1920 : Index := 1920#32
  ![v402.toNat, 1920]
def k0_off77 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v414 : Index := Scalar.indexCast v85
  let c2048 : Index := 2048#32
  ![v414.toNat, 2048]
def k0_off78 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v426 : Index := Scalar.indexCast v85
  let c2176 : Index := 2176#32
  ![v426.toNat, 2176]
def k0_off79 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v438 : Index := Scalar.indexCast v85
  let c2304 : Index := 2304#32
  ![v438.toNat, 2304]
def k0_off80 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v450 : Index := Scalar.indexCast v85
  let c2432 : Index := 2432#32
  ![v450.toNat, 2432]
def k0_off81 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v462 : Index := Scalar.indexCast v85
  let c2560 : Index := 2560#32
  ![v462.toNat, 2560]
def k0_off82 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v474 : Index := Scalar.indexCast v85
  let c2688 : Index := 2688#32
  ![v474.toNat, 2688]
def k0_off83 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v486 : Index := Scalar.indexCast v85
  let c2816 : Index := 2816#32
  ![v486.toNat, 2816]
def k0_off84 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v498 : Index := Scalar.indexCast v85
  let c2944 : Index := 2944#32
  ![v498.toNat, 2944]
def k0_off85 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v510 : Index := Scalar.indexCast v85
  let c3072 : Index := 3072#32
  ![v510.toNat, 3072]
def k0_off86 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v522 : Index := Scalar.indexCast v85
  let c3200 : Index := 3200#32
  ![v522.toNat, 3200]
def k0_off87 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v534 : Index := Scalar.indexCast v85
  let c3328 : Index := 3328#32
  ![v534.toNat, 3328]
def k0_off88 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v546 : Index := Scalar.indexCast v85
  let c3456 : Index := 3456#32
  ![v546.toNat, 3456]
def k0_off89 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v558 : Index := Scalar.indexCast v85
  let c3584 : Index := 3584#32
  ![v558.toNat, 3584]
def k0_off90 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v570 : Index := Scalar.indexCast v85
  let c3712 : Index := 3712#32
  ![v570.toNat, 3712]
def k0_off91 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v582 : Index := Scalar.indexCast v85
  let c3840 : Index := 3840#32
  ![v582.toNat, 3840]
def k0_off92 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v594 : Index := Scalar.indexCast v85
  let c3968 : Index := 3968#32
  ![v594.toNat, 3968]
def k0_mult6 (k0_t5 : Fin k0_t5_loop.trips) : BitVec 32 :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let c0_i32_32 : BitVec 32 := 0#32
  let v86 : BitVec 32 := Scalar.addi v85 c0_i32_32
  let c0_i32_71 : BitVec 32 := 0#32
  let v602 : BitVec 32 := Scalar.addi v86 c0_i32_71
  let c7_i32_72 : BitVec 32 := 7#32
  let v603 : BitVec 32 := Scalar.shrui v602 c7_i32_72
  let c128_i32 : BitVec 32 := 128#32
  let v604 : BitVec 32 := Scalar.muli v603 c128_i32
  v604
def k0_off93 (k0_t5 : Fin k0_t5_loop.trips) (c0_i32_71 : BitVec 32) : Fin 2 → Nat :=
  let c0_74 : Index := 0#32
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let c0_i32_32 : BitVec 32 := 0#32
  let v86 : BitVec 32 := Scalar.addi v85 c0_i32_32
  let v602 : BitVec 32 := Scalar.addi v86 c0_i32_71
  let c7_i32_72 : BitVec 32 := 7#32
  let v603 : BitVec 32 := Scalar.shrui v602 c7_i32_72
  let c128_i32 : BitVec 32 := 128#32
  let v604 : BitVec 32 := Scalar.muli v603 c128_i32
  let v605 : BitVec 32 := v604
  let v613 : Index := Scalar.indexCast v605
  ![0, v613.toNat]
def k0_off94 (v90 : BitVec 32) : Fin 2 → Nat :=
  let c7_i32_77 : BitVec 32 := 7#32
  let v633 : BitVec 32 := Scalar.addi v90 c7_i32_77
  let v637 : Index := Scalar.indexCast v633
  let c0_79 : Index := 0#32
  ![v637.toNat, 0]

def k0_chk5 (v90 : BitVec 32) : Prop :=
  (∀ a, (k0_off45 v90) a + S8x128.size a ≤ S18432x128.size a) ∧
  (∀ a, (k0_off94 v90) a + S8x128.size a ≤ S2064x128.size a)
theorem k0_off45_inb : ∀ (v90 : BitVec 32) (k0_hw5 : k0_chk5 v90), ∀ a, (k0_off45 v90) a + S8x128.size a ≤ S18432x128.size a := fun v90 k0_hw5 => k0_hw5.1
theorem k0_off94_inb : ∀ (v90 : BitVec 32) (k0_hw5 : k0_chk5 v90), ∀ a, (k0_off94 v90) a + S8x128.size a ≤ S2064x128.size a := fun v90 k0_hw5 => k0_hw5.2

def k0_off95 (v94 : BitVec 32) : Fin 2 → Nat :=
  let c6_i32_84 : BitVec 32 := 6#32
  let v652 : BitVec 32 := Scalar.addi v94 c6_i32_84
  let v656 : Index := Scalar.indexCast v652
  let c0_86 : Index := 0#32
  ![v656.toNat, 0]

def k0_chk6 (v94 : BitVec 32) : Prop :=
  (∀ a, (k0_off46 v94) a + S8x128.size a ≤ S18432x128.size a) ∧
  (∀ a, (k0_off95 v94) a + S8x128.size a ≤ S2064x128.size a)
theorem k0_off46_inb : ∀ (v94 : BitVec 32) (k0_hw6 : k0_chk6 v94), ∀ a, (k0_off46 v94) a + S8x128.size a ≤ S18432x128.size a := fun v94 k0_hw6 => k0_hw6.1
theorem k0_off95_inb : ∀ (v94 : BitVec 32) (k0_hw6 : k0_chk6 v94), ∀ a, (k0_off95 v94) a + S8x128.size a ≤ S2064x128.size a := fun v94 k0_hw6 => k0_hw6.2

def k0_off96 (v98 : BitVec 32) : Fin 2 → Nat :=
  let c5_i32_91 : BitVec 32 := 5#32
  let v671 : BitVec 32 := Scalar.addi v98 c5_i32_91
  let v675 : Index := Scalar.indexCast v671
  let c0_93 : Index := 0#32
  ![v675.toNat, 0]

def k0_chk7 (v98 : BitVec 32) : Prop :=
  (∀ a, (k0_off47 v98) a + S8x128.size a ≤ S18432x128.size a) ∧
  (∀ a, (k0_off96 v98) a + S8x128.size a ≤ S2064x128.size a)
theorem k0_off47_inb : ∀ (v98 : BitVec 32) (k0_hw7 : k0_chk7 v98), ∀ a, (k0_off47 v98) a + S8x128.size a ≤ S18432x128.size a := fun v98 k0_hw7 => k0_hw7.1
theorem k0_off96_inb : ∀ (v98 : BitVec 32) (k0_hw7 : k0_chk7 v98), ∀ a, (k0_off96 v98) a + S8x128.size a ≤ S2064x128.size a := fun v98 k0_hw7 => k0_hw7.2

def k0_off97 (v102 : BitVec 32) : Fin 2 → Nat :=
  let c4_i32_98 : BitVec 32 := 4#32
  let v690 : BitVec 32 := Scalar.addi v102 c4_i32_98
  let v694 : Index := Scalar.indexCast v690
  let c0_100 : Index := 0#32
  ![v694.toNat, 0]

def k0_chk8 (v102 : BitVec 32) : Prop :=
  (∀ a, (k0_off48 v102) a + S8x128.size a ≤ S18432x128.size a) ∧
  (∀ a, (k0_off97 v102) a + S8x128.size a ≤ S2064x128.size a)
theorem k0_off48_inb : ∀ (v102 : BitVec 32) (k0_hw8 : k0_chk8 v102), ∀ a, (k0_off48 v102) a + S8x128.size a ≤ S18432x128.size a := fun v102 k0_hw8 => k0_hw8.1
theorem k0_off97_inb : ∀ (v102 : BitVec 32) (k0_hw8 : k0_chk8 v102), ∀ a, (k0_off97 v102) a + S8x128.size a ≤ S2064x128.size a := fun v102 k0_hw8 => k0_hw8.2

def k0_off98 (v106 : BitVec 32) : Fin 2 → Nat :=
  let c3_i32_105 : BitVec 32 := 3#32
  let v709 : BitVec 32 := Scalar.addi v106 c3_i32_105
  let v713 : Index := Scalar.indexCast v709
  let c0_107 : Index := 0#32
  ![v713.toNat, 0]

def k0_chk9 (v106 : BitVec 32) : Prop :=
  (∀ a, (k0_off49 v106) a + S8x128.size a ≤ S18432x128.size a) ∧
  (∀ a, (k0_off98 v106) a + S8x128.size a ≤ S2064x128.size a)
theorem k0_off49_inb : ∀ (v106 : BitVec 32) (k0_hw9 : k0_chk9 v106), ∀ a, (k0_off49 v106) a + S8x128.size a ≤ S18432x128.size a := fun v106 k0_hw9 => k0_hw9.1
theorem k0_off98_inb : ∀ (v106 : BitVec 32) (k0_hw9 : k0_chk9 v106), ∀ a, (k0_off98 v106) a + S8x128.size a ≤ S2064x128.size a := fun v106 k0_hw9 => k0_hw9.2

def k0_off99 (v110 : BitVec 32) : Fin 2 → Nat :=
  let c2_i32_112 : BitVec 32 := 2#32
  let v728 : BitVec 32 := Scalar.addi v110 c2_i32_112
  let v732 : Index := Scalar.indexCast v728
  let c0_114 : Index := 0#32
  ![v732.toNat, 0]

def k0_chk10 (v110 : BitVec 32) : Prop :=
  (∀ a, (k0_off50 v110) a + S8x128.size a ≤ S18432x128.size a) ∧
  (∀ a, (k0_off99 v110) a + S8x128.size a ≤ S2064x128.size a)
theorem k0_off50_inb : ∀ (v110 : BitVec 32) (k0_hw10 : k0_chk10 v110), ∀ a, (k0_off50 v110) a + S8x128.size a ≤ S18432x128.size a := fun v110 k0_hw10 => k0_hw10.1
theorem k0_off99_inb : ∀ (v110 : BitVec 32) (k0_hw10 : k0_chk10 v110), ∀ a, (k0_off99 v110) a + S8x128.size a ≤ S2064x128.size a := fun v110 k0_hw10 => k0_hw10.2

def k0_off100 (v114 : BitVec 32) : Fin 2 → Nat :=
  let c1_i32_119 : BitVec 32 := 1#32
  let v747 : BitVec 32 := Scalar.addi v114 c1_i32_119
  let v751 : Index := Scalar.indexCast v747
  let c0_121 : Index := 0#32
  ![v751.toNat, 0]

def k0_chk11 (v114 : BitVec 32) : Prop :=
  (∀ a, (k0_off51 v114) a + S8x128.size a ≤ S18432x128.size a) ∧
  (∀ a, (k0_off100 v114) a + S8x128.size a ≤ S2064x128.size a)
theorem k0_off51_inb : ∀ (v114 : BitVec 32) (k0_hw11 : k0_chk11 v114), ∀ a, (k0_off51 v114) a + S8x128.size a ≤ S18432x128.size a := fun v114 k0_hw11 => k0_hw11.1
theorem k0_off100_inb : ∀ (v114 : BitVec 32) (k0_hw11 : k0_chk11 v114), ∀ a, (k0_off100 v114) a + S8x128.size a ≤ S2064x128.size a := fun v114 k0_hw11 => k0_hw11.2

def k0_off101 (v118 : BitVec 32) : Fin 2 → Nat :=
  let c0_i32_126 : BitVec 32 := 0#32
  let v766 : BitVec 32 := Scalar.addi v118 c0_i32_126
  let v770 : Index := Scalar.indexCast v766
  let c0_128 : Index := 0#32
  ![v770.toNat, 0]

def k0_chk12 (v118 : BitVec 32) : Prop :=
  (∀ a, (k0_off52 v118) a + S8x128.size a ≤ S18432x128.size a) ∧
  (∀ a, (k0_off101 v118) a + S8x128.size a ≤ S2064x128.size a)
theorem k0_off52_inb : ∀ (v118 : BitVec 32) (k0_hw12 : k0_chk12 v118), ∀ a, (k0_off52 v118) a + S8x128.size a ≤ S18432x128.size a := fun v118 k0_hw12 => k0_hw12.1
theorem k0_off101_inb : ∀ (v118 : BitVec 32) (k0_hw12 : k0_chk12 v118), ∀ a, (k0_off101 v118) a + S8x128.size a ≤ S2064x128.size a := fun v118 k0_hw12 => k0_hw12.2

def k0_mult7 (k0_t5 : Fin k0_t5_loop.trips) : BitVec 32 :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let c0_i32_32 : BitVec 32 := 0#32
  let v86 : BitVec 32 := Scalar.addi v85 c0_i32_32
  let c8_i32_133 : BitVec 32 := 8#32
  let v785 : BitVec 32 := Scalar.addi v86 c8_i32_133
  let c7_i32_134 : BitVec 32 := 7#32
  let v786 : BitVec 32 := Scalar.shrui v785 c7_i32_134
  let c128_i32_135 : BitVec 32 := 128#32
  let v787 : BitVec 32 := Scalar.muli v786 c128_i32_135
  v787
def k0_off102 (v122 : BitVec 32) : Fin 2 → Nat :=
  let c7_i32_140 : BitVec 32 := 7#32
  let v816 : BitVec 32 := Scalar.addi v122 c7_i32_140
  let v820 : Index := Scalar.indexCast v816
  let c0_142 : Index := 0#32
  ![v820.toNat, 0]

def k0_chk13 (v122 : BitVec 32) : Prop :=
  (∀ a, (k0_off53 v122) a + S8x128.size a ≤ S18432x128.size a) ∧
  (∀ a, (k0_off102 v122) a + S8x128.size a ≤ S2064x128.size a)
theorem k0_off53_inb : ∀ (v122 : BitVec 32) (k0_hw13 : k0_chk13 v122), ∀ a, (k0_off53 v122) a + S8x128.size a ≤ S18432x128.size a := fun v122 k0_hw13 => k0_hw13.1
theorem k0_off102_inb : ∀ (v122 : BitVec 32) (k0_hw13 : k0_chk13 v122), ∀ a, (k0_off102 v122) a + S8x128.size a ≤ S2064x128.size a := fun v122 k0_hw13 => k0_hw13.2

def k0_off103 (v126 : BitVec 32) : Fin 2 → Nat :=
  let c6_i32_147 : BitVec 32 := 6#32
  let v835 : BitVec 32 := Scalar.addi v126 c6_i32_147
  let v839 : Index := Scalar.indexCast v835
  let c0_149 : Index := 0#32
  ![v839.toNat, 0]

def k0_chk14 (v126 : BitVec 32) : Prop :=
  (∀ a, (k0_off54 v126) a + S8x128.size a ≤ S18432x128.size a) ∧
  (∀ a, (k0_off103 v126) a + S8x128.size a ≤ S2064x128.size a)
theorem k0_off54_inb : ∀ (v126 : BitVec 32) (k0_hw14 : k0_chk14 v126), ∀ a, (k0_off54 v126) a + S8x128.size a ≤ S18432x128.size a := fun v126 k0_hw14 => k0_hw14.1
theorem k0_off103_inb : ∀ (v126 : BitVec 32) (k0_hw14 : k0_chk14 v126), ∀ a, (k0_off103 v126) a + S8x128.size a ≤ S2064x128.size a := fun v126 k0_hw14 => k0_hw14.2

def k0_off104 (v130 : BitVec 32) : Fin 2 → Nat :=
  let c5_i32_154 : BitVec 32 := 5#32
  let v854 : BitVec 32 := Scalar.addi v130 c5_i32_154
  let v858 : Index := Scalar.indexCast v854
  let c0_156 : Index := 0#32
  ![v858.toNat, 0]

def k0_chk15 (v130 : BitVec 32) : Prop :=
  (∀ a, (k0_off55 v130) a + S8x128.size a ≤ S18432x128.size a) ∧
  (∀ a, (k0_off104 v130) a + S8x128.size a ≤ S2064x128.size a)
theorem k0_off55_inb : ∀ (v130 : BitVec 32) (k0_hw15 : k0_chk15 v130), ∀ a, (k0_off55 v130) a + S8x128.size a ≤ S18432x128.size a := fun v130 k0_hw15 => k0_hw15.1
theorem k0_off104_inb : ∀ (v130 : BitVec 32) (k0_hw15 : k0_chk15 v130), ∀ a, (k0_off104 v130) a + S8x128.size a ≤ S2064x128.size a := fun v130 k0_hw15 => k0_hw15.2

def k0_off105 (v134 : BitVec 32) : Fin 2 → Nat :=
  let c4_i32_161 : BitVec 32 := 4#32
  let v873 : BitVec 32 := Scalar.addi v134 c4_i32_161
  let v877 : Index := Scalar.indexCast v873
  let c0_163 : Index := 0#32
  ![v877.toNat, 0]

def k0_chk16 (v134 : BitVec 32) : Prop :=
  (∀ a, (k0_off56 v134) a + S8x128.size a ≤ S18432x128.size a) ∧
  (∀ a, (k0_off105 v134) a + S8x128.size a ≤ S2064x128.size a)
theorem k0_off56_inb : ∀ (v134 : BitVec 32) (k0_hw16 : k0_chk16 v134), ∀ a, (k0_off56 v134) a + S8x128.size a ≤ S18432x128.size a := fun v134 k0_hw16 => k0_hw16.1
theorem k0_off105_inb : ∀ (v134 : BitVec 32) (k0_hw16 : k0_chk16 v134), ∀ a, (k0_off105 v134) a + S8x128.size a ≤ S2064x128.size a := fun v134 k0_hw16 => k0_hw16.2

def k0_off106 (v138 : BitVec 32) : Fin 2 → Nat :=
  let c3_i32_168 : BitVec 32 := 3#32
  let v892 : BitVec 32 := Scalar.addi v138 c3_i32_168
  let v896 : Index := Scalar.indexCast v892
  let c0_170 : Index := 0#32
  ![v896.toNat, 0]

def k0_chk17 (v138 : BitVec 32) : Prop :=
  (∀ a, (k0_off57 v138) a + S8x128.size a ≤ S18432x128.size a) ∧
  (∀ a, (k0_off106 v138) a + S8x128.size a ≤ S2064x128.size a)
theorem k0_off57_inb : ∀ (v138 : BitVec 32) (k0_hw17 : k0_chk17 v138), ∀ a, (k0_off57 v138) a + S8x128.size a ≤ S18432x128.size a := fun v138 k0_hw17 => k0_hw17.1
theorem k0_off106_inb : ∀ (v138 : BitVec 32) (k0_hw17 : k0_chk17 v138), ∀ a, (k0_off106 v138) a + S8x128.size a ≤ S2064x128.size a := fun v138 k0_hw17 => k0_hw17.2

def k0_off107 (v142 : BitVec 32) : Fin 2 → Nat :=
  let c2_i32_175 : BitVec 32 := 2#32
  let v911 : BitVec 32 := Scalar.addi v142 c2_i32_175
  let v915 : Index := Scalar.indexCast v911
  let c0_177 : Index := 0#32
  ![v915.toNat, 0]

def k0_chk18 (v142 : BitVec 32) : Prop :=
  (∀ a, (k0_off58 v142) a + S8x128.size a ≤ S18432x128.size a) ∧
  (∀ a, (k0_off107 v142) a + S8x128.size a ≤ S2064x128.size a)
theorem k0_off58_inb : ∀ (v142 : BitVec 32) (k0_hw18 : k0_chk18 v142), ∀ a, (k0_off58 v142) a + S8x128.size a ≤ S18432x128.size a := fun v142 k0_hw18 => k0_hw18.1
theorem k0_off107_inb : ∀ (v142 : BitVec 32) (k0_hw18 : k0_chk18 v142), ∀ a, (k0_off107 v142) a + S8x128.size a ≤ S2064x128.size a := fun v142 k0_hw18 => k0_hw18.2

def k0_off108 (v146 : BitVec 32) : Fin 2 → Nat :=
  let c1_i32_182 : BitVec 32 := 1#32
  let v930 : BitVec 32 := Scalar.addi v146 c1_i32_182
  let v934 : Index := Scalar.indexCast v930
  let c0_184 : Index := 0#32
  ![v934.toNat, 0]

def k0_chk19 (v146 : BitVec 32) : Prop :=
  (∀ a, (k0_off59 v146) a + S8x128.size a ≤ S18432x128.size a) ∧
  (∀ a, (k0_off108 v146) a + S8x128.size a ≤ S2064x128.size a)
theorem k0_off59_inb : ∀ (v146 : BitVec 32) (k0_hw19 : k0_chk19 v146), ∀ a, (k0_off59 v146) a + S8x128.size a ≤ S18432x128.size a := fun v146 k0_hw19 => k0_hw19.1
theorem k0_off108_inb : ∀ (v146 : BitVec 32) (k0_hw19 : k0_chk19 v146), ∀ a, (k0_off108 v146) a + S8x128.size a ≤ S2064x128.size a := fun v146 k0_hw19 => k0_hw19.2

def k0_off109 (v150 : BitVec 32) : Fin 2 → Nat :=
  let c0_i32_189 : BitVec 32 := 0#32
  let v949 : BitVec 32 := Scalar.addi v150 c0_i32_189
  let v953 : Index := Scalar.indexCast v949
  let c0_191 : Index := 0#32
  ![v953.toNat, 0]

def k0_chk20 (v150 : BitVec 32) : Prop :=
  (∀ a, (k0_off60 v150) a + S8x128.size a ≤ S18432x128.size a) ∧
  (∀ a, (k0_off109 v150) a + S8x128.size a ≤ S2064x128.size a)
theorem k0_off60_inb : ∀ (v150 : BitVec 32) (k0_hw20 : k0_chk20 v150), ∀ a, (k0_off60 v150) a + S8x128.size a ≤ S18432x128.size a := fun v150 k0_hw20 => k0_hw20.1
theorem k0_off109_inb : ∀ (v150 : BitVec 32) (k0_hw20 : k0_chk20 v150), ∀ a, (k0_off109 v150) a + S8x128.size a ≤ S2064x128.size a := fun v150 k0_hw20 => k0_hw20.2

def k0_off110 (i : grid0.Coords) (k0_t5 : Fin k0_t5_loop.trips) (c0_i32_197 : BitVec 32) : Fin 1 → Nat :=
  let arg0 : BitVec 32 := BitVec.ofNat 32 (i 0).val
  let c512_i32 : BitVec 32 := 512#32
  let v3 : BitVec 32 := Scalar.muli arg0 c512_i32
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let c16_i32_196 : BitVec 32 := 16#32
  let v968 : BitVec 32 := Scalar.addi v85 c16_i32_196
  let v969 : BitVec 32 := Scalar.addi v3 v968
  let v970 : BitVec 32 := Scalar.addi v969 c0_i32_197
  let v971 : Index := Scalar.indexCast v970
  ![v971.toNat]
def k0_off111 (v972 : BitVec 32) : Fin 2 → Nat :=
  let c9_i32_213 : BitVec 32 := 9#32
  let v1033 : BitVec 32 := Scalar.muli v972 c9_i32_213
  let v1034 : Index := Scalar.indexCast v1033
  let c0_214 : Index := 0#32
  ![v1034.toNat, 0]

def k0_off112 (v976 : BitVec 32) : Fin 2 → Nat :=
  let c9_i32_215 : BitVec 32 := 9#32
  let v1037 : BitVec 32 := Scalar.muli v976 c9_i32_215
  let v1038 : Index := Scalar.indexCast v1037
  let c0_216 : Index := 0#32
  ![v1038.toNat, 0]

def k0_off113 (v980 : BitVec 32) : Fin 2 → Nat :=
  let c9_i32_217 : BitVec 32 := 9#32
  let v1041 : BitVec 32 := Scalar.muli v980 c9_i32_217
  let v1042 : Index := Scalar.indexCast v1041
  let c0_218 : Index := 0#32
  ![v1042.toNat, 0]

def k0_off114 (v984 : BitVec 32) : Fin 2 → Nat :=
  let c9_i32_219 : BitVec 32 := 9#32
  let v1045 : BitVec 32 := Scalar.muli v984 c9_i32_219
  let v1046 : Index := Scalar.indexCast v1045
  let c0_220 : Index := 0#32
  ![v1046.toNat, 0]

def k0_off115 (v988 : BitVec 32) : Fin 2 → Nat :=
  let c9_i32_221 : BitVec 32 := 9#32
  let v1049 : BitVec 32 := Scalar.muli v988 c9_i32_221
  let v1050 : Index := Scalar.indexCast v1049
  let c0_222 : Index := 0#32
  ![v1050.toNat, 0]

def k0_off116 (v992 : BitVec 32) : Fin 2 → Nat :=
  let c9_i32_223 : BitVec 32 := 9#32
  let v1053 : BitVec 32 := Scalar.muli v992 c9_i32_223
  let v1054 : Index := Scalar.indexCast v1053
  let c0_224 : Index := 0#32
  ![v1054.toNat, 0]

def k0_off117 (v996 : BitVec 32) : Fin 2 → Nat :=
  let c9_i32_225 : BitVec 32 := 9#32
  let v1057 : BitVec 32 := Scalar.muli v996 c9_i32_225
  let v1058 : Index := Scalar.indexCast v1057
  let c0_226 : Index := 0#32
  ![v1058.toNat, 0]

def k0_off118 (v1000 : BitVec 32) : Fin 2 → Nat :=
  let c9_i32_227 : BitVec 32 := 9#32
  let v1061 : BitVec 32 := Scalar.muli v1000 c9_i32_227
  let v1062 : Index := Scalar.indexCast v1061
  let c0_228 : Index := 0#32
  ![v1062.toNat, 0]

def k0_off119 (v1004 : BitVec 32) : Fin 2 → Nat :=
  let c9_i32_229 : BitVec 32 := 9#32
  let v1065 : BitVec 32 := Scalar.muli v1004 c9_i32_229
  let v1066 : Index := Scalar.indexCast v1065
  let c0_230 : Index := 0#32
  ![v1066.toNat, 0]

def k0_off120 (v1008 : BitVec 32) : Fin 2 → Nat :=
  let c9_i32_231 : BitVec 32 := 9#32
  let v1069 : BitVec 32 := Scalar.muli v1008 c9_i32_231
  let v1070 : Index := Scalar.indexCast v1069
  let c0_232 : Index := 0#32
  ![v1070.toNat, 0]

def k0_off121 (v1012 : BitVec 32) : Fin 2 → Nat :=
  let c9_i32_233 : BitVec 32 := 9#32
  let v1073 : BitVec 32 := Scalar.muli v1012 c9_i32_233
  let v1074 : Index := Scalar.indexCast v1073
  let c0_234 : Index := 0#32
  ![v1074.toNat, 0]

def k0_off122 (v1016 : BitVec 32) : Fin 2 → Nat :=
  let c9_i32_235 : BitVec 32 := 9#32
  let v1077 : BitVec 32 := Scalar.muli v1016 c9_i32_235
  let v1078 : Index := Scalar.indexCast v1077
  let c0_236 : Index := 0#32
  ![v1078.toNat, 0]

def k0_off123 (v1020 : BitVec 32) : Fin 2 → Nat :=
  let c9_i32_237 : BitVec 32 := 9#32
  let v1081 : BitVec 32 := Scalar.muli v1020 c9_i32_237
  let v1082 : Index := Scalar.indexCast v1081
  let c0_238 : Index := 0#32
  ![v1082.toNat, 0]

def k0_off124 (v1024 : BitVec 32) : Fin 2 → Nat :=
  let c9_i32_239 : BitVec 32 := 9#32
  let v1085 : BitVec 32 := Scalar.muli v1024 c9_i32_239
  let v1086 : Index := Scalar.indexCast v1085
  let c0_240 : Index := 0#32
  ![v1086.toNat, 0]

def k0_off125 (v1028 : BitVec 32) : Fin 2 → Nat :=
  let c9_i32_241 : BitVec 32 := 9#32
  let v1089 : BitVec 32 := Scalar.muli v1028 c9_i32_241
  let v1090 : Index := Scalar.indexCast v1089
  let c0_242 : Index := 0#32
  ![v1090.toNat, 0]

def k0_off126 (v1032 : BitVec 32) : Fin 2 → Nat :=
  let c9_i32_243 : BitVec 32 := 9#32
  let v1093 : BitVec 32 := Scalar.muli v1032 c9_i32_243
  let v1094 : Index := Scalar.indexCast v1093
  let c0_244 : Index := 0#32
  ![v1094.toNat, 0]

def k0_off127 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1105 : Index := Scalar.indexCast v85
  let c0_246 : Index := 0#32
  ![v1105.toNat, 0]
def k0_off128 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1116 : Index := Scalar.indexCast v85
  let c128_247 : Index := 128#32
  ![v1116.toNat, 128]
def k0_off129 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1128 : Index := Scalar.indexCast v85
  let c256_248 : Index := 256#32
  ![v1128.toNat, 256]
def k0_off130 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1140 : Index := Scalar.indexCast v85
  let c384_249 : Index := 384#32
  ![v1140.toNat, 384]
def k0_off131 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1152 : Index := Scalar.indexCast v85
  let c512_250 : Index := 512#32
  ![v1152.toNat, 512]
def k0_off132 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1164 : Index := Scalar.indexCast v85
  let c640_251 : Index := 640#32
  ![v1164.toNat, 640]
def k0_off133 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1176 : Index := Scalar.indexCast v85
  let c768_252 : Index := 768#32
  ![v1176.toNat, 768]
def k0_off134 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1188 : Index := Scalar.indexCast v85
  let c896_253 : Index := 896#32
  ![v1188.toNat, 896]
def k0_off135 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1200 : Index := Scalar.indexCast v85
  let c1024_254 : Index := 1024#32
  ![v1200.toNat, 1024]
def k0_off136 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1212 : Index := Scalar.indexCast v85
  let c1152_255 : Index := 1152#32
  ![v1212.toNat, 1152]
def k0_off137 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1224 : Index := Scalar.indexCast v85
  let c1280_256 : Index := 1280#32
  ![v1224.toNat, 1280]
def k0_off138 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1236 : Index := Scalar.indexCast v85
  let c1408_257 : Index := 1408#32
  ![v1236.toNat, 1408]
def k0_off139 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1248 : Index := Scalar.indexCast v85
  let c1536_258 : Index := 1536#32
  ![v1248.toNat, 1536]
def k0_off140 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1260 : Index := Scalar.indexCast v85
  let c1664_259 : Index := 1664#32
  ![v1260.toNat, 1664]
def k0_off141 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1272 : Index := Scalar.indexCast v85
  let c1792_260 : Index := 1792#32
  ![v1272.toNat, 1792]
def k0_off142 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1284 : Index := Scalar.indexCast v85
  let c1920_261 : Index := 1920#32
  ![v1284.toNat, 1920]
def k0_off143 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1296 : Index := Scalar.indexCast v85
  let c2048_262 : Index := 2048#32
  ![v1296.toNat, 2048]
def k0_off144 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1308 : Index := Scalar.indexCast v85
  let c2176_263 : Index := 2176#32
  ![v1308.toNat, 2176]
def k0_off145 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1320 : Index := Scalar.indexCast v85
  let c2304_264 : Index := 2304#32
  ![v1320.toNat, 2304]
def k0_off146 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1332 : Index := Scalar.indexCast v85
  let c2432_265 : Index := 2432#32
  ![v1332.toNat, 2432]
def k0_off147 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1344 : Index := Scalar.indexCast v85
  let c2560_266 : Index := 2560#32
  ![v1344.toNat, 2560]
def k0_off148 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1356 : Index := Scalar.indexCast v85
  let c2688_267 : Index := 2688#32
  ![v1356.toNat, 2688]
def k0_off149 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1368 : Index := Scalar.indexCast v85
  let c2816_268 : Index := 2816#32
  ![v1368.toNat, 2816]
def k0_off150 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1380 : Index := Scalar.indexCast v85
  let c2944_269 : Index := 2944#32
  ![v1380.toNat, 2944]
def k0_off151 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1392 : Index := Scalar.indexCast v85
  let c3072_270 : Index := 3072#32
  ![v1392.toNat, 3072]
def k0_off152 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1404 : Index := Scalar.indexCast v85
  let c3200_271 : Index := 3200#32
  ![v1404.toNat, 3200]
def k0_off153 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1416 : Index := Scalar.indexCast v85
  let c3328_272 : Index := 3328#32
  ![v1416.toNat, 3328]
def k0_off154 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1428 : Index := Scalar.indexCast v85
  let c3456_273 : Index := 3456#32
  ![v1428.toNat, 3456]
def k0_off155 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1440 : Index := Scalar.indexCast v85
  let c3584_274 : Index := 3584#32
  ![v1440.toNat, 3584]
def k0_off156 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1452 : Index := Scalar.indexCast v85
  let c3712_275 : Index := 3712#32
  ![v1452.toNat, 3712]
def k0_off157 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1464 : Index := Scalar.indexCast v85
  let c3840_276 : Index := 3840#32
  ![v1464.toNat, 3840]
def k0_off158 (k0_t5 : Fin k0_t5_loop.trips) : Fin 2 → Nat :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let v1476 : Index := Scalar.indexCast v85
  let c3968_277 : Index := 3968#32
  ![v1476.toNat, 3968]
def k0_mult8 (k0_t5 : Fin k0_t5_loop.trips) : BitVec 32 :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let c16_i32_196 : BitVec 32 := 16#32
  let v968 : BitVec 32 := Scalar.addi v85 c16_i32_196
  let c0_i32_278 : BitVec 32 := 0#32
  let v1484 : BitVec 32 := Scalar.addi v968 c0_i32_278
  let c7_i32_279 : BitVec 32 := 7#32
  let v1485 : BitVec 32 := Scalar.shrui v1484 c7_i32_279
  let c128_i32_280 : BitVec 32 := 128#32
  let v1486 : BitVec 32 := Scalar.muli v1485 c128_i32_280
  v1486
def k0_off159 (k0_t5 : Fin k0_t5_loop.trips) (c0_i32_278 : BitVec 32) : Fin 2 → Nat :=
  let c0_282 : Index := 0#32
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let c16_i32_196 : BitVec 32 := 16#32
  let v968 : BitVec 32 := Scalar.addi v85 c16_i32_196
  let v1484 : BitVec 32 := Scalar.addi v968 c0_i32_278
  let c7_i32_279 : BitVec 32 := 7#32
  let v1485 : BitVec 32 := Scalar.shrui v1484 c7_i32_279
  let c128_i32_280 : BitVec 32 := 128#32
  let v1486 : BitVec 32 := Scalar.muli v1485 c128_i32_280
  let v1487 : BitVec 32 := v1486
  let v1495 : Index := Scalar.indexCast v1487
  ![0, v1495.toNat]
def k0_off160 (v972 : BitVec 32) : Fin 2 → Nat :=
  let c7_i32_285 : BitVec 32 := 7#32
  let v1515 : BitVec 32 := Scalar.addi v972 c7_i32_285
  let v1519 : Index := Scalar.indexCast v1515
  let c0_287 : Index := 0#32
  ![v1519.toNat, 0]

def k0_chk21 (v972 : BitVec 32) : Prop :=
  (∀ a, (k0_off111 v972) a + S8x128.size a ≤ S18432x128.size a) ∧
  (∀ a, (k0_off160 v972) a + S8x128.size a ≤ S2064x128.size a)
theorem k0_off111_inb : ∀ (v972 : BitVec 32) (k0_hw21 : k0_chk21 v972), ∀ a, (k0_off111 v972) a + S8x128.size a ≤ S18432x128.size a := fun v972 k0_hw21 => k0_hw21.1
theorem k0_off160_inb : ∀ (v972 : BitVec 32) (k0_hw21 : k0_chk21 v972), ∀ a, (k0_off160 v972) a + S8x128.size a ≤ S2064x128.size a := fun v972 k0_hw21 => k0_hw21.2

def k0_off161 (v976 : BitVec 32) : Fin 2 → Nat :=
  let c6_i32_292 : BitVec 32 := 6#32
  let v1534 : BitVec 32 := Scalar.addi v976 c6_i32_292
  let v1538 : Index := Scalar.indexCast v1534
  let c0_294 : Index := 0#32
  ![v1538.toNat, 0]

def k0_chk22 (v976 : BitVec 32) : Prop :=
  (∀ a, (k0_off112 v976) a + S8x128.size a ≤ S18432x128.size a) ∧
  (∀ a, (k0_off161 v976) a + S8x128.size a ≤ S2064x128.size a)
theorem k0_off112_inb : ∀ (v976 : BitVec 32) (k0_hw22 : k0_chk22 v976), ∀ a, (k0_off112 v976) a + S8x128.size a ≤ S18432x128.size a := fun v976 k0_hw22 => k0_hw22.1
theorem k0_off161_inb : ∀ (v976 : BitVec 32) (k0_hw22 : k0_chk22 v976), ∀ a, (k0_off161 v976) a + S8x128.size a ≤ S2064x128.size a := fun v976 k0_hw22 => k0_hw22.2

def k0_off162 (v980 : BitVec 32) : Fin 2 → Nat :=
  let c5_i32_299 : BitVec 32 := 5#32
  let v1553 : BitVec 32 := Scalar.addi v980 c5_i32_299
  let v1557 : Index := Scalar.indexCast v1553
  let c0_301 : Index := 0#32
  ![v1557.toNat, 0]

def k0_chk23 (v980 : BitVec 32) : Prop :=
  (∀ a, (k0_off113 v980) a + S8x128.size a ≤ S18432x128.size a) ∧
  (∀ a, (k0_off162 v980) a + S8x128.size a ≤ S2064x128.size a)
theorem k0_off113_inb : ∀ (v980 : BitVec 32) (k0_hw23 : k0_chk23 v980), ∀ a, (k0_off113 v980) a + S8x128.size a ≤ S18432x128.size a := fun v980 k0_hw23 => k0_hw23.1
theorem k0_off162_inb : ∀ (v980 : BitVec 32) (k0_hw23 : k0_chk23 v980), ∀ a, (k0_off162 v980) a + S8x128.size a ≤ S2064x128.size a := fun v980 k0_hw23 => k0_hw23.2

def k0_off163 (v984 : BitVec 32) : Fin 2 → Nat :=
  let c4_i32_306 : BitVec 32 := 4#32
  let v1572 : BitVec 32 := Scalar.addi v984 c4_i32_306
  let v1576 : Index := Scalar.indexCast v1572
  let c0_308 : Index := 0#32
  ![v1576.toNat, 0]

def k0_chk24 (v984 : BitVec 32) : Prop :=
  (∀ a, (k0_off114 v984) a + S8x128.size a ≤ S18432x128.size a) ∧
  (∀ a, (k0_off163 v984) a + S8x128.size a ≤ S2064x128.size a)
theorem k0_off114_inb : ∀ (v984 : BitVec 32) (k0_hw24 : k0_chk24 v984), ∀ a, (k0_off114 v984) a + S8x128.size a ≤ S18432x128.size a := fun v984 k0_hw24 => k0_hw24.1
theorem k0_off163_inb : ∀ (v984 : BitVec 32) (k0_hw24 : k0_chk24 v984), ∀ a, (k0_off163 v984) a + S8x128.size a ≤ S2064x128.size a := fun v984 k0_hw24 => k0_hw24.2

def k0_off164 (v988 : BitVec 32) : Fin 2 → Nat :=
  let c3_i32_313 : BitVec 32 := 3#32
  let v1591 : BitVec 32 := Scalar.addi v988 c3_i32_313
  let v1595 : Index := Scalar.indexCast v1591
  let c0_315 : Index := 0#32
  ![v1595.toNat, 0]

def k0_chk25 (v988 : BitVec 32) : Prop :=
  (∀ a, (k0_off115 v988) a + S8x128.size a ≤ S18432x128.size a) ∧
  (∀ a, (k0_off164 v988) a + S8x128.size a ≤ S2064x128.size a)
theorem k0_off115_inb : ∀ (v988 : BitVec 32) (k0_hw25 : k0_chk25 v988), ∀ a, (k0_off115 v988) a + S8x128.size a ≤ S18432x128.size a := fun v988 k0_hw25 => k0_hw25.1
theorem k0_off164_inb : ∀ (v988 : BitVec 32) (k0_hw25 : k0_chk25 v988), ∀ a, (k0_off164 v988) a + S8x128.size a ≤ S2064x128.size a := fun v988 k0_hw25 => k0_hw25.2

def k0_off165 (v992 : BitVec 32) : Fin 2 → Nat :=
  let c2_i32_320 : BitVec 32 := 2#32
  let v1610 : BitVec 32 := Scalar.addi v992 c2_i32_320
  let v1614 : Index := Scalar.indexCast v1610
  let c0_322 : Index := 0#32
  ![v1614.toNat, 0]

def k0_chk26 (v992 : BitVec 32) : Prop :=
  (∀ a, (k0_off116 v992) a + S8x128.size a ≤ S18432x128.size a) ∧
  (∀ a, (k0_off165 v992) a + S8x128.size a ≤ S2064x128.size a)
theorem k0_off116_inb : ∀ (v992 : BitVec 32) (k0_hw26 : k0_chk26 v992), ∀ a, (k0_off116 v992) a + S8x128.size a ≤ S18432x128.size a := fun v992 k0_hw26 => k0_hw26.1
theorem k0_off165_inb : ∀ (v992 : BitVec 32) (k0_hw26 : k0_chk26 v992), ∀ a, (k0_off165 v992) a + S8x128.size a ≤ S2064x128.size a := fun v992 k0_hw26 => k0_hw26.2

def k0_off166 (v996 : BitVec 32) : Fin 2 → Nat :=
  let c1_i32_327 : BitVec 32 := 1#32
  let v1629 : BitVec 32 := Scalar.addi v996 c1_i32_327
  let v1633 : Index := Scalar.indexCast v1629
  let c0_329 : Index := 0#32
  ![v1633.toNat, 0]

def k0_chk27 (v996 : BitVec 32) : Prop :=
  (∀ a, (k0_off117 v996) a + S8x128.size a ≤ S18432x128.size a) ∧
  (∀ a, (k0_off166 v996) a + S8x128.size a ≤ S2064x128.size a)
theorem k0_off117_inb : ∀ (v996 : BitVec 32) (k0_hw27 : k0_chk27 v996), ∀ a, (k0_off117 v996) a + S8x128.size a ≤ S18432x128.size a := fun v996 k0_hw27 => k0_hw27.1
theorem k0_off166_inb : ∀ (v996 : BitVec 32) (k0_hw27 : k0_chk27 v996), ∀ a, (k0_off166 v996) a + S8x128.size a ≤ S2064x128.size a := fun v996 k0_hw27 => k0_hw27.2

def k0_off167 (v1000 : BitVec 32) : Fin 2 → Nat :=
  let c0_i32_334 : BitVec 32 := 0#32
  let v1648 : BitVec 32 := Scalar.addi v1000 c0_i32_334
  let v1652 : Index := Scalar.indexCast v1648
  let c0_336 : Index := 0#32
  ![v1652.toNat, 0]

def k0_chk28 (v1000 : BitVec 32) : Prop :=
  (∀ a, (k0_off118 v1000) a + S8x128.size a ≤ S18432x128.size a) ∧
  (∀ a, (k0_off167 v1000) a + S8x128.size a ≤ S2064x128.size a)
theorem k0_off118_inb : ∀ (v1000 : BitVec 32) (k0_hw28 : k0_chk28 v1000), ∀ a, (k0_off118 v1000) a + S8x128.size a ≤ S18432x128.size a := fun v1000 k0_hw28 => k0_hw28.1
theorem k0_off167_inb : ∀ (v1000 : BitVec 32) (k0_hw28 : k0_chk28 v1000), ∀ a, (k0_off167 v1000) a + S8x128.size a ≤ S2064x128.size a := fun v1000 k0_hw28 => k0_hw28.2

def k0_mult9 (k0_t5 : Fin k0_t5_loop.trips) : BitVec 32 :=
  let c0_i32_31 : BitVec 32 := 0#32
  let c0_i32_26 : BitVec 32 := 0#32
  let c1_i32_27 : BitVec 32 := 1#32
  let arg23 : BitVec 32 := Scf.iv c0_i32_26 c1_i32_27 k0_t5
  let c1_i32_30 : BitVec 32 := 1#32
  let v82 : BitVec 32 := Scalar.muli arg23 c1_i32_30
  let v83 : BitVec 32 := Scalar.addi c0_i32_31 v82
  let c32_i32 : BitVec 32 := 32#32
  let v84 : BitVec 32 := Scalar.muli v83 c32_i32
  let v85 : BitVec 32 := v84
  let c16_i32_196 : BitVec 32 := 16#32
  let v968 : BitVec 32 := Scalar.addi v85 c16_i32_196
  let c8_i32_341 : BitVec 32 := 8#32
  let v1667 : BitVec 32 := Scalar.addi v968 c8_i32_341
  let c7_i32_342 : BitVec 32 := 7#32
  let v1668 : BitVec 32 := Scalar.shrui v1667 c7_i32_342
  let c128_i32_343 : BitVec 32 := 128#32
  let v1669 : BitVec 32 := Scalar.muli v1668 c128_i32_343
  v1669
def k0_off168 (v1004 : BitVec 32) : Fin 2 → Nat :=
  let c7_i32_348 : BitVec 32 := 7#32
  let v1698 : BitVec 32 := Scalar.addi v1004 c7_i32_348
  let v1702 : Index := Scalar.indexCast v1698
  let c0_350 : Index := 0#32
  ![v1702.toNat, 0]

def k0_chk29 (v1004 : BitVec 32) : Prop :=
  (∀ a, (k0_off119 v1004) a + S8x128.size a ≤ S18432x128.size a) ∧
  (∀ a, (k0_off168 v1004) a + S8x128.size a ≤ S2064x128.size a)
theorem k0_off119_inb : ∀ (v1004 : BitVec 32) (k0_hw29 : k0_chk29 v1004), ∀ a, (k0_off119 v1004) a + S8x128.size a ≤ S18432x128.size a := fun v1004 k0_hw29 => k0_hw29.1
theorem k0_off168_inb : ∀ (v1004 : BitVec 32) (k0_hw29 : k0_chk29 v1004), ∀ a, (k0_off168 v1004) a + S8x128.size a ≤ S2064x128.size a := fun v1004 k0_hw29 => k0_hw29.2

def k0_off169 (v1008 : BitVec 32) : Fin 2 → Nat :=
  let c6_i32_355 : BitVec 32 := 6#32
  let v1717 : BitVec 32 := Scalar.addi v1008 c6_i32_355
  let v1721 : Index := Scalar.indexCast v1717
  let c0_357 : Index := 0#32
  ![v1721.toNat, 0]

def k0_chk30 (v1008 : BitVec 32) : Prop :=
  (∀ a, (k0_off120 v1008) a + S8x128.size a ≤ S18432x128.size a) ∧
  (∀ a, (k0_off169 v1008) a + S8x128.size a ≤ S2064x128.size a)
theorem k0_off120_inb : ∀ (v1008 : BitVec 32) (k0_hw30 : k0_chk30 v1008), ∀ a, (k0_off120 v1008) a + S8x128.size a ≤ S18432x128.size a := fun v1008 k0_hw30 => k0_hw30.1
theorem k0_off169_inb : ∀ (v1008 : BitVec 32) (k0_hw30 : k0_chk30 v1008), ∀ a, (k0_off169 v1008) a + S8x128.size a ≤ S2064x128.size a := fun v1008 k0_hw30 => k0_hw30.2

def k0_off170 (v1012 : BitVec 32) : Fin 2 → Nat :=
  let c5_i32_362 : BitVec 32 := 5#32
  let v1736 : BitVec 32 := Scalar.addi v1012 c5_i32_362
  let v1740 : Index := Scalar.indexCast v1736
  let c0_364 : Index := 0#32
  ![v1740.toNat, 0]

def k0_chk31 (v1012 : BitVec 32) : Prop :=
  (∀ a, (k0_off121 v1012) a + S8x128.size a ≤ S18432x128.size a) ∧
  (∀ a, (k0_off170 v1012) a + S8x128.size a ≤ S2064x128.size a)
theorem k0_off121_inb : ∀ (v1012 : BitVec 32) (k0_hw31 : k0_chk31 v1012), ∀ a, (k0_off121 v1012) a + S8x128.size a ≤ S18432x128.size a := fun v1012 k0_hw31 => k0_hw31.1
theorem k0_off170_inb : ∀ (v1012 : BitVec 32) (k0_hw31 : k0_chk31 v1012), ∀ a, (k0_off170 v1012) a + S8x128.size a ≤ S2064x128.size a := fun v1012 k0_hw31 => k0_hw31.2

def k0_off171 (v1016 : BitVec 32) : Fin 2 → Nat :=
  let c4_i32_369 : BitVec 32 := 4#32
  let v1755 : BitVec 32 := Scalar.addi v1016 c4_i32_369
  let v1759 : Index := Scalar.indexCast v1755
  let c0_371 : Index := 0#32
  ![v1759.toNat, 0]

def k0_chk32 (v1016 : BitVec 32) : Prop :=
  (∀ a, (k0_off122 v1016) a + S8x128.size a ≤ S18432x128.size a) ∧
  (∀ a, (k0_off171 v1016) a + S8x128.size a ≤ S2064x128.size a)
theorem k0_off122_inb : ∀ (v1016 : BitVec 32) (k0_hw32 : k0_chk32 v1016), ∀ a, (k0_off122 v1016) a + S8x128.size a ≤ S18432x128.size a := fun v1016 k0_hw32 => k0_hw32.1
theorem k0_off171_inb : ∀ (v1016 : BitVec 32) (k0_hw32 : k0_chk32 v1016), ∀ a, (k0_off171 v1016) a + S8x128.size a ≤ S2064x128.size a := fun v1016 k0_hw32 => k0_hw32.2

def k0_off172 (v1020 : BitVec 32) : Fin 2 → Nat :=
  let c3_i32_376 : BitVec 32 := 3#32
  let v1774 : BitVec 32 := Scalar.addi v1020 c3_i32_376
  let v1778 : Index := Scalar.indexCast v1774
  let c0_378 : Index := 0#32
  ![v1778.toNat, 0]

def k0_chk33 (v1020 : BitVec 32) : Prop :=
  (∀ a, (k0_off123 v1020) a + S8x128.size a ≤ S18432x128.size a) ∧
  (∀ a, (k0_off172 v1020) a + S8x128.size a ≤ S2064x128.size a)
theorem k0_off123_inb : ∀ (v1020 : BitVec 32) (k0_hw33 : k0_chk33 v1020), ∀ a, (k0_off123 v1020) a + S8x128.size a ≤ S18432x128.size a := fun v1020 k0_hw33 => k0_hw33.1
theorem k0_off172_inb : ∀ (v1020 : BitVec 32) (k0_hw33 : k0_chk33 v1020), ∀ a, (k0_off172 v1020) a + S8x128.size a ≤ S2064x128.size a := fun v1020 k0_hw33 => k0_hw33.2

def k0_off173 (v1024 : BitVec 32) : Fin 2 → Nat :=
  let c2_i32_383 : BitVec 32 := 2#32
  let v1793 : BitVec 32 := Scalar.addi v1024 c2_i32_383
  let v1797 : Index := Scalar.indexCast v1793
  let c0_385 : Index := 0#32
  ![v1797.toNat, 0]

def k0_chk34 (v1024 : BitVec 32) : Prop :=
  (∀ a, (k0_off124 v1024) a + S8x128.size a ≤ S18432x128.size a) ∧
  (∀ a, (k0_off173 v1024) a + S8x128.size a ≤ S2064x128.size a)
theorem k0_off124_inb : ∀ (v1024 : BitVec 32) (k0_hw34 : k0_chk34 v1024), ∀ a, (k0_off124 v1024) a + S8x128.size a ≤ S18432x128.size a := fun v1024 k0_hw34 => k0_hw34.1
theorem k0_off173_inb : ∀ (v1024 : BitVec 32) (k0_hw34 : k0_chk34 v1024), ∀ a, (k0_off173 v1024) a + S8x128.size a ≤ S2064x128.size a := fun v1024 k0_hw34 => k0_hw34.2

def k0_off174 (v1028 : BitVec 32) : Fin 2 → Nat :=
  let c1_i32_390 : BitVec 32 := 1#32
  let v1812 : BitVec 32 := Scalar.addi v1028 c1_i32_390
  let v1816 : Index := Scalar.indexCast v1812
  let c0_392 : Index := 0#32
  ![v1816.toNat, 0]

def k0_chk35 (v1028 : BitVec 32) : Prop :=
  (∀ a, (k0_off125 v1028) a + S8x128.size a ≤ S18432x128.size a) ∧
  (∀ a, (k0_off174 v1028) a + S8x128.size a ≤ S2064x128.size a)
theorem k0_off125_inb : ∀ (v1028 : BitVec 32) (k0_hw35 : k0_chk35 v1028), ∀ a, (k0_off125 v1028) a + S8x128.size a ≤ S18432x128.size a := fun v1028 k0_hw35 => k0_hw35.1
theorem k0_off174_inb : ∀ (v1028 : BitVec 32) (k0_hw35 : k0_chk35 v1028), ∀ a, (k0_off174 v1028) a + S8x128.size a ≤ S2064x128.size a := fun v1028 k0_hw35 => k0_hw35.2

def k0_off175 (v1032 : BitVec 32) : Fin 2 → Nat :=
  let c0_i32_397 : BitVec 32 := 0#32
  let v1831 : BitVec 32 := Scalar.addi v1032 c0_i32_397
  let v1835 : Index := Scalar.indexCast v1831
  let c0_399 : Index := 0#32
  ![v1835.toNat, 0]

def k0_chk36 (v1032 : BitVec 32) : Prop :=
  (∀ a, (k0_off126 v1032) a + S8x128.size a ≤ S18432x128.size a) ∧
  (∀ a, (k0_off175 v1032) a + S8x128.size a ≤ S2064x128.size a)
theorem k0_off126_inb : ∀ (v1032 : BitVec 32) (k0_hw36 : k0_chk36 v1032), ∀ a, (k0_off126 v1032) a + S8x128.size a ≤ S18432x128.size a := fun v1032 k0_hw36 => k0_hw36.1
theorem k0_off175_inb : ∀ (v1032 : BitVec 32) (k0_hw36 : k0_chk36 v1032), ∀ a, (k0_off175 v1032) a + S8x128.size a ≤ S2064x128.size a := fun v1032 k0_hw36 => k0_hw36.2

def k0_cond2 (i : grid0.Coords) : BitVec 1 :=
  let arg0 : BitVec 32 := BitVec.ofNat 32 (i 0).val
  let c31_i32 : BitVec 32 := 31#32
  let v79 : BitVec 1 := Scalar.cmpi .eq arg0 c31_i32
  let v80 : BitVec 32 := Scalar.extui v79
  let c0_i32_29 : BitVec 32 := 0#32
  let v81 : BitVec 1 := Scalar.cmpi .ne v80 c0_i32_29
  v81

@[reducible] def k0_t6_loop : Scf.Loop 32 :=
  let c0_i32_48 : BitVec 32 := 0#32
  let c8_i32_49 : BitVec 32 := 8#32
  let v108 : BitVec 32 := Scalar.addi c0_i32_48 c8_i32_49
  let c1_i32_50 : BitVec 32 := 1#32
  ⟨c0_i32_48, v108, c1_i32_50⟩
def k0_mult10 (k0_t6 : Fin k0_t6_loop.trips) : BitVec 32 :=
  let c0_i32_57 : BitVec 32 := 0#32
  let c0_i32_48 : BitVec 32 := 0#32
  let c1_i32_50 : BitVec 32 := 1#32
  let arg23 : BitVec 32 := Scf.iv c0_i32_48 c1_i32_50 k0_t6
  let c1_i32_56 : BitVec 32 := 1#32
  let v110 : BitVec 32 := Scalar.muli arg23 c1_i32_56
  let v111 : BitVec 32 := Scalar.addi c0_i32_57 v110
  let c128_i32 : BitVec 32 := 128#32
  let v112 : BitVec 32 := Scalar.muli v111 c128_i32
  v112
def k0_mult11 (k0_t6 : Fin k0_t6_loop.trips) : BitVec 32 :=
  let c0_i32_58 : BitVec 32 := 0#32
  let c0_i32_57 : BitVec 32 := 0#32
  let c0_i32_48 : BitVec 32 := 0#32
  let c1_i32_50 : BitVec 32 := 1#32
  let arg23 : BitVec 32 := Scf.iv c0_i32_48 c1_i32_50 k0_t6
  let c1_i32_56 : BitVec 32 := 1#32
  let v110 : BitVec 32 := Scalar.muli arg23 c1_i32_56
  let v111 : BitVec 32 := Scalar.addi c0_i32_57 v110
  let c128_i32 : BitVec 32 := 128#32
  let v112 : BitVec 32 := Scalar.muli v111 c128_i32
  let v113 : BitVec 32 := v112
  let v114 : BitVec 32 := Scalar.addi c0_i32_58 v113
  v114
def k0_off176 (k0_t6 : Fin k0_t6_loop.trips) : Fin 2 → Nat :=
  let c0_i32_58 : BitVec 32 := 0#32
  let c0_i32_57 : BitVec 32 := 0#32
  let c0_i32_48 : BitVec 32 := 0#32
  let c1_i32_50 : BitVec 32 := 1#32
  let arg23 : BitVec 32 := Scf.iv c0_i32_48 c1_i32_50 k0_t6
  let c1_i32_56 : BitVec 32 := 1#32
  let v110 : BitVec 32 := Scalar.muli arg23 c1_i32_56
  let v111 : BitVec 32 := Scalar.addi c0_i32_57 v110
  let c128_i32 : BitVec 32 := 128#32
  let v112 : BitVec 32 := Scalar.muli v111 c128_i32
  let v113 : BitVec 32 := v112
  let v114 : BitVec 32 := Scalar.addi c0_i32_58 v113
  let v115 : BitVec 32 := v114
  let v116 : Index := Scalar.indexCast v115
  let c0_59 : Index := 0#32
  ![v116.toNat, 0]
def k0_off177 (k0_t6 : Fin k0_t6_loop.trips) : Fin 2 → Nat :=
  let c0_61 : Index := 0#32
  let c0_i32_57 : BitVec 32 := 0#32
  let c0_i32_48 : BitVec 32 := 0#32
  let c1_i32_50 : BitVec 32 := 1#32
  let arg23 : BitVec 32 := Scf.iv c0_i32_48 c1_i32_50 k0_t6
  let c1_i32_56 : BitVec 32 := 1#32
  let v110 : BitVec 32 := Scalar.muli arg23 c1_i32_56
  let v111 : BitVec 32 := Scalar.addi c0_i32_57 v110
  let c128_i32 : BitVec 32 := 128#32
  let v112 : BitVec 32 := Scalar.muli v111 c128_i32
  let v113 : BitVec 32 := v112
  let v121 : Index := Scalar.indexCast v113
  ![0, v121.toNat]
def k0_off178 (k0_t6 : Fin k0_t6_loop.trips) : Fin 2 → Nat :=
  let c0_i32_58 : BitVec 32 := 0#32
  let c0_i32_57 : BitVec 32 := 0#32
  let c0_i32_48 : BitVec 32 := 0#32
  let c1_i32_50 : BitVec 32 := 1#32
  let arg23 : BitVec 32 := Scf.iv c0_i32_48 c1_i32_50 k0_t6
  let c1_i32_56 : BitVec 32 := 1#32
  let v110 : BitVec 32 := Scalar.muli arg23 c1_i32_56
  let v111 : BitVec 32 := Scalar.addi c0_i32_57 v110
  let c128_i32 : BitVec 32 := 128#32
  let v112 : BitVec 32 := Scalar.muli v111 c128_i32
  let v113 : BitVec 32 := v112
  let v114 : BitVec 32 := Scalar.addi c0_i32_58 v113
  let v115 : BitVec 32 := v114
  let c8_i32_62 : BitVec 32 := 8#32
  let v127 : BitVec 32 := Scalar.addi v115 c8_i32_62
  let c1_i32_63 : BitVec 32 := 1#32
  let v128 : BitVec 32 := Scalar.subi v127 c1_i32_63
  let v129 : Index := Scalar.indexCast v128
  let c0_64 : Index := 0#32
  ![v129.toNat, 0]
def k0_off179 (k0_t6 : Fin k0_t6_loop.trips) : Fin 2 → Nat :=
  let c0_i32_58 : BitVec 32 := 0#32
  let c0_i32_57 : BitVec 32 := 0#32
  let c0_i32_48 : BitVec 32 := 0#32
  let c1_i32_50 : BitVec 32 := 1#32
  let arg23 : BitVec 32 := Scf.iv c0_i32_48 c1_i32_50 k0_t6
  let c1_i32_56 : BitVec 32 := 1#32
  let v110 : BitVec 32 := Scalar.muli arg23 c1_i32_56
  let v111 : BitVec 32 := Scalar.addi c0_i32_57 v110
  let c128_i32 : BitVec 32 := 128#32
  let v112 : BitVec 32 := Scalar.muli v111 c128_i32
  let v113 : BitVec 32 := v112
  let v114 : BitVec 32 := Scalar.addi c0_i32_58 v113
  let v115 : BitVec 32 := v114
  let v142 : Index := Scalar.indexCast v115
  let c0_68 : Index := 0#32
  ![v142.toNat, 0]
@[reducible] def k0_t7_loop : Scf.Loop 32 :=
  let c0_i32_52 : BitVec 32 := 0#32
  let c8_i32_53 : BitVec 32 := 8#32
  let v109 : BitVec 32 := Scalar.addi c0_i32_52 c8_i32_53
  let c1_i32_54 : BitVec 32 := 1#32
  ⟨c0_i32_52, v109, c1_i32_54⟩
def k0_mult12 (k0_t7 : Fin k0_t7_loop.trips) : BitVec 32 :=
  let c0_i32_57 : BitVec 32 := 0#32
  let c0_i32_52 : BitVec 32 := 0#32
  let c1_i32_54 : BitVec 32 := 1#32
  let arg23 : BitVec 32 := Scf.iv c0_i32_52 c1_i32_54 k0_t7
  let c1_i32_56 : BitVec 32 := 1#32
  let v110 : BitVec 32 := Scalar.muli arg23 c1_i32_56
  let v111 : BitVec 32 := Scalar.addi c0_i32_57 v110
  let c128_i32 : BitVec 32 := 128#32
  let v112 : BitVec 32 := Scalar.muli v111 c128_i32
  v112
def k0_mult13 (k0_t7 : Fin k0_t7_loop.trips) : BitVec 32 :=
  let c1024_i32 : BitVec 32 := 1024#32
  let c0_i32_57 : BitVec 32 := 0#32
  let c0_i32_52 : BitVec 32 := 0#32
  let c1_i32_54 : BitVec 32 := 1#32
  let arg23 : BitVec 32 := Scf.iv c0_i32_52 c1_i32_54 k0_t7
  let c1_i32_56 : BitVec 32 := 1#32
  let v110 : BitVec 32 := Scalar.muli arg23 c1_i32_56
  let v111 : BitVec 32 := Scalar.addi c0_i32_57 v110
  let c128_i32 : BitVec 32 := 128#32
  let v112 : BitVec 32 := Scalar.muli v111 c128_i32
  let v113 : BitVec 32 := v112
  let v114 : BitVec 32 := Scalar.addi c1024_i32 v113
  v114
def k0_off180 (k0_t7 : Fin k0_t7_loop.trips) : Fin 2 → Nat :=
  let c1024_i32 : BitVec 32 := 1024#32
  let c0_i32_57 : BitVec 32 := 0#32
  let c0_i32_52 : BitVec 32 := 0#32
  let c1_i32_54 : BitVec 32 := 1#32
  let arg23 : BitVec 32 := Scf.iv c0_i32_52 c1_i32_54 k0_t7
  let c1_i32_56 : BitVec 32 := 1#32
  let v110 : BitVec 32 := Scalar.muli arg23 c1_i32_56
  let v111 : BitVec 32 := Scalar.addi c0_i32_57 v110
  let c128_i32 : BitVec 32 := 128#32
  let v112 : BitVec 32 := Scalar.muli v111 c128_i32
  let v113 : BitVec 32 := v112
  let v114 : BitVec 32 := Scalar.addi c1024_i32 v113
  let v115 : BitVec 32 := v114
  let v116 : Index := Scalar.indexCast v115
  let c0_58 : Index := 0#32
  ![v116.toNat, 0]
def k0_off181 (k0_t7 : Fin k0_t7_loop.trips) : Fin 2 → Nat :=
  let c1_60 : Index := 1#32
  let c0_i32_57 : BitVec 32 := 0#32
  let c0_i32_52 : BitVec 32 := 0#32
  let c1_i32_54 : BitVec 32 := 1#32
  let arg23 : BitVec 32 := Scf.iv c0_i32_52 c1_i32_54 k0_t7
  let c1_i32_56 : BitVec 32 := 1#32
  let v110 : BitVec 32 := Scalar.muli arg23 c1_i32_56
  let v111 : BitVec 32 := Scalar.addi c0_i32_57 v110
  let c128_i32 : BitVec 32 := 128#32
  let v112 : BitVec 32 := Scalar.muli v111 c128_i32
  let v113 : BitVec 32 := v112
  let v121 : Index := Scalar.indexCast v113
  ![1, v121.toNat]
def k0_off182 (k0_t7 : Fin k0_t7_loop.trips) : Fin 2 → Nat :=
  let c1024_i32 : BitVec 32 := 1024#32
  let c0_i32_57 : BitVec 32 := 0#32
  let c0_i32_52 : BitVec 32 := 0#32
  let c1_i32_54 : BitVec 32 := 1#32
  let arg23 : BitVec 32 := Scf.iv c0_i32_52 c1_i32_54 k0_t7
  let c1_i32_56 : BitVec 32 := 1#32
  let v110 : BitVec 32 := Scalar.muli arg23 c1_i32_56
  let v111 : BitVec 32 := Scalar.addi c0_i32_57 v110
  let c128_i32 : BitVec 32 := 128#32
  let v112 : BitVec 32 := Scalar.muli v111 c128_i32
  let v113 : BitVec 32 := v112
  let v114 : BitVec 32 := Scalar.addi c1024_i32 v113
  let v115 : BitVec 32 := v114
  let c8_i32_61 : BitVec 32 := 8#32
  let v127 : BitVec 32 := Scalar.addi v115 c8_i32_61
  let c1_i32_62 : BitVec 32 := 1#32
  let v128 : BitVec 32 := Scalar.subi v127 c1_i32_62
  let v129 : Index := Scalar.indexCast v128
  let c0_63 : Index := 0#32
  ![v129.toNat, 0]
def k0_off183 (k0_t7 : Fin k0_t7_loop.trips) : Fin 2 → Nat :=
  let c1024_i32 : BitVec 32 := 1024#32
  let c0_i32_57 : BitVec 32 := 0#32
  let c0_i32_52 : BitVec 32 := 0#32
  let c1_i32_54 : BitVec 32 := 1#32
  let arg23 : BitVec 32 := Scf.iv c0_i32_52 c1_i32_54 k0_t7
  let c1_i32_56 : BitVec 32 := 1#32
  let v110 : BitVec 32 := Scalar.muli arg23 c1_i32_56
  let v111 : BitVec 32 := Scalar.addi c0_i32_57 v110
  let c128_i32 : BitVec 32 := 128#32
  let v112 : BitVec 32 := Scalar.muli v111 c128_i32
  let v113 : BitVec 32 := v112
  let v114 : BitVec 32 := Scalar.addi c1024_i32 v113
  let v115 : BitVec 32 := v114
  let v142 : Index := Scalar.indexCast v115
  let c0_67 : Index := 0#32
  ![v142.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2x1024x64 : Shape := ⟨3, ![2, 1024, 64]⟩
abbrev S2x1024x4096 : Shape := ⟨3, ![2, 1024, 4096]⟩
abbrev S2x1024 : Shape := ⟨2, ![2, 1024]⟩
abbrev S16384x4096 : Shape := ⟨2, ![16384, 4096]⟩
abbrev S16384 : Shape := ⟨1, ![16384]⟩
abbrev S64 : Shape := ⟨1, ![64]⟩
abbrev S64x4096 : Shape := ⟨2, ![64, 4096]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S16384x1 : Shape := ⟨2, ![16384, 1]⟩
abbrev S16384x64 : Shape := ⟨2, ![16384, 64]⟩
abbrev S2048 : Shape := ⟨1, ![2048]⟩
abbrev S1x2048 : Shape := ⟨2, ![1, 2048]⟩
abbrev S16384x2048 : Shape := ⟨2, ![16384, 2048]⟩
abbrev S2048x64 : Shape := ⟨2, ![2048, 64]⟩
abbrev S2048x4096 : Shape := ⟨2, ![2048, 4096]⟩
abbrev S2048x1 : Shape := ⟨2, ![2048, 1]⟩

abbrev nBuf : Space → Nat
  | .hbm => 54
  | .vmem => 14
  | .smem => 0
  | _ => 0

abbrev bufTy : (tb : Table) → Fin (tcTables nBuf tb) → BufTy
  | .hbm, ⟨0, _⟩ => ⟨S2x1024x64, .f32⟩
  | .hbm, ⟨1, _⟩ => ⟨S2x1024x4096, .i8⟩
  | .hbm, ⟨2, _⟩ => ⟨S2x1024, .f32⟩
  | .hbm, ⟨3, _⟩ => ⟨S16384x4096, .fp8e4m3⟩
  | .hbm, ⟨4, _⟩ => ⟨S16384, .f32⟩
  | .hbm, ⟨5, _⟩ => ⟨S16384, .i32⟩
  | .hbm, ⟨6, _⟩ => ⟨S64, .i32⟩
  | .hbm, ⟨7, _⟩ => ⟨S64x4096, .f32⟩
  | .hbm, ⟨8, _⟩ => ⟨S64, .i32⟩
  | .hbm, ⟨9, _⟩ => ⟨S64x1, .i32⟩
  | .hbm, ⟨10, _⟩ => ⟨S1x64, .i32⟩
  | .hbm, ⟨11, _⟩ => ⟨S64x64, .i32⟩
  | .hbm, ⟨12, _⟩ => ⟨S64x64, .i32⟩
  | .hbm, ⟨13, _⟩ => ⟨S64x64, .i1⟩
  | .hbm, ⟨14, _⟩ => ⟨S64x1, .i32⟩
  | .hbm, ⟨15, _⟩ => ⟨S_, .i32⟩
  | .hbm, ⟨16, _⟩ => ⟨S_, .i32⟩
  | .hbm, ⟨17, _⟩ => ⟨S64x64, .i32⟩
  | .hbm, ⟨18, _⟩ => ⟨S64x64, .i32⟩
  | .hbm, ⟨19, _⟩ => ⟨S64x64, .i32⟩
  | .hbm, ⟨20, _⟩ => ⟨S_, .i32⟩
  | .hbm, ⟨21, _⟩ => ⟨S64, .i32⟩
  | .hbm, ⟨22, _⟩ => ⟨S16384, .i32⟩
  | .hbm, ⟨23, _⟩ => ⟨S1x64, .i32⟩
  | .hbm, ⟨24, _⟩ => ⟨S16384x1, .i32⟩
  | .hbm, ⟨25, _⟩ => ⟨S16384x64, .i32⟩
  | .hbm, ⟨26, _⟩ => ⟨S16384x64, .i32⟩
  | .hbm, ⟨27, _⟩ => ⟨S16384x64, .i1⟩
  | .hbm, ⟨28, _⟩ => ⟨S16384x64, .i32⟩
  | .hbm, ⟨29, _⟩ => ⟨S_, .i32⟩
  | .hbm, ⟨30, _⟩ => ⟨S16384, .i32⟩
  | .hbm, ⟨31, _⟩ => ⟨S16384x1, .i32⟩
  | .hbm, ⟨32, _⟩ => ⟨S1x64, .i32⟩
  | .hbm, ⟨33, _⟩ => ⟨S16384x64, .i32⟩
  | .hbm, ⟨34, _⟩ => ⟨S16384x64, .i32⟩
  | .hbm, ⟨35, _⟩ => ⟨S16384x64, .i1⟩
  | .hbm, ⟨36, _⟩ => ⟨S16384x64, .f32⟩
  | .hbm, ⟨37, _⟩ => ⟨S16384x1, .i32⟩
  | .hbm, ⟨38, _⟩ => ⟨S2048, .i32⟩
  | .hbm, ⟨39, _⟩ => ⟨S1x2048, .i32⟩
  | .hbm, ⟨40, _⟩ => ⟨S16384x2048, .i32⟩
  | .hbm, ⟨41, _⟩ => ⟨S16384x2048, .i32⟩
  | .hbm, ⟨42, _⟩ => ⟨S16384x2048, .i1⟩
  | .hbm, ⟨43, _⟩ => ⟨S16384x2048, .f32⟩
  | .hbm, ⟨44, _⟩ => ⟨S2048x64, .f32⟩
  | .hbm, ⟨45, _⟩ => ⟨S16384x1, .f32⟩
  | .hbm, ⟨46, _⟩ => ⟨S2048x4096, .i8⟩
  | .hbm, ⟨47, _⟩ => ⟨S2048x1, .f32⟩
  | .hbm, ⟨48, _⟩ => ⟨S64x1, .i32⟩
  | .hbm, ⟨49, _⟩ => ⟨S2048x64, .f32⟩
  | .hbm, ⟨50, _⟩ => ⟨S2048x64, .f32⟩
  | .hbm, ⟨51, _⟩ => ⟨S64x4096, .f32⟩
  | .hbm, ⟨52, _⟩ => ⟨S2048x64, .f32⟩
  | .hbm, ⟨53, _⟩ => ⟨S64x4096, .f32⟩
  | .local _ .vmem, ⟨0, _⟩ => ⟨S16384x4096, .fp8e4m3⟩
  | .local _ .vmem, ⟨1, _⟩ => ⟨S16384x1, .f32⟩
  | .local _ .vmem, ⟨2, _⟩ => ⟨S2048x4096, .i8⟩
  | .local _ .vmem, ⟨3, _⟩ => ⟨S2048x1, .f32⟩
  | .local _ .vmem, ⟨4, _⟩ => ⟨S16384x2048, .f32⟩
  | .local _ .vmem, ⟨5, _⟩ => ⟨S16384x64, .f32⟩
  | .local _ .vmem, ⟨6, _⟩ => ⟨S2048x64, .f32⟩
  | .local _ .vmem, ⟨7, _⟩ => ⟨S64x1, .i32⟩
  | .local _ .vmem, ⟨8, _⟩ => ⟨S2048x64, .f32⟩
  | .local _ .vmem, ⟨9, _⟩ => ⟨S64x4096, .f32⟩
  | .local _ .vmem, ⟨10, _⟩ => ⟨S2048x64, .f32⟩
  | .local _ .vmem, ⟨11, _⟩ => ⟨S64x4096, .f32⟩
  | .local _ .vmem, ⟨12, _⟩ => ⟨S2048x64, .f32⟩
  | .local _ .vmem, ⟨13, _⟩ => ⟨S64x4096, .f32⟩
  | _, _ => ⟨S2x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev main_v36_2 : Ref sig .tc := ⟨.hbm, 52, rfl⟩
abbrev main_v36_3 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S16384x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Common.Rules.lean ====
module

public import Idealize.ShloMosaic.Lib.Tactic
public import Idealize.ShloMosaic.Lib.Pipeline.TableIdle

@[expose] public section

noncomputable section

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The contents `X` after the elements `Mk` of `w` are put at the rectangle `r`. -/
def put {s : Shape} {α : Type} (r : Rect s) (Mk : Finset r.shape.Idx) (w : r.shape.Idx → α) (X : s.Idx → α) : s.Idx → α :=
  fun y => by
    classical
    exact if h : ∃ j ∈ Mk, r.emb j = y then w h.choose else X y

/-- At a place the put names, its element. -/
theorem put_emb {s : Shape} {α : Type} (r : Rect s) (Mk : Finset r.shape.Idx) (w : r.shape.Idx → α) (X : s.Idx → α)
    {j : r.shape.Idx} (hj : j ∈ Mk) : put r Mk w X (r.emb j) = w j := by
  have h : ∃ j' ∈ Mk, r.emb j' = r.emb j := ⟨j, hj, rfl⟩
  unfold put
  rw [dif_pos h]
  exact congrArg w (r.emb.injective h.choose_spec.2)

/-- At any other place, the old element. -/
theorem put_off {s : Shape} {α : Type} (r : Rect s) (Mk : Finset r.shape.Idx) (w : r.shape.Idx → α) (X : s.Idx → α)
    {y : s.Idx} (h : ∀ j ∈ Mk, r.emb j ≠ y) : put r Mk w X y = X y := by
  unfold put
  rw [dif_neg]
  rintro ⟨j, hj, e⟩; exact h j hj e

/-- A put of a unit rectangle, at a place inside it. -/
theorem put_unit_in {s : Shape} {α : Type} (off size : Fin s.rank → ℕ) (inb : ∀ a, off a + size a ≤ s.size a)
    (w : (Rect.unit off size inb).shape.Idx → α) (X : s.Idx → α) (y : s.Idx)
    (hy : ∀ a, off a ≤ (y a).val ∧ (y a).val < off a + size a) :
    put (Rect.unit off size inb) Finset.univ w X y
      = w (fun a => ⟨(y a).val - off a, by have := hy a; show (y a).val - off a < size a; omega⟩) := by
  have e : (Rect.unit off size inb).emb (fun a => ⟨(y a).val - off a, by have := hy a; show (y a).val - off a < size a; omega⟩) = y := by
    funext a
    refine Fin.ext ?_
    show off a + 1 * ((y a).val - off a) = (y a).val
    have := hy a; omega
  conv_lhs => rw [← e]
  exact put_emb _ _ _ _ (Finset.mem_univ _)

/-- A put of a unit rectangle, at a place outside it. -/
theorem put_unit_out {s : Shape} {α : Type} (off size : Fin s.rank → ℕ) (inb : ∀ a, off a + size a ≤ s.size a)
    (Mk : Finset (Rect.unit off size inb).shape.Idx)
    (w : (Rect.unit off size inb).shape.Idx → α) (X : s.Idx → α) (y : s.Idx) (a : Fin s.rank)
    (hy : (y a).val < off a ∨ off a + size a ≤ (y a).val) :
    put (Rect.unit off size inb) Mk w X y = X y := by
  refine put_off _ _ _ _ fun j _ e => ?_
  have h : off a + 1 * (j a).val = (y a).val := congrArg (fun i : s.Idx => (i a).val) e
  have h2 : (j a).val < size a := (j a).isLt
  omega

/-- A put of the whole array. -/
theorem put_whole {s : Shape} {α : Type} (off : Fin s.rank → ℕ) (inb : ∀ a, off a + s.size a ≤ s.size a)
    (w : (Rect.unit off s.size inb).shape.Idx → α) (X : s.Idx → α) :
    put (Rect.unit off s.size inb) Finset.univ w X = w := by
  funext y
  rw [put_unit_in _ _ _ _ _ y (fun a => by have := inb a; have := (y a).isLt; omega)]
  refine congrArg w (funext fun a => Fin.ext ?_)
  have := inb a
  show (y a).val - off a = (y a).val
  omega

/-- What a load of the whole array reads. -/
theorem read_whole {s : Shape} {α : Type} (off : Fin s.rank → ℕ) (inb : ∀ a, off a + s.size a ≤ s.size a)
    (X : s.Idx → α) : (fun j => X ((Rect.unit off s.size inb).idx j)) = X := by
  funext y
  refine congrArg X (funext fun a => Fin.ext ?_)
  have := inb a
  show off a + 1 * (y a).val = (y a).val
  omega

section

variable {nD : Nat} {τ : Topo} {sig : RefSig} {Val : EltTy → Type}
variable {Ix : Type} [DecidableEq Ix] {Name : Type} [DecidableEq Name] {U : Type} [URA U] {Lvl : Type} [Preorder Lvl]
variable {Λ : Labels} {α : Type}

local notation "𝕄" => MT nD τ sig Ix Val Name U Lvl

/-- What a view reads of contents written at a rectangle. -/
theorem read_write_eq_put {κ : Kind} {sp : Space} {s : Shape} {e : EltTy} (v : View sig κ sp s e) (r : Rect s)
    (Mk : Finset r.shape.Idx) (w : r.shape.Idx → Val e) (f : v.ty.Contents Val) :
    v.read Val ((v.slice r).write Val f w Mk) = put r Mk w (v.read Val f) := by
  funext y
  by_cases h : ∃ j ∈ Mk, r.emb j = y
  · obtain ⟨j, hj, rfl⟩ := h
    rw [put_emb _ _ _ _ hj, View.read_slice_write_emb _ _ _ hj]
  · rw [put_off _ _ _ _ (fun j hj e => h ⟨j, hj, e⟩), View.read_slice_write_of_not_mem]
    intro hm
    obtain ⟨j, hj, e⟩ := Finset.mem_map.mp hm
    exact h ⟨j, hj, e⟩

variable {defs : Defs nD τ sig Val Λ} (𝒱 : Variants) (c : Thread nD τ) (bd : Option 𝒱.V) (E : Set Name)

/-- A load at the head of a program, through a memref owned at contents `X`. -/
theorem wp_ld {cs : CoreSpace} {s : Shape} {e : EltTy} {m : Memref sig c.2.kind cs s e} {r : LoadRect s} {hl : m.view.LoadsAt r}
    {k : (r.shape.Idx → Val e) → Prog (TpuEff nD τ sig Val Λ c.2) α} {q : PosShare TreeShare} {X : s.Idx → Val e}
    {Q : α → sProp 𝕄} :
    owns c m q X
      ⊢ iprop((owns c m q X -∗ wp frame (wpE defs 𝒱 c bd) E (k (fun j => X (r.idx j))) Q)
        -∗ wp frame (wpE defs 𝒱 c bd) E (.op (.load m r hl) k) Q) := by
  unfold owns
  iintro ⟨%f, %hf, H⟩ HK
  subst hf
  iapply (wp_load 𝒱 c bd E (m := m) (r := r) (m.view.setOn_subset_set _)) $$ H
  iintro H
  iapply HK
  iexists f; isplitr; · ipureintro; rfl
  iexact H

/-- A store at the head of a program, through a memref owned whole at contents `X`. -/
theorem wp_st {cs : CoreSpace} {s : Shape} {e : EltTy} {m : Memref sig c.2.kind cs s e} {r : Rect s} {w : r.shape.Idx → Val e}
    {Mk : Finset r.shape.Idx} {hx : (m.access r).Stores Mk} {hm : Mk = Finset.univ ∨ ∀ a, r.stride a = 1}
    {k : PUnit → Prog (TpuEff nD τ sig Val Λ c.2) α} {X : s.Idx → Val e}
    {Q : α → sProp 𝕄} :
    owns c m fullShare X
      ⊢ iprop((owns c m fullShare (put r Mk w X) -∗ wp frame (wpE defs 𝒱 c bd) E (k ⟨⟩) Q)
        -∗ wp frame (wpE defs 𝒱 c bd) E (.op (.store m r w Mk hx hm) k) Q) := by
  unfold owns
  iintro ⟨%f, %hf, H⟩ HK
  subst hf
  have hS : (m.access r).setOn Mk ⊆ m.view.set :=
    ((m.access r).setOn_subset_set _).trans (m.view.set_slice_subset r)
  iapply (wp_store 𝒱 c bd E (m := m) (r := r) (hx := hx) (hm := hm) hS) $$ H
  iintro H
  iapply HK
  iexists (m.access r).write Val f w Mk; isplitr
  · ipureintro; exact read_write_eq_put m.view r Mk w f
  iexact H

end

end Cert.Own
-- ==== Proof.KI.Whiles.lean ====
module

public import proofs.«01_k».proof.Proof.Gen.KernelIdeal.Skeleton
public import proofs.«01_k».proof.Proof.Common.Rules
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own

/-- The place of entry `e` in an array of 64 words. -/
def ix64 (e : ℕ) (h : e < 64) : S64.Idx := fun a => ⟨e, by have : a = 0 := Subsingleton.elim _ _; subst this; exact h⟩

theorem chk1_of_lt : ∀ e : Fin 64, k0_chk1 (BitVec.ofNat 32 e.val) := by
  unfold k0_chk1 k0_off36; decide +kernel

theorem chk2_of_lt : ∀ e : Fin 64, k0_chk2 (BitVec.ofNat 32 e.val) := by
  unfold k0_chk2 k0_off37; decide +kernel

theorem chk3_of_lt : ∀ e : Fin 64, k0_chk3 (BitVec.ofNat 32 e.val) := by
  unfold k0_chk3 k0_off38 k0_off39 k0_mult2; decide +kernel

variable (c : Dev nD) (i : grid0.Coords) (arg21 : Memref sig .tc .smem S64 .i32) (harg21 : arg21.IsWhole)
  (X : S64.Idx → Elt F .i32)

/-- A scan of the running counts from entry `e` for the first one above `b`: it keeps the counts and returns an entry `r`
    whose count is above `b`, with no entry from `e` to `r` above `b`. -/
def scanSpec (b : BitVec 32) (e : ℕ) : sWPT 𝕄 (BitVec 32) := do
  sWPT.consume (owns (c : Thread nD τ) arg21 fullShare X)
  let r ← sWPT.arbitrary
  sWPT.assume (∃ e', ∃ h : e' < 64, e ≤ e' ∧ r = BitVec.ofNat 32 e' ∧ Scalar.cmpi .sle (X (ix64 e' h) : BitVec 32) b ≠ 1#1
    ∧ ∀ x, ∀ hx : x < 64, e ≤ x → x < e' → Scalar.cmpi .sle (X (ix64 x hx) : BitVec 32) b = 1#1)
  sWPT.produce (owns (c : Thread nD τ) arg21 fullShare X)
  pure r

theorem scanSpec_apply (b : BitVec 32) (e : ℕ) (K : BitVec 32 → sProp 𝕄) :
    scanSpec c arg21 X b e K = iprop(owns (c : Thread nD τ) arg21 fullShare X ∗ ∀ r : BitVec 32,
      ⌜∃ e', ∃ h : e' < 64, e ≤ e' ∧ r = BitVec.ofNat 32 e' ∧ Scalar.cmpi .sle (X (ix64 e' h) : BitVec 32) b ≠ 1#1
        ∧ ∀ x, ∀ hx : x < 64, e ≤ x → x < e' → Scalar.cmpi .sle (X (ix64 x hx) : BitVec 32) b = 1#1⌝
        -∗ (owns (c : Thread nD τ) arg21 fullShare X -∗ K r)) := rfl

theorem off36_idx (w : BitVec 32) (e : ℕ) (h : e < 64) (hw : w.toNat = e) (inb) (hn) :
    (Rect.unit (s := S64) (k0_off36 w) ![1] inb).idx (Shape.Idx.first hn) = ix64 e h := by
  funext a
  have : a = 0 := Subsingleton.elim _ _
  subst this
  refine Fin.ext ?_
  show w.toNat + 0 * 1 = e
  omega

theorem off37_idx (w : BitVec 32) (e : ℕ) (h : e < 64) (hw : w.toNat = e) (inb) (hn) :
    (Rect.unit (s := S64) (k0_off37 w) ![1] inb).idx (Shape.Idx.first hn) = ix64 e h := off36_idx w e h hw inb hn

/-- The bound the first scan of grid point `i` compares with: the point's first row. -/
def scanLo : BitVec 32 := Scalar.muli (BitVec.ofNat 32 (i 0).val) 512#32

/-- The bound the second scan of grid point `i` compares with: the point's last row. -/
def scanHi : BitVec 32 := Scalar.addi (scanLo i) 511#32

theorem succ_word (e : ℕ) : Scalar.addi (BitVec.ofNat 32 e) 1#32 = BitVec.ofNat 32 (e + 1) := by
  show BitVec.ofNat 32 e + 1#32 = _
  rw [BitVec.ofNat_add]

theorem defs_scan1 (w : BitVec 32) : defs₀ (F := F) .tc 1 ⟨i, arg21, harg21, w⟩ = cc0_while1 i arg21 harg21 w := rfl

theorem defs_scan2 (w : BitVec 32) : defs₀ (F := F) .tc 2 ⟨i, arg21, harg21, w⟩ = cc0_while2 i arg21 harg21 w := rfl

/-- The first scan meets its specification wherever the last count is above its bound. -/
theorem scan1_le (E : Set ℕ) (hlast : Scalar.cmpi .sle (X (ix64 63 (by decide)) : BitVec 32) (scanLo i) ≠ 1#1) :
    ∀ k e, e + k = 63 → ∀ K, scanSpec c arg21 X (scanLo i) e K
      ⊢ wp frame (wpE (defs₀ (F := F)) Variants.nat (c : Thread nD τ) (some k)) E
          (defs₀ (F := F) .tc 1 ⟨i, arg21, harg21, BitVec.ofNat 32 e⟩) K := by
  intro k
  induction k with
  | zero =>
    intro e he K
    obtain rfl : e = 63 := by omega
    rw [scanSpec_apply]
    rw [defs_scan1, cc0_while1_eq_skeleton]; unfold cc0_while1_skel
    simp only [smemLoad, smemLoadElt, Prog.lift, Prog.bind_op, Prog.bind_ret, Prog.pure_eq_ret]
    iintro ⟨H, Hk⟩
    iapply (wp_assume Variants.nat (c : Thread nD τ) (some 0) E (chk1_of_lt ⟨63, by decide⟩))
    iapply (wp_ld Variants.nat (c : Thread nD τ) (some 0) E) $$ H; iintro H
    beta_reduce; rw [off36_idx 63#32 63 (by decide) rfl]
    simp only [scanLo] at hlast
    simp only [hlast, ↓reduceIte]
    rw [wp_ret]; imodintro
    iapply Hk
    · ipureintro; exact ⟨63, by decide, le_rfl, rfl, hlast, fun x _ h1 h2 => absurd h2 (by omega)⟩
    · iexact H
  | succ k ih =>
    intro e he K
    have he64 : e < 64 := by omega
    rw [scanSpec_apply]
    rw [defs_scan1, cc0_while1_eq_skeleton]; unfold cc0_while1_skel
    simp only [smemLoad, smemLoadElt, Prog.lift, Prog.bind_op, Prog.bind_ret, Prog.pure_eq_ret]
    iintro ⟨H, Hk⟩
    iapply (wp_assume Variants.nat (c : Thread nD τ) (some (k + 1)) E (chk1_of_lt ⟨e, he64⟩))
    iapply (wp_ld Variants.nat (c : Thread nD τ) (some (k + 1)) E) $$ H; iintro H
    beta_reduce; rw [off36_idx (BitVec.ofNat 32 e) e he64 (by rw [BitVec.toNat_ofNat]; omega)]
    by_cases ht : Scalar.cmpi .sle (X (ix64 e he64) : BitVec 32) (scanLo i) = 1#1
    · have ht' := ht
      simp only [scanLo] at ht'
      simp only [ht', ↓reduceIte, Prog.bind_op, Prog.bind_ret, succ_word]
      iapply (wp_call_spec Variants.nat (c : Thread nD τ) (some (k + 1)) E (scanSpec c arg21 X (scanLo i) (e + 1)) k
        (fun u hu => by cases hu; exact Nat.lt_succ_self k) (ih (e + 1) (by omega)))
      rw [scanSpec_apply]
      isplitl [H]; · iexact H
      iintro %r %hr H
      rw [wp_ret]; imodintro
      iapply Hk
      · ipureintro
        obtain ⟨e', h, h1, h2, h3, h4⟩ := hr
        refine ⟨e', h, by omega, h2, h3, fun x hx hx1 hx2 => ?_⟩
        rcases Nat.lt_or_ge e x with h5 | h5
        · exact h4 x hx h5 hx2
        · obtain rfl : x = e := by omega
          exact ht
      · iexact H
    · have ht' := ht
      simp only [scanLo] at ht'
      simp only [ht', ↓reduceIte]
      rw [wp_ret]; imodintro
      iapply Hk
      · ipureintro; exact ⟨e, he64, le_rfl, rfl, ht, fun x _ h1 h2 => absurd h2 (by omega)⟩
      · iexact H

/-- The second scan meets its specification wherever the last count is above its bound. -/
theorem scan2_le (E : Set ℕ) (hlast : Scalar.cmpi .sle (X (ix64 63 (by decide)) : BitVec 32) (scanHi i) ≠ 1#1) :
    ∀ k e, e + k = 63 → ∀ K, scanSpec c arg21 X (scanHi i) e K
      ⊢ wp frame (wpE (defs₀ (F := F)) Variants.nat (c : Thread nD τ) (some k)) E
          (defs₀ (F := F) .tc 2 ⟨i, arg21, harg21, BitVec.ofNat 32 e⟩) K := by
  intro k
  induction k with
  | zero =>
    intro e he K
    obtain rfl : e = 63 := by omega
    rw [scanSpec_apply]
    rw [defs_scan2, cc0_while2_eq_skeleton]; unfold cc0_while2_skel
    simp only [smemLoad, smemLoadElt, Prog.lift, Prog.bind_op, Prog.bind_ret, Prog.pure_eq_ret]
    iintro ⟨H, Hk⟩
    iapply (wp_assume Variants.nat (c : Thread nD τ) (some 0) E (chk2_of_lt ⟨63, by decide⟩))
    iapply (wp_ld Variants.nat (c : Thread nD τ) (some 0) E) $$ H; iintro H
    beta_reduce; rw [off37_idx 63#32 63 (by decide) rfl]
    simp only [scanHi, scanLo] at hlast
    simp only [hlast, ↓reduceIte]
    rw [wp_ret]; imodintro
    iapply Hk
    · ipureintro; exact ⟨63, by decide, le_rfl, rfl, hlast, fun x _ h1 h2 => absurd h2 (by omega)⟩
    · iexact H
  | succ k ih =>
    intro e he K
    have he64 : e < 64 := by omega
    rw [scanSpec_apply]
    rw [defs_scan2, cc0_while2_eq_skeleton]; unfold cc0_while2_skel
    simp only [smemLoad, smemLoadElt, Prog.lift, Prog.bind_op, Prog.bind_ret, Prog.pure_eq_ret]
    iintro ⟨H, Hk⟩
    iapply (wp_assume Variants.nat (c : Thread nD τ) (some (k + 1)) E (chk2_of_lt ⟨e, he64⟩))
    iapply (wp_ld Variants.nat (c : Thread nD τ) (some (k + 1)) E) $$ H; iintro H
    beta_reduce; rw [off37_idx (BitVec.ofNat 32 e) e he64 (by rw [BitVec.toNat_ofNat]; omega)]
    by_cases ht : Scalar.cmpi .sle (X (ix64 e he64) : BitVec 32) (scanHi i) = 1#1
    · have ht' := ht
      simp only [scanHi, scanLo] at ht'
      simp only [ht', ↓reduceIte, Prog.bind_op, Prog.bind_ret, succ_word]
      iapply (wp_call_spec Variants.nat (c : Thread nD τ) (some (k + 1)) E (scanSpec c arg21 X (scanHi i) (e + 1)) k
        (fun u hu => by cases hu; exact Nat.lt_succ_self k) (ih (e + 1) (by omega)))
      rw [scanSpec_apply]
      isplitl [H]; · iexact H
      iintro %r %hr H
      rw [wp_ret]; imodintro
      iapply Hk
      · ipureintro
        obtain ⟨e', h, h1, h2, h3, h4⟩ := hr
        refine ⟨e', h, by omega, h2, h3, fun x hx hx1 hx2 => ?_⟩
        rcases Nat.lt_or_ge e x with h5 | h5
        · exact h4 x hx h5 hx2
        · obtain rfl : x = e := by omega
          exact ht
      · iexact H
    · have ht' := ht
      simp only [scanHi, scanLo] at ht'
      simp only [ht', ↓reduceIte]
      rw [wp_ret]; imodintro
      iapply Hk
      · ipureintro; exact ⟨e, he64, le_rfl, rfl, ht, fun x _ h1 h2 => absurd h2 (by omega)⟩
      · iexact H

end Cert.KernelIdeal.Own
-- ==== Proof.KI.Prefix.lean ====
module

public import proofs.«01_k».proof.Proof.KI.Whiles
public import Idealize.ShloMosaic.Lib.Pipeline.Kit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own

/-- The number of rows of the experts before `e`, as the kernel counts them. -/
def pre (G : S64.Idx → BitVec 32) : ℕ → BitVec 32
  | 0 => 0#32
  | e + 1 => if h : e < 64 then pre G e + G (ix64 e h) else pre G e

/-- What the counting loop has written before trip `k`: the running counts of the experts below `k`, their first row and
    the row after their last in every lane of the two row tables, and the same two in the lanes of the two carried rows. -/
structure Counted (G : S64.Idx → BitVec 32) (k : ℕ) (X21 : S64.Idx → BitVec 32) (X18 X19 : S64x128.Idx → BitVec 32) : Prop where
  ends : ∀ j, (j 0).val < k → X21 j = pre G ((j 0).val + 1)
  starts : ∀ j, (j 0).val < k → X18 j = pre G (j 0).val
  stops : ∀ j, (j 0).val < k → X19 j = pre G ((j 0).val + 1)

/-- What the counting loop carries before trip `k`. -/
structure Carried (G : S64.Idx → BitVec 32) (k : ℕ) (acc : BitVec 32 × IVec S1x128 32 × IVec S1x128 32) : Prop where
  count : acc.1 = pre G k
  starts : ∀ j, acc.2.1 j = if (j 1).val < k then pre G (j 1).val else 0#32
  stops : ∀ j, acc.2.2 j = if (j 1).val < k then pre G ((j 1).val + 1) else 0#32

theorem trips1 : k0_t1_loop.trips = 64 := by decide +kernel

theorem off1_eq : ∀ k : Fin 64, k0_off1 (Fin.cast trips1.symm k) 0 = k.val := by decide +kernel

theorem off2_eq : ∀ k : Fin 64, k0_off2 (Fin.cast trips1.symm k) 0 = k.val ∧ k0_off2 (Fin.cast trips1.symm k) 1 = 0 := by decide +kernel

theorem iv1_eq : ∀ k : Fin 64, Scf.iv 0#32 1#32 k.val = BitVec.ofNat 32 k.val := by decide +kernel

theorem off1 (k : Fin k0_t1_loop.trips) (a) : k0_off1 k a = k.val := by
  obtain rfl : a = 0 := Subsingleton.elim _ _
  exact off1_eq (Fin.cast trips1 k)

theorem off2_0 (k : Fin k0_t1_loop.trips) : k0_off2 k 0 = k.val := (off2_eq (Fin.cast trips1 k)).1

theorem off2_1 (k : Fin k0_t1_loop.trips) : k0_off2 k 1 = 0 := (off2_eq (Fin.cast trips1 k)).2

theorem idx1_read (k : Fin k0_t1_loop.trips) (hk : k.val < 64) (inb) (hn) :
    (Rect.unit (s := S64) (k0_off1 k) ![1] inb).idx (Shape.Idx.first hn) = ix64 k.val hk := by
  funext a
  refine Fin.ext ?_
  show k0_off1 k a + 1 * 0 = k.val
  rw [off1]; omega

theorem pre_succ (G : S64.Idx → BitVec 32) (e : ℕ) (h : e < 64) : pre G (e + 1) = pre G e + G (ix64 e h) := by
  rw [pre, dif_pos h]

theorem ofNat_eq_iff (a b : ℕ) (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

theorem lane_eq (k : Fin k0_t1_loop.trips) (hk : k.val < 64) (j : S1x128.Idx) :
    (cmpi .eq (iota .tc S1x128 32 [1] iota_S1x128_d1_w32) (broadcast S1x128 (Scf.iv 0#32 1#32 k.val)) j = 1#1)
      ↔ (j 1).val = k.val := by
  have hj : (j 1).val < 128 := (j 1).isLt
  rw [iv1_eq ⟨k.val, hk⟩]
  show BitVec.ofBool (BitVec.ofNat 32 (0 * 128 + (j 1).val) == BitVec.ofNat 32 k.val) = 1#1 ↔ _
  rw [show 0 * 128 + (j 1).val = (j 1).val by omega, ← ofNat_eq_iff (j 1).val k.val (by omega) (by omega)]
  by_cases h : BitVec.ofNat 32 (j 1).val = BitVec.ofNat 32 k.val
  · rw [h]; simp
  · have : (BitVec.ofNat 32 (j 1).val == BitVec.ofNat 32 k.val) = false := by simpa using h
    rw [this]; simp [h]

/-- The carried rows after one more trip. -/
theorem carried_succ (G : S64.Idx → BitVec 32) (k : Fin k0_t1_loop.trips) (hk : k.val < 64)
    (acc : BitVec 32 × IVec S1x128 32 × IVec S1x128 32) (h : Carried G k.val acc) :
    Carried G (k.val + 1) (Scalar.addi acc.1 (G (ix64 k.val hk)), k0_pay135 k acc.1 acc.2.1,
      k0_pay136 (F := F) k acc.1 acc.2.2 (G (ix64 k.val hk))) := by
  have e : Scalar.addi acc.1 (G (ix64 k.val hk)) = pre G (k.val + 1) := by
    rw [pre_succ G _ hk, ← h.count]; rfl
  refine ⟨e, fun j => ?_, fun j => ?_⟩
  · show (if cmpi .eq (iota .tc S1x128 32 [1] iota_S1x128_d1_w32) (broadcast S1x128 (Scf.iv 0#32 1#32 k.val)) j = 1#1
      then acc.1 else acc.2.1 j) = _
    by_cases hl : (j 1).val = k.val
    · rw [if_pos ((lane_eq k hk j).mpr hl), if_pos (by omega), hl, h.count]
    · rw [if_neg (fun hh => hl ((lane_eq k hk j).mp hh)), h.starts]
      by_cases h2 : (j 1).val < k.val
      · rw [if_pos h2, if_pos (by omega)]
      · rw [if_neg h2, if_neg (by omega)]
  · show (if cmpi .eq (iota .tc S1x128 32 [1] iota_S1x128_d1_w32) (broadcast S1x128 (Scf.iv 0#32 1#32 k.val)) j = 1#1
      then Scalar.addi acc.1 (G (ix64 k.val hk)) else acc.2.2 j) = _
    by_cases hl : (j 1).val = k.val
    · rw [if_pos ((lane_eq k hk j).mpr hl), if_pos (by omega), hl, e]
    · rw [if_neg (fun hh => hl ((lane_eq k hk j).mp hh)), h.stops]
      by_cases h2 : (j 1).val < k.val
      · rw [if_pos h2, if_pos (by omega)]
      · rw [if_neg h2, if_neg (by omega)]

theorem row_in (k : Fin k0_t1_loop.trips) (j : S64x128.Idx) (h : (j 0).val = k.val) :
    ∀ a, k0_off2 k a ≤ (j a).val ∧ (j a).val < k0_off2 k a + S1x128.size a := by
  intro a
  have h0 := off2_0 k
  have h1 := off2_1 k
  have hj : (j 1).val < 128 := (j 1).isLt
  fin_cases a
  · show k0_off2 k 0 ≤ (j 0).val ∧ (j 0).val < k0_off2 k 0 + 1; omega
  · show k0_off2 k 1 ≤ (j 1).val ∧ (j 1).val < k0_off2 k 1 + 128; omega

/-- A row table whose rows below `k` are known, after row `k` is written. -/
theorem rows_succ (f : ℕ → BitVec 32) (k : Fin k0_t1_loop.trips) (inb) (X : S64x128.Idx → BitVec 32) (v : BitVec 32)
    (w : S1x128.Idx → BitVec 32) (hw : ∀ j, w j = v) (hv : v = f k.val)
    (h : ∀ j, (j 0).val < k.val → X j = f (j 0).val) :
    ∀ j, (j 0).val < k.val + 1 → put (Rect.unit (s := S64x128) (k0_off2 k) S1x128.size inb) Finset.univ w X j = f (j 0).val := by
  intro j hj
  by_cases hl : (j 0).val = k.val
  · rw [put_unit_in _ _ _ _ _ _ (row_in k j hl), hl, ← hv]; exact hw _
  · rw [put_unit_out _ _ _ _ _ _ _ 0 (by rw [off2_0]; left; omega)]
    exact h j (by omega)

/-- The three tables after one more trip. -/
theorem counted_succ (G : S64.Idx → BitVec 32) (k : Fin k0_t1_loop.trips) (hk : k.val < 64)
    (s : BitVec 32) (hs : s = pre G k.val) (X21 : S64.Idx → BitVec 32) (X18 X19 : S64x128.Idx → BitVec 32)
    (h : Counted G k.val X21 X18 X19) (i1 i2 i3) :
    Counted G (k.val + 1)
      (put (Rect.unit (s := S64) (k0_off1 k) S1.size i1) Finset.univ (fun _ => Scalar.addi s (G (ix64 k.val hk))) X21)
      (put (Rect.unit (s := S64x128) (k0_off2 k) S1x128.size i2) Finset.univ (k0_pay133 s) X18)
      (put (Rect.unit (s := S64x128) (k0_off2 k) S1x128.size i3) Finset.univ (k0_pay134 (F := F) s (G (ix64 k.val hk))) X19) := by
  have e : Scalar.addi s (G (ix64 k.val hk)) = pre G (k.val + 1) := by
    rw [pre_succ G _ hk, ← hs]; rfl
  refine ⟨fun j hj => ?_, ?_, ?_⟩
  · by_cases hl : (j 0).val = k.val
    · rw [put_unit_in _ _ _ _ _ _ (fun a => by
        obtain rfl : a = 0 := Subsingleton.elim _ _
        rw [off1]; show _ ∧ _ < _ + 1; omega), hl, ← e]
    · rw [put_unit_out _ _ _ _ _ _ _ 0 (by rw [off1]; left; omega)]
      exact h.ends j (by omega)
  · exact rows_succ (pre G) k i2 X18 s _ (fun j => rfl) hs h.starts
  · exact rows_succ (fun e => pre G (e + 1)) k i3 X19 _ _ (fun j => rfl) e h.stops

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

/-- One trip of the counting loop. -/
theorem t1_trip (c : Dev nD) (h1 : k0_cond1 i = 1#1) (G : S64.Idx → BitVec 32) (k : Fin k0_t1_loop.trips)
    (acc : BitVec 32 × IVec S1x128 32 × IVec S1x128 32) :
    (iprop(owns (c : Thread nD τ) arg2 fullShare (G : S64.Idx → Elt F .i32)
      ∗ (∃ X21 X18 X19, owns (c : Thread nD τ) arg21 fullShare (X21 : S64.Idx → Elt F .i32)
        ∗ owns (c : Thread nD τ) arg18 fullShare (X18 : S64x128.Idx → Elt F .i32)
        ∗ owns (c : Thread nD τ) arg19 fullShare (X19 : S64x128.Idx → Elt F .i32)
        ∗ ⌜Counted G k.val X21 X18 X19 ∧ Carried G k.val acc⌝)) : sProp 𝕄)
    ⊢ wp frame (wpE (defs₀ (F := F)) Variants.nat (c : Thread nD τ) none) Set.univ
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 k acc)
        (fun acc => iprop(owns (c : Thread nD τ) arg2 fullShare (G : S64.Idx → Elt F .i32)
      ∗ (∃ X21 X18 X19, owns (c : Thread nD τ) arg21 fullShare (X21 : S64.Idx → Elt F .i32)
        ∗ owns (c : Thread nD τ) arg18 fullShare (X18 : S64x128.Idx → Elt F .i32)
        ∗ owns (c : Thread nD τ) arg19 fullShare (X19 : S64x128.Idx → Elt F .i32)
        ∗ ⌜Counted G (k.val + 1) X21 X18 X19 ∧ Carried G (k.val + 1) acc⌝))) := by
  obtain ⟨s, sv, ev⟩ := acc
  have hk : k.val < 64 := lt_of_lt_of_eq k.isLt trips1
  unfold k0_t1_body
  simp only [smemLoad, smemLoadElt, Prog.lift, Prog.bind_op, Prog.bind_ret, Prog.pure_eq_ret]
  iintro ⟨H2, ⟨%X21, %X18, %X19, H21, H18, H19, %hh⟩⟩
  obtain ⟨hc, ha⟩ := hh
  iapply (wp_ld Variants.nat (c : Thread nD τ) none Set.univ) $$ H2; iintro H2
  beta_reduce; rw [idx1_read k hk]
  iapply (wp_ld Variants.nat (c : Thread nD τ) none Set.univ) $$ H21; iintro H21
  iapply (wp_st Variants.nat (c : Thread nD τ) none Set.univ) $$ H21; iintro H21
  iapply (wp_ld Variants.nat (c : Thread nD τ) none Set.univ) $$ H18; iintro H18
  iapply (wp_st Variants.nat (c : Thread nD τ) none Set.univ) $$ H18; iintro H18
  iapply (wp_ld Variants.nat (c : Thread nD τ) none Set.univ) $$ H19; iintro H19
  iapply (wp_st Variants.nat (c : Thread nD τ) none Set.univ) $$ H19; iintro H19
  rw [wp_ret]; imodintro
  isplitl [H2]; · iexact H2
  iexists _, _, _
  isplitl [H21]; · iexact H21
  isplitl [H18]; · iexact H18
  isplitl [H19]; · iexact H19
  ipureintro
  exact ⟨counted_succ (F := F) G k hk s ha.count X21 X18 X19 hc _ _ _, carried_succ (F := F) G k hk (s, sv, ev) ha⟩

end Cert.KernelIdeal.Own
-- ==== Proof.KI.T2.lean ====
module

public import proofs.«01_k».proof.Proof.Gen.KernelIdeal.Loops
public import Idealize.ShloMosaic.Lib.Pipeline.TableIdle

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

/-- One trip of the tile loop that builds the word table keeps the buffers it reads and leaves some words in the table. -/
theorem t2_trip (c : Dev nD) (h1 : k0_cond1 i = 1#1)
    (X3 : BufTy.Contents (Elt F) arg3.view.ty) (k : Fin k0_t2_loop.trips) :
    (iprop((arg3.view.loc (c : Thread nD τ) ↦[arg3.view.set]{fullShare} X3)
      ∗ (∃ f, arg13.view.loc (c : Thread nD τ) ↦[arg13.view.set]{fullShare} f)) : sProp 𝕄)
    ⊢ wp frame (wpE (defs₀ (F := F)) Variants.nat (c : Thread nD τ) none) Set.univ
        (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 k ())
        (fun _ => iprop((arg3.view.loc (c : Thread nD τ) ↦[arg3.view.set]{fullShare} X3)
      ∗ (∃ f, arg13.view.loc (c : Thread nD τ) ↦[arg13.view.set]{fullShare} f))) := by
  unfold k0_t2_body
  iintro ⟨H3, ⟨%f13, H13⟩⟩
  sl_exec
  sl_step
  sl_close

end Cert.KernelIdeal.Own
-- ==== Proof.KI.Init.lean ====
module

public import proofs.«01_k».proof.Proof.KI.Prefix
public import proofs.«01_k».proof.Proof.KI.T2
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own

/-- A memref owned whole at some contents. -/
abbrev held (c : Dev nD) {sp : Space} {s : Shape} {e : EltTy} (m : Memref sig .tc sp s e) : sProp 𝕄 :=
  iprop(∃ X : s.Idx → Elt F e, owns (c : Thread nD τ) m fullShare X)

/-- The two rows of the lane table: the first row of each expert and the row after its last, zero past the last expert. -/
structure Lanes (G : S64.Idx → BitVec 32) (X20 : S8x128.Idx → BitVec 32) : Prop where
  starts : ∀ j, (j 0).val = 0 → X20 j = if (j 1).val < 64 then pre G (j 1).val else 0#32
  stops : ∀ j, (j 0).val = 1 → X20 j = if (j 1).val < 64 then pre G ((j 1).val + 1) else 0#32

/-- What the first grid point leaves in the tables of expert rows. -/
structure Tables (G : S64.Idx → BitVec 32) (X18 X19 : S64x128.Idx → BitVec 32) (X20 : S8x128.Idx → BitVec 32)
    (X21 : S64.Idx → BitVec 32) : Prop where
  counted : Counted G 64 X21 X18 X19
  lanes : Lanes G X20

theorem lanes_put (G : S64.Idx → BitVec 32) (acc : BitVec 32 × IVec S1x128 32 × IVec S1x128 32) (h : Carried G 64 acc)
    (X20 : S8x128.Idx → BitVec 32) :
    Lanes G (put (Rect.unit (s := S8x128) ![1, 0] S1x128.size inb_S8x128_S1x128_1_0) Finset.univ (k0_pay138 acc.2.2)
      (put (Rect.unit (s := S8x128) ![0, 0] S1x128.size inb_S8x128_S1x128_0_0) Finset.univ (k0_pay137 acc.2.1) X20)) := by
  have h1 : k0_pay137 acc.2.1 = acc.2.1 := shapeCast_self _ _
  have h2 : k0_pay138 acc.2.2 = acc.2.2 := shapeCast_self _ _
  rw [h1, h2]
  constructor
  · intro j hj
    have hl : (j 1).val < 128 := (j 1).isLt
    rw [put_unit_out _ _ _ _ _ _ _ (0 : Fin 2) (by left; show (j 0).val < 1; omega)]
    rw [put_unit_in _ _ _ _ _ _ (fun a => by
      fin_cases a
      · show 0 ≤ (j 0).val ∧ (j 0).val < 0 + 1; omega
      · show 0 ≤ (j 1).val ∧ (j 1).val < 0 + 128; omega)]
    exact h.starts _
  · intro j hj
    have hl : (j 1).val < 128 := (j 1).isLt
    rw [put_unit_in _ _ _ _ _ _ (fun a => by
      fin_cases a
      · show 1 ≤ (j 0).val ∧ (j 0).val < 1 + 1; omega
      · show 0 ≤ (j 1).val ∧ (j 1).val < 0 + 128; omega)]
    exact h.stops _

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

set_option maxHeartbeats 1000000 in
/-- The first part of the first grid point: it counts the experts' rows and fills the tables. -/
theorem part19_run (c : Dev nD) (h1 : k0_cond1 i = 1#1) (G : S64.Idx → BitVec 32)
    (K : (Σ' (_ : FVec F S2064x128 .f32), Vec F S2064x128 .f32) → sProp 𝕄) :
    (iprop((owns (c : Thread nD τ) arg2 fullShare (G : S64.Idx → Elt F .i32)
        ∗ held (F := F) c arg14 ∗ held (F := F) c arg15 ∗ held (F := F) c arg18 ∗ held (F := F) c arg19 ∗ held (F := F) c arg20
        ∗ held (F := F) c arg21 ∗ held (F := F) c arg22)
      ∗ (∀ v114, (owns (c : Thread nD τ) arg2 fullShare (G : S64.Idx → Elt F .i32)
        ∗ owns (c : Thread nD τ) arg14 fullShare (k0_pay139 (F := F)) ∗ held (F := F) c arg15
        ∗ (∃ X18 X19 X20 X21, owns (c : Thread nD τ) arg18 fullShare (X18 : S64x128.Idx → Elt F .i32)
          ∗ owns (c : Thread nD τ) arg19 fullShare (X19 : S64x128.Idx → Elt F .i32)
          ∗ owns (c : Thread nD τ) arg20 fullShare (X20 : S8x128.Idx → Elt F .i32)
          ∗ owns (c : Thread nD τ) arg21 fullShare (X21 : S64.Idx → Elt F .i32)
          ∗ owns (c : Thread nD τ) arg22 fullShare ((fun _ => 0#32) : S1.Idx → Elt F .i32)
          ∗ ⌜Tables G X18 X19 X20 X21⌝)) -∗ K ⟨k0_pay140 (F := F), v114⟩)) : sProp 𝕄)
    ⊢ wp frame (wpE (defs₀ (F := F)) Variants.nat (c : Thread nD τ) none) Set.univ
        (k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1) K := by
  rw [k0_part19_eq_skeleton]
  unfold k0_part19_skel
  simp only [smemLoad, smemLoadElt, Prog.lift, Prog.bind_op, Prog.bind_ret, Prog.pure_eq_ret]
  iintro ⟨⟨H2, ⟨%X14, H14⟩, ⟨%X15, H15⟩, ⟨%X18, H18⟩, ⟨%X19, H19⟩, ⟨%X20, H20⟩, ⟨%X21, H21⟩, ⟨%X22, H22⟩⟩, HK⟩
  iapply (Scf.wp_for_bind frame (wpE (defs₀ (F := F)) Variants.nat (c : Thread nD τ) none) Set.univ _ _ _ (k0_t1_ok i h1) _ _
    (fun k acc => iprop(owns (c : Thread nD τ) arg2 fullShare (G : S64.Idx → Elt F .i32)
      ∗ (∃ X21 X18 X19, owns (c : Thread nD τ) arg21 fullShare (X21 : S64.Idx → Elt F .i32)
        ∗ owns (c : Thread nD τ) arg18 fullShare (X18 : S64x128.Idx → Elt F .i32)
        ∗ owns (c : Thread nD τ) arg19 fullShare (X19 : S64x128.Idx → Elt F .i32)
        ∗ ⌜Counted G k X21 X18 X19 ∧ Carried G k acc⌝)))
    (fun k acc => t1_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c h1 G k acc)) $$ [H2 H18 H19 H21]
  · isplitl [H2]; · iexact H2
    iexists X21, X18, X19
    isplitl [H21]; · iexact H21
    isplitl [H18]; · iexact H18
    isplitl [H19]; · iexact H19
    ipureintro
    exact ⟨⟨fun j h => absurd h (Nat.not_lt_zero _), fun j h => absurd h (Nat.not_lt_zero _), fun j h => absurd h (Nat.not_lt_zero _)⟩,
      ⟨rfl, fun j => (if_neg (Nat.not_lt_zero _)).symm, fun j => (if_neg (Nat.not_lt_zero _)).symm⟩⟩
  iintro %acc ⟨H2, ⟨%Y21, %Y18, %Y19, H21, H18, H19, %hh⟩⟩
  obtain ⟨s, sv, ev⟩ := acc
  rw [show Scf.trips k0_t1_loop.lb k0_t1_loop.ub k0_t1_loop.st = 64 from trips1] at hh
  obtain ⟨hc, ha⟩ := hh
  iapply (wp_ld Variants.nat (c : Thread nD τ) none Set.univ) $$ H20; iintro H20
  iapply (wp_st Variants.nat (c : Thread nD τ) none Set.univ) $$ H20; iintro H20
  iapply (wp_ld Variants.nat (c : Thread nD τ) none Set.univ) $$ H20; iintro H20
  iapply (wp_st Variants.nat (c : Thread nD τ) none Set.univ) $$ H20; iintro H20
  iapply (wp_ld Variants.nat (c : Thread nD τ) none Set.univ) $$ H22; iintro H22
  iapply (wp_st Variants.nat (c : Thread nD τ) none Set.univ) $$ H22; iintro H22
  iapply (wp_ld Variants.nat (c : Thread nD τ) none Set.univ) $$ H14; iintro H14
  iapply (wp_st Variants.nat (c : Thread nD τ) none Set.univ) $$ H14; iintro H14
  iapply (wp_ld Variants.nat (c : Thread nD τ) none Set.univ) $$ H15; iintro H15
  rw [wp_ret]; imodintro
  iapply HK
  isplitl [H2]; · iexact H2
  isplitl [H14]
  · rw [put_whole (s := S256x256)]; iexact H14
  isplitl [H15]; · iexists _; iexact H15
  iexists Y18, Y19, _, Y21
  isplitl [H18]; · iexact H18
  isplitl [H19]; · iexact H19
  isplitl [H20]; · iexact H20
  isplitl [H21]; · iexact H21
  isplitl [H22]
  · rw [put_whole (s := S1)]; iexact H22
  ipureintro
  exact ⟨hc, lanes_put G (s, sv, ev) ha X20⟩

end Cert.KernelIdeal.Own
-- ==== Proof.KI.Words.lean ====
module

public import proofs.«01_k».proof.Proof.KI.Init

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own

/-- Two experts in order meet every bound the tile loops ask for. -/
theorem chk4_of_le : ∀ a b : Fin 64, a.val ≤ b.val → k0_chk4 (BitVec.ofNat 32 a.val) (BitVec.ofNat 32 b.val) := by
  unfold k0_chk4
  decide +kernel

/-- The tile of the first expert. -/
theorem off38_eq : ∀ a : Fin 64, k0_off38 (BitVec.ofNat 32 a.val) = ![8 * (a.val / 8), 0] := by decide +kernel

/-- The tile of the first expert. -/
theorem off39_eq : ∀ a : Fin 64, k0_off39 (BitVec.ofNat 32 a.val) = ![8 * (a.val / 8), 0] := by decide +kernel

/-- The tile loop runs once per tile after the first. -/
theorem trips3 : ∀ a b : Fin 64, a.val ≤ b.val →
    (k0_t3_loop (BitVec.ofNat 32 a.val) (BitVec.ofNat 32 b.val)).trips = b.val / 8 - a.val / 8 := by decide +kernel

/-- The remainder loop never runs. -/
theorem trips4 : ∀ a b : Fin 64, a.val ≤ b.val →
    (k0_t4_loop (BitVec.ofNat 32 a.val) (BitVec.ofNat 32 b.val)).trips = 0 := by decide +kernel

/-- The tile of a trip. -/
theorem off40_eq : ∀ a b : Fin 64, a.val ≤ b.val → ∀ k : Fin (k0_t3_loop (BitVec.ofNat 32 a.val) (BitVec.ofNat 32 b.val)).trips,
    k0_off40 (BitVec.ofNat 32 a.val) (BitVec.ofNat 32 b.val) k = ![8 * (a.val / 8 + 1 + k.val), 0] := by decide +kernel

/-- The tile of a trip. -/
theorem off41_eq : ∀ a b : Fin 64, a.val ≤ b.val → ∀ k : Fin (k0_t3_loop (BitVec.ofNat 32 a.val) (BitVec.ofNat 32 b.val)).trips,
    k0_off41 (BitVec.ofNat 32 a.val) (BitVec.ofNat 32 b.val) k = ![8 * (a.val / 8 + 1 + k.val), 0] := by decide +kernel

end Cert.KernelIdeal.Own
-- ==== Proof.KI.Tiles.lean ====
module

public import proofs.«01_k».proof.Proof.KI.Words

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own

theorem tile_inb1 (r : ℕ) (h : r < 8) : ∀ a, (![8 * r, 0] : Fin 2 → ℕ) a + S8x1.size a ≤ S64x128.size a := by
  intro a; fin_cases a
  · show 8 * r + 8 ≤ 64; omega
  · show 0 + 1 ≤ 128; omega

theorem tile_inb (r : ℕ) (h : r < 8) : ∀ a, (![8 * r, 0] : Fin 2 → ℕ) a + S8x4096.size a ≤ S64x4096.size a := by
  intro a; fin_cases a
  · show 8 * r + 8 ≤ 64; omega
  · show 0 + 4096 ≤ 4096; omega

/-- The sums after tile `r` of eight experts has taken in the chunk of rows of grid point `i`. -/
noncomputable def tile (i : grid0.Coords) (X5 : S512x4096.Idx → Elt F .fp8e4m3) (X6 : S1x512.Idx → Elt F .f32)
    (X18 X19 : S64x128.Idx → BitVec 32) (r : ℕ) (X : S64x4096.Idx → Elt F .f32) : S64x4096.Idx → Elt F .f32 :=
  if h : r < 8 then
    put (Rect.unit (s := S64x4096) ![8 * r, 0] S8x4096.size (tile_inb r h)) Finset.univ
      (k0_pay370 (F := F) (k0_pay361 X6) (k0_pay362 X6) (k0_pay363 X6) (k0_pay364 i)
        (fun j => X18 ((Rect.unit (s := S64x128) ![8 * r, 0] S8x1.size (tile_inb1 r h)).idx j))
        (fun j => X19 ((Rect.unit (s := S64x128) ![8 * r, 0] S8x1.size (tile_inb1 r h)).idx j)) X5
        (fun j => X ((Rect.unit (s := S64x4096) ![8 * r, 0] S8x4096.size (tile_inb r h)).idx j))) X
  else X

/-- The sums after the first `n` tiles from tile `a`. -/
noncomputable def tiles (i : grid0.Coords) (X5 : S512x4096.Idx → Elt F .fp8e4m3) (X6 : S1x512.Idx → Elt F .f32)
    (X18 X19 : S64x128.Idx → BitVec 32) (a : ℕ) (X : S64x4096.Idx → Elt F .f32) : ℕ → S64x4096.Idx → Elt F .f32
  | 0 => X
  | n + 1 => tile i X5 X6 X18 X19 (a + n) (tiles i X5 X6 X18 X19 a X n)

/-- The stored block of a tile, at any spelling of its offsets. -/
theorem tile_put (i : grid0.Coords) (X5 : S512x4096.Idx → Elt F .fp8e4m3) (X6 : S1x512.Idx → Elt F .f32)
    (X18 X19 : S64x128.Idx → BitVec 32) (r : ℕ) (h : r < 8) (X : S64x4096.Idx → Elt F .f32) (o o' : Fin 2 → ℕ)
    (ho : o = ![8 * r, 0]) (ho' : o' = ![8 * r, 0]) (inb inb') :
    put (Rect.unit (s := S64x4096) o ![8, 4096] inb) Finset.univ
      (k0_pay370 (F := F) (k0_pay361 X6) (k0_pay362 X6) (k0_pay363 X6) (k0_pay364 i)
        (fun j => X18 ((Rect.unit (s := S64x128) o' ![8, 1] inb').idx j))
        (fun j => X19 ((Rect.unit (s := S64x128) o' ![8, 1] inb').idx j)) X5
        (fun j => X ((Rect.unit (s := S64x4096) o ![8, 4096] inb).idx j))) X = tile i X5 X6 X18 X19 r X := by
  subst ho ho'
  rw [tile, dif_pos h]

/-- The first tile's block, written apart in the body, is the block of the other tiles. -/
theorem pay369_eq (i : grid0.Coords) (X6 : S1x512.Idx → Elt F .f32) (a b : S8x1.Idx → BitVec 32)
    (X5 : S512x4096.Idx → Elt F .fp8e4m3) (X : S8x4096.Idx → Elt F .f32) :
    k0_pay369 (F := F) (k0_pay363 X6) (k0_pay365 (F := F) i a b) (k0_pay366 (F := F)) (k0_pay367 i X6 a b) (k0_pay368 X6) X5 X
      = k0_pay370 (F := F) (k0_pay361 X6) (k0_pay362 X6) (k0_pay363 X6) (k0_pay364 i) a b X5 X := rfl

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

set_option maxHeartbeats 1000000 in
/-- One trip of the tile loop. -/
theorem t3_trip (c : Dev nD) (a b : Fin 64) (hab : a.val ≤ b.val) (h3 : k0_chk3 (BitVec.ofNat 32 a.val))
    (h4 : k0_chk4 (BitVec.ofNat 32 a.val) (BitVec.ofNat 32 b.val)) (v9 v10 v26 : BitVec 32) (v35 v36 v39 v40)
    (X5 : S512x4096.Idx → Elt F .fp8e4m3) (X6 : S1x512.Idx → Elt F .f32)
    (X18 X19 : S64x128.Idx → BitVec 32) (X : S64x4096.Idx → Elt F .f32)
    (k : Fin (k0_t3_loop (BitVec.ofNat 32 a.val) (BitVec.ofNat 32 b.val)).trips) :
    (iprop(owns (c : Thread nD τ) arg5 fullShare X5 ∗ owns (c : Thread nD τ) arg18 fullShare (X18 : S64x128.Idx → Elt F .i32)
        ∗ owns (c : Thread nD τ) arg19 fullShare (X19 : S64x128.Idx → Elt F .i32)
        ∗ owns (c : Thread nD τ) arg17 fullShare (tiles i X5 X6 X18 X19 (a.val / 8) X (k.val + 1))) : sProp 𝕄)
    ⊢ wp frame (wpE (defs₀ (F := F)) Variants.nat (c : Thread nD τ) none) Set.univ
        (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 a.val) h3 (BitVec.ofNat 32 b.val) h4 v9 v10
          (k0_pay361 X6) (k0_pay362 X6) (k0_pay363 X6) (k0_pay364 i) v26 v35 v36 v39 v40 k ())
        fun _ => iprop(owns (c : Thread nD τ) arg5 fullShare X5 ∗ owns (c : Thread nD τ) arg18 fullShare (X18 : S64x128.Idx → Elt F .i32)
        ∗ owns (c : Thread nD τ) arg19 fullShare (X19 : S64x128.Idx → Elt F .i32)
        ∗ owns (c : Thread nD τ) arg17 fullShare (tiles i X5 X6 X18 X19 (a.val / 8) X (k.val + 1 + 1))) := by
  have hr : a.val / 8 + (k.val + 1) < 8 := by
    have := k.isLt; have := trips3 a b hab; have := b.isLt; omega
  unfold k0_t3_body
  simp only [Prog.lift, Prog.bind_op, Prog.bind_ret, Prog.pure_eq_ret]
  iintro ⟨H5, H18, H19, H17⟩
  iapply (wp_ld Variants.nat (c : Thread nD τ) none Set.univ) $$ H18; iintro H18
  iapply (wp_ld Variants.nat (c : Thread nD τ) none Set.univ) $$ H19; iintro H19
  iapply (wp_ld Variants.nat (c : Thread nD τ) none Set.univ) $$ H5; iintro H5
  iapply (wp_ld Variants.nat (c : Thread nD τ) none Set.univ) $$ H17; iintro H17
  iapply (wp_ld Variants.nat (c : Thread nD τ) none Set.univ) $$ H17; iintro H17
  iapply (wp_st Variants.nat (c : Thread nD τ) none Set.univ) $$ H17; iintro H17
  rw [wp_ret]; imodintro
  isplitl [H5]; · iexact H5
  isplitl [H18]; · iexact H18
  isplitl [H19]; · iexact H19
  rw [read_whole (s := S512x4096)]
  rw [show tiles i X5 X6 X18 X19 (a.val / 8) X (k.val + 1 + 1)
      = tile i X5 X6 X18 X19 (a.val / 8 + (k.val + 1)) (tiles i X5 X6 X18 X19 (a.val / 8) X (k.val + 1)) from rfl,
    ← tile_put i X5 X6 X18 X19 (a.val / 8 + (k.val + 1)) hr (tiles i X5 X6 X18 X19 (a.val / 8) X (k.val + 1)) _ _
      ((off41_eq a b hab k).trans (by rw [Nat.add_assoc, Nat.add_comm 1]))
      ((off40_eq a b hab k).trans (by rw [Nat.add_assoc, Nat.add_comm 1])) (k0_off41_inb _ _ h4 k) (k0_off40_inb _ _ h4 k)]
  iexact H17

set_option maxHeartbeats 1000000 in
/-- The tiles of one grid point: the sums take in the point's rows, tile by tile, and the two lane rows are read. -/
theorem part61_run (c : Dev nD) (a b : Fin 64) (hab : a.val ≤ b.val) (h3 : k0_chk3 (BitVec.ofNat 32 a.val))
    (h4 : k0_chk4 (BitVec.ofNat 32 a.val) (BitVec.ofNat 32 b.val)) (v9 v10 v26 : BitVec 32)
    (X5 : S512x4096.Idx → Elt F .fp8e4m3) (X6 : S1x512.Idx → Elt F .f32)
    (X18 X19 : S64x128.Idx → BitVec 32) (X20 : S8x128.Idx → BitVec 32) (X : S64x4096.Idx → Elt F .f32)
    (A B : S8x1.Idx → BitVec 32) (o' : Fin 2 → ℕ) (ho' : o' = ![8 * (a.val / 8), 0]) (inb')
    (hA : A = fun j => X18 ((Rect.unit (s := S64x128) o' S8x1.size inb').idx j))
    (hB : B = fun j => X19 ((Rect.unit (s := S64x128) o' S8x1.size inb').idx j))
    (K : (Σ' (_ : Vec F S1x128 .i32) (_ : Vec F S1x128 .i32) (_ : IVec S8x128 32), IVec S8x128 32) → sProp 𝕄) :
    (iprop((owns (c : Thread nD τ) arg5 fullShare X5 ∗ owns (c : Thread nD τ) arg18 fullShare (X18 : S64x128.Idx → Elt F .i32)
        ∗ owns (c : Thread nD τ) arg19 fullShare (X19 : S64x128.Idx → Elt F .i32)
        ∗ owns (c : Thread nD τ) arg20 fullShare (X20 : S8x128.Idx → Elt F .i32)
        ∗ owns (c : Thread nD τ) arg17 fullShare X)
      ∗ (∀ r, ⌜r = ⟨fun j => X20 ((Rect.unit (s := S8x128) ![0, 0] S1x128.size inb_S8x128_S1x128_0_0).idx j),
          fun j => X20 ((Rect.unit (s := S8x128) ![1, 0] S1x128.size inb_S8x128_S1x128_1_0).idx j),
          iota .tc S8x128 32 [0] iota_S8x128_d0_w32, iota .tc S8x128 32 [1] iota_S8x128_d1_w32⟩⌝
        -∗ (owns (c : Thread nD τ) arg5 fullShare X5 ∗ owns (c : Thread nD τ) arg18 fullShare (X18 : S64x128.Idx → Elt F .i32)
        ∗ owns (c : Thread nD τ) arg19 fullShare (X19 : S64x128.Idx → Elt F .i32)
        ∗ owns (c : Thread nD τ) arg20 fullShare (X20 : S8x128.Idx → Elt F .i32)
        ∗ owns (c : Thread nD τ) arg17 fullShare (tiles i X5 X6 X18 X19 (a.val / 8) X (b.val / 8 - a.val / 8 + 1)))
        -∗ K r)) : sProp 𝕄)
    ⊢ wp frame (wpE (defs₀ (F := F)) Variants.nat (c : Thread nD τ) none) Set.univ
        (k0_part61 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 a.val) h3 (BitVec.ofNat 32 b.val) h4 v9 v10
          (k0_pay361 X6) (k0_pay362 X6) (k0_pay363 X6) (k0_pay364 i) v26 (k0_pay365 (F := F) i A B) (k0_pay366 (F := F))
          (k0_pay367 i X6 A B) (k0_pay368 X6)) K := by
  have ha : a.val / 8 < 8 := by have := a.isLt; omega
  rw [k0_part61_eq_skeleton]
  unfold k0_part61_skel
  simp only [Prog.lift, Prog.bind_op, Prog.bind_ret, Prog.pure_eq_ret]
  iintro ⟨⟨H5, H18, H19, H20, H17⟩, HK⟩
  iapply (wp_ld Variants.nat (c : Thread nD τ) none Set.univ) $$ H5; iintro H5
  iapply (wp_ld Variants.nat (c : Thread nD τ) none Set.univ) $$ H17; iintro H17
  iapply (wp_ld Variants.nat (c : Thread nD τ) none Set.univ) $$ H17; iintro H17
  iapply (wp_st Variants.nat (c : Thread nD τ) none Set.univ) $$ H17; iintro H17
  iapply (Scf.wp_for_bind frame (wpE (defs₀ (F := F)) Variants.nat (c : Thread nD τ) none) Set.univ _ _ _
    (k0_t3_ok _ _ h4) _ _
    (fun k _ => iprop(owns (c : Thread nD τ) arg5 fullShare X5 ∗ owns (c : Thread nD τ) arg18 fullShare (X18 : S64x128.Idx → Elt F .i32)
        ∗ owns (c : Thread nD τ) arg19 fullShare (X19 : S64x128.Idx → Elt F .i32)
        ∗ owns (c : Thread nD τ) arg17 fullShare (tiles i X5 X6 X18 X19 (a.val / 8) X (k + 1))))
    (fun k _ => t3_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c a b hab h3 h4 v9 v10 v26 _ _ _ _ X5 X6 X18 X19 X k)) $$ [H5 H18 H19 H17]
  · isplitl [H5]; · iexact H5
    isplitl [H18]; · iexact H18
    isplitl [H19]; · iexact H19
    rw [read_whole (s := S512x4096), pay369_eq, hA, hB]
    rw [show tiles i X5 X6 X18 X19 (a.val / 8) X (0 + 1) = tile i X5 X6 X18 X19 (a.val / 8) X from rfl,
      ← tile_put i X5 X6 X18 X19 (a.val / 8) ha X _ _ (off39_eq a) ho' (k0_off39_inb _ h3) inb']
    iexact H17
  iintro %_ ⟨H5, H18, H19, H17⟩
  iapply (Scf.wp_for_bind frame (wpE (defs₀ (F := F)) Variants.nat (c : Thread nD τ) none) Set.univ _ _ _
    (k0_t4_ok _ _ h4) _ _ (fun _ _ => iprop(⌜True⌝))
    (fun k _ => absurd k.isLt (by
      have e : Scf.trips (k0_t4_loop (BitVec.ofNat 32 a.val) (BitVec.ofNat 32 b.val)).lb (k0_t4_loop (BitVec.ofNat 32 a.val) (BitVec.ofNat 32 b.val)).ub
        (k0_t4_loop (BitVec.ofNat 32 a.val) (BitVec.ofNat 32 b.val)).st = 0 := trips4 a b hab
      omega)))
  · ipureintro; trivial
  iintro %_ -
  iapply (wp_ld Variants.nat (c : Thread nD τ) none Set.univ) $$ H20; iintro H20
  iapply (wp_ld Variants.nat (c : Thread nD τ) none Set.univ) $$ H20; iintro H20
  rw [wp_ret]; imodintro
  iapply HK
  · ipureintro; rfl
  isplitl [H5]; · iexact H5
  isplitl [H18]; · iexact H18
  isplitl [H19]; · iexact H19
  isplitl [H20]; · iexact H20
  rw [show Scf.trips (k0_t3_loop (BitVec.ofNat 32 a.val) (BitVec.ofNat 32 b.val)).lb (k0_t3_loop (BitVec.ofNat 32 a.val) (BitVec.ofNat 32 b.val)).ub
    (k0_t3_loop (BitVec.ofNat 32 a.val) (BitVec.ofNat 32 b.val)).st = b.val / 8 - a.val / 8 from trips3 a b hab]
  iexact H17

end Cert.KernelIdeal.Own
-- ==== Proof.KI.Unset.lean ====
module

public import proofs.«01_k».proof.Proof.Gen.KernelIdeal.Loops
public import proofs.«01_k».proof.Proof.Common.Rules
public import Idealize.ShloMosaic.Lib.Pipeline.Value

@[expose] public section

/-!
# The marks of the places no row writes

The kernel keeps a table with one place for each pair of a token and an expert. The table starts out with a mark at every place.
A row of the sorted tokens clears the mark at the place of its own token and its own expert, and no other.
So the mark stays wherever no row joins the token and the expert.
-/

set_option maxRecDepth 16384

noncomputable section

namespace Cert.KernelIdeal.Own

open Cert.KernelIdeal Cert.KernelIdeal.Gen
open Idealize.ShloMosaic Idealize.ShloMosaic.TcCoe
open Cert.Own

variable {F : FTy → Type} [FloatOps F]

/-- The place of token `t` and expert `e` in the table: seven rows of padding come first. -/
def spot (t e : ℕ) (ht : t < 2048) (he : e < 64) : S2064x128.Idx := fun a =>
  match a with
  | ⟨0, _⟩ => ⟨t + 7, show t + 7 < 2064 by omega⟩
  | ⟨1, _⟩ => ⟨e, show e < 128 by omega⟩

/-- The place of expert `e` in a row of lanes. -/
def lane (e : ℕ) (he : e < 64) : S1x128.Idx := fun a =>
  match a with
  | ⟨0, _⟩ => ⟨0, show 0 < 1 by omega⟩
  | ⟨1, _⟩ => ⟨e, show e < 128 by omega⟩

/-- The mark lies at every pair of a token and an expert that `J` does not join. -/
def Unset (J : ℕ → ℕ → Prop) (X : S2064x128.Idx → BitVec 32) : Prop :=
  ∀ (t e : ℕ) (ht : t < 2048) (he : e < 64), ¬ J t e → X (spot t e ht he) = 2143338223#32

/-- The mask of a store: row `kw` of the eight, at the experts whose rows hold the row `w` and `kw` more. -/
def smask (w : BitVec 32) (v73 v74 : S1x128.Idx → BitVec 32) (v75 : IVec S8x128 32) (kw : BitVec 32) : IVec S8x128 1 :=
  andi (andi (cmpi .sge (addi (broadcast S8x128 w) v75) (broadcastTo S8x128 v73 broadcasts_S1x128_S8x128))
    (cmpi .slt (addi (broadcast S8x128 w) v75) (broadcastTo S8x128 v74 broadcasts_S1x128_S8x128)))
    (cmpi .eq v75 (broadcast S8x128 kw))

theorem and_one {a b : BitVec 1} (h : a &&& b = 1#1) : a = 1#1 ∧ b = 1#1 := by
  revert a b; decide

/-- Where a store's mask is on. -/
theorem smask_on {w : BitVec 32} {v73 v74 : S1x128.Idx → BitVec 32} {v75 : IVec S8x128 32} {kw : BitVec 32}
    (hv : ∀ x, v75 x = BitVec.ofNat 32 (x 0).val) {kk : ℕ} (hk : kw = BitVec.ofNat 32 kk) (hk7 : kk ≤ 7) {x : S8x128.Idx}
    (hx : smask w v73 v74 v75 kw x = 1#1) :
    (x 0).val = kk ∧ ∀ he : (x 1).val < 64, (v73 (lane _ he)).toInt ≤ (w + kw).toInt ∧ (w + kw).toInt < (v74 (lane _ he)).toInt := by
  have hx0 : (x 0).val < 8 := (x 0).isLt
  obtain ⟨h12, h3⟩ := and_one (show (andi (cmpi .sge (addi (broadcast S8x128 w) v75) (broadcastTo S8x128 v73 broadcasts_S1x128_S8x128))
    (cmpi .slt (addi (broadcast S8x128 w) v75) (broadcastTo S8x128 v74 broadcasts_S1x128_S8x128))) x &&& (cmpi .eq v75 (broadcast S8x128 kw)) x = 1#1 from hx)
  obtain ⟨h1, h2⟩ := and_one (show (cmpi .sge (addi (broadcast S8x128 w) v75) (broadcastTo S8x128 v73 broadcasts_S1x128_S8x128)) x &&&
    (cmpi .slt (addi (broadcast S8x128 w) v75) (broadcastTo S8x128 v74 broadcasts_S1x128_S8x128)) x = 1#1 from h12)
  have e : v75 x = kw := by
    have h : BitVec.ofBool (v75 x == kw) = 1#1 := h3
    by_contra hne
    rw [beq_eq_false_iff_ne.2 hne] at h
    exact absurd h (by decide)
  have ek : (x 0).val = kk := by
    have h := congrArg BitVec.toNat ((hv x).symm.trans (e.trans hk))
    simp only [BitVec.toNat_ofNat] at h
    omega
  refine ⟨ek, fun he => ?_⟩
  have b1 : ∀ v : S1x128.Idx → BitVec 32, broadcastTo S8x128 v broadcasts_S1x128_S8x128 x = v (lane _ he) := by
    intro v
    unfold broadcastTo
    refine congrArg v (funext fun a => ?_)
    match a with
    | ⟨0, _⟩ => rfl
    | ⟨1, _⟩ => rfl
  have g1 : BitVec.ofBool ((broadcastTo S8x128 v73 broadcasts_S1x128_S8x128 x).sle (w + v75 x)) = 1#1 := h1
  have g2 : BitVec.ofBool ((w + v75 x).slt (broadcastTo S8x128 v74 broadcasts_S1x128_S8x128 x)) = 1#1 := h2
  rw [b1, e] at g1 g2
  rw [BitVec.sle_eq_decide] at g1
  rw [BitVec.slt_eq_decide] at g2
  constructor
  · by_contra hn
    rw [decide_eq_false hn] at g1
    exact absurd g1 (by decide)
  · by_contra hn
    rw [decide_eq_false hn] at g2
    exact absurd g2 (by decide)

/-- A row's store keeps the marks at the pairs that no row joins. -/
theorem keep_row (arg16 : Memref sig .tc .vmem S2064x128 .i32) {J : ℕ → ℕ → Prop} {f : arg16.view.ty.Contents (Elt F)}
    (kk : ℕ) (tok b w kw : BitVec 32) {v73 v74 : S1x128.Idx → BitVec 32} {v75 : IVec S8x128 32}
    (off : Fin 2 → ℕ) (inb : ∀ a, off a + S8x128.size a ≤ S2064x128.size a)
    (pay : (Rect.unit (s := S2064x128) off S8x128.size inb).shape.Idx → Elt F .i32) (M : IVec S8x128 1)
    (hv : ∀ x, v75 x = BitVec.ofNat 32 (x 0).val)
    (hoff : off = ![(Scalar.addi tok b).toNat, 0]) (htok : tok.toNat < 2048) (hk : kw = BitVec.ofNat 32 kk) (hk7 : kk ≤ 7)
    (hb : b.toNat + kk = 7)
    (hJ : ∀ (e : ℕ) (he : e < 64), (v73 (lane e he)).toInt ≤ (w + kw).toInt → (w + kw).toInt < (v74 (lane e he)).toInt → J tok.toNat e)
    (hM : M = smask w v73 v74 v75 kw)
    (hf : Unset J (arg16.view.read (Elt F) f)) :
    Unset J (arg16.view.read (Elt F) ((arg16.access (Rect.unit off S8x128.size inb)).write (Elt F) f pay (IVec.on M))) := by
  have hr := read_write_eq_put arg16.view (Rect.unit (s := S2064x128) off S8x128.size inb) (IVec.on M) pay f
  intro t e ht he hn
  have hr' := congrFun hr (spot t e ht he)
  refine Eq.trans hr' ?_
  rw [put_off]
  · exact hf t e ht he hn
  · intro x hx hxe
    have hx1 : M x = 1#1 := by simpa [IVec.on] using hx
    rw [hM] at hx1
    obtain ⟨h0, h1⟩ := smask_on hv hk hk7 hx1
    have hadd : (Scalar.addi tok b).toNat = tok.toNat + b.toNat := by
      show (tok + b).toNat = _
      rw [BitVec.toNat_add]; omega
    have q0 : off 0 + 1 * (x 0).val = t + 7 := congrArg (fun y : S2064x128.Idx => (y 0).val) hxe
    have q1 : off 1 + 1 * (x 1).val = e := congrArg (fun y : S2064x128.Idx => (y 1).val) hxe
    have o0 : off 0 = tok.toNat + b.toNat := by rw [hoff]; exact hadd
    have o1 : off 1 = 0 := by rw [hoff]; rfl
    have et : t = tok.toNat := by omega
    have ee : (x 1).val = e := by omega
    obtain ⟨j1, j2⟩ := h1 (by omega)
    have := hJ _ (by omega) j1 j2
    rw [ee, ← et] at this
    exact hn this

/-- A row and its expert and token are joined. -/
def Joined (J : ℕ → ℕ → Prop) (T : S16384.Idx → BitVec 32) (v73 v74 : S1x128.Idx → BitVec 32) : Prop :=
  ∀ (p : S16384.Idx) (e : ℕ) (he : e < 64), (v73 (lane e he)).toInt ≤ (p 0).val → ((p 0).val : ℤ) < (v74 (lane e he)).toInt → J (T p).toNat e

theorem toInt_of_small {w : BitVec 32} {q : ℕ} (h : w.toNat = q) (hq : q < 16384) : w.toInt = q := by
  rw [BitVec.toInt_eq_toNat_of_lt (by omega), h]

theorem regroup (a x c m n : BitVec 32) (h : c + m = n) : (a + (x + c)) + m = (a + x) + n := by
  rw [← h]; ac_rfl

/-- A row's store keeps the marks, at the row's own number. -/
theorem keep_at (arg16 : Memref sig .tc .vmem S2064x128 .i32) {J : ℕ → ℕ → Prop} {f : arg16.view.ty.Contents (Elt F)}
    {T : S16384.Idx → BitVec 32} {v73 v74 : S1x128.Idx → BitVec 32} {v75 : IVec S8x128 32}
    (hv : ∀ x, v75 x = BitVec.ofNat 32 (x 0).val) (hJ : Joined J T v73 v74) (hT : ∀ p, (T p).toNat < 2048)
    (kk : ℕ) (a x c m n b : BitVec 32) (p : S16384.Idx)
    {off : Fin 2 → ℕ} {inb : ∀ a, off a + S8x128.size a ≤ S2064x128.size a}
    {pay : (Rect.unit (s := S2064x128) off S8x128.size inb).shape.Idx → Elt F .i32} {M : IVec S8x128 1}
    (hoff : off = ![(Scalar.addi (T p) b).toNat, 0]) (hk : m = BitVec.ofNat 32 kk) (hk7 : kk ≤ 7)
    (hb : b.toNat + kk = 7) (hn : c + m = n) (hp : (a + x + n).toNat = (p 0).val)
    (hM : M = smask (a + (x + c)) v73 v74 v75 m)
    (hf : Unset J (arg16.view.read (Elt F) f)) :
    Unset J (arg16.view.read (Elt F) ((arg16.access (Rect.unit off S8x128.size inb)).write (Elt F) f pay (IVec.on M))) :=
  keep_row arg16 kk (T p) b (a + (x + c)) m off inb pay M hv hoff (hT p) hk hk7 hb
    (fun e he h1 h2 => by
      have hq : (p 0).val < 16384 := (p 0).isLt
      rw [regroup a x c m n hn, toInt_of_small hp hq] at h1 h2
      exact hJ p e he h1 h2) hM hf

end Cert.KernelIdeal.Own
-- ==== Proof.KI.Enter.lean ====
module

public import proofs.«01_k».proof.Proof.KI.Tiles
public import proofs.«01_k».proof.Proof.KI.Unset

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own

/-- Owned contents are the reading of some buffer contents. -/
theorem owns_open (c : Dev nD) {sp : Space} {s : Shape} {e : EltTy} (m : Memref sig .tc sp s e) (X : s.Idx → Elt F e) :
    (owns (c : Thread nD τ) m fullShare X : sProp 𝕄) ⊢ iprop(∃ f, ⌜m.view.read (Elt F) f = X⌝ ∗ (m.view.loc (c : Thread nD τ) ↦[m.view.set]{fullShare} f)) :=
  .rfl

/-- Buffer contents are owned at their reading. -/
theorem owns_shut (c : Dev nD) {sp : Space} {s : Shape} {e : EltTy} (m : Memref sig .tc sp s e) (f : BufTy.Contents (Elt F) m.view.ty) :
    ((m.view.loc (c : Thread nD τ) ↦[m.view.set]{fullShare} f) : sProp 𝕄) ⊢ owns (c : Thread nD τ) m fullShare (m.view.read (Elt F) f) := by
  show _ ⊢ iprop(∃ g, ⌜m.view.read (Elt F) g = m.view.read (Elt F) f⌝ ∗ (m.view.loc (c : Thread nD τ) ↦[m.view.set]{fullShare} g))
  iintro H
  iexists f
  isplitr
  · ipureintro; rfl
  · iexact H

/-- A memref owned at some contents, from one owned at known ones. -/
theorem held_intro (c : Dev nD) {sp : Space} {s : Shape} {e : EltTy} (m : Memref sig .tc sp s e) (X : s.Idx → Elt F e) :
    (owns (c : Thread nD τ) m fullShare X : sProp 𝕄) ⊢ held (F := F) c m := by
  iintro H
  iexists X
  iexact H

/-- Every expert before `e` ends at or before row `w`. -/
def Behind (G : S64.Idx → BitVec 32) (w : BitVec 32) (e : ℕ) : Prop := ∀ x < e, Scalar.cmpi .sle (pre G (x + 1)) w = 1#1

theorem lo_toInt : ∀ t : Fin 32, (Scalar.muli (BitVec.ofNat 32 t.val) 512#32).toInt = 512 * t.val := by decide +kernel

theorem hi_toInt : ∀ t : Fin 32, (Scalar.addi (Scalar.muli (BitVec.ofNat 32 t.val) 512#32) 511#32).toInt = 512 * t.val + 511 := by
  decide +kernel

theorem sle_iff (a b : BitVec 32) : Scalar.cmpi .sle a b = 1#1 ↔ a.toInt ≤ b.toInt := by
  show BitVec.ofBool (a.sle b) = 1#1 ↔ _
  rw [BitVec.sle_eq_decide]
  by_cases h : a.toInt ≤ b.toInt <;> simp [h]

theorem sle_of_le (a b b' : BitVec 32) (h : Scalar.cmpi .sle a b = 1#1) (hb : b.toInt ≤ b'.toInt) : Scalar.cmpi .sle a b' = 1#1 :=
  (sle_iff a b').2 (le_trans ((sle_iff a b).1 h) hb)

theorem scanLo_le (i : grid0.Coords) : (scanLo i).toInt ≤ (scanHi i).toInt := by
  have h1 := lo_toInt (i 0)
  have h2 := hi_toInt (i 0)
  show (Scalar.muli (BitVec.ofNat 32 (i 0).val) 512#32).toInt ≤ (Scalar.addi (Scalar.muli (BitVec.ofNat 32 (i 0).val) 512#32) 511#32).toInt
  omega

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

/-- The scratch buffers before the first grid point: they hold anything. -/
def Blank (c : Dev nD) : sProp 𝕄 :=
  iprop(held (F := F) c arg13 ∗ held (F := F) c arg14 ∗ held (F := F) c arg15 ∗ held (F := F) c arg16 ∗ held (F := F) c arg17
    ∗ held (F := F) c arg18 ∗ held (F := F) c arg19 ∗ held (F := F) c arg20 ∗ held (F := F) c arg21 ∗ held (F := F) c arg22)

/-- The scratch buffers once the tables are there: `w` is the row the point starts at, `I` what is known of the sums, `J` the pairs
    whose marks may be gone. -/
def Ready (c : Dev nD) (G : S64.Idx → BitVec 32) (w : BitVec 32) (I : (S64x4096.Idx → Elt F .f32) → Prop) (J : ℕ → ℕ → Prop) : sProp 𝕄 :=
  iprop(held (F := F) c arg13 ∗ held (F := F) c arg14 ∗ held (F := F) c arg15
    ∗ (∃ X16, owns (c : Thread nD τ) arg16 fullShare (X16 : S2064x128.Idx → Elt F .i32) ∗ ⌜Unset J X16⌝)
    ∗ (∃ X17, owns (c : Thread nD τ) arg17 fullShare X17 ∗ ⌜I X17⌝)
    ∗ (∃ X18 X19 X20 X21 e, owns (c : Thread nD τ) arg18 fullShare (X18 : S64x128.Idx → Elt F .i32)
      ∗ owns (c : Thread nD τ) arg19 fullShare (X19 : S64x128.Idx → Elt F .i32)
      ∗ owns (c : Thread nD τ) arg20 fullShare (X20 : S8x128.Idx → Elt F .i32)
      ∗ owns (c : Thread nD τ) arg21 fullShare (X21 : S64.Idx → Elt F .i32)
      ∗ owns (c : Thread nD τ) arg22 fullShare ((fun _ => BitVec.ofNat 32 e) : S1.Idx → Elt F .i32)
      ∗ ⌜Tables G X18 X19 X20 X21 ∧ e < 64 ∧ Behind G w e⌝))

set_option maxHeartbeats 2000000 in
/-- The head of a grid point: at the first one the tables are filled, and at every one the two scans find the first and the
    last expert of the point's rows. -/
theorem part60_run (c : Dev nD) (G : S64.Idx → BitVec 32) (I : (S64x4096.Idx → Elt F .f32) → Prop) (J : ℕ → ℕ → Prop) (S : sProp 𝕄)
    (hS : k0_cond1 i = 1#1 → S ⊢ Blank arg13 arg14 arg15 arg16 arg17 arg18 arg19 arg20 arg21 arg22 c)
    (hS' : k0_cond1 i ≠ 1#1 → S ⊢ Ready arg13 arg14 arg15 arg16 arg17 arg18 arg19 arg20 arg21 arg22 c G (scanLo i) I J)
    (hI : k0_cond1 i = 1#1 → I (k0_pay358 (F := F)))
    (hlo : Scalar.cmpi .sle (pre G 64) (scanLo i) ≠ 1#1) (hhi : Scalar.cmpi .sle (pre G 64) (scanHi i) ≠ 1#1)
    (X3 : S2048x4096.Idx → Elt F .i8) (X6 : S1x512.Idx → Elt F .f32) (K : _ → sProp 𝕄) :
    (iprop((S ∗ owns (c : Thread nD τ) arg2 fullShare (G : S64.Idx → Elt F .i32) ∗ owns (c : Thread nD τ) arg3 fullShare X3
        ∗ owns (c : Thread nD τ) arg6 fullShare X6)
      ∗ (∀ (a b : Fin 64) h3 h4 X16 X17 X18 X19 X20 X21 A B o' inb' r,
        ⌜a.val ≤ b.val ∧ Tables G X18 X19 X20 X21 ∧ Unset J X16 ∧ I X17 ∧ Behind G (scanLo i) a.val ∧ Behind G (scanHi i) b.val
          ∧ Scalar.cmpi .sle (pre G (b.val + 1)) (scanHi i) ≠ 1#1 ∧ o' = ![8 * (a.val / 8), 0]
          ∧ A = (fun j => X18 ((Rect.unit (s := S64x128) o' S8x1.size inb').idx j))
          ∧ B = (fun j => X19 ((Rect.unit (s := S64x128) o' S8x1.size inb').idx j))
          ∧ r = ⟨BitVec.ofNat 32 (i 0).val, scanLo i, BitVec.ofNat 32 a.val, h3, BitVec.ofNat 32 b.val, h4,
            Scalar.shrui (BitVec.ofNat 32 a.val) 3#32, Scalar.shrui (BitVec.ofNat 32 b.val) 3#32, k0_pay361 X6, k0_pay362 X6,
            k0_pay363 X6, k0_pay364 i, Scalar.muli (Scalar.shrui (BitVec.ofNat 32 a.val) 3#32) 8#32, k0_pay365 (F := F) i A B,
            k0_pay366 (F := F), k0_pay367 i X6 A B, k0_pay368 X6⟩⌝
        -∗ (owns (c : Thread nD τ) arg2 fullShare (G : S64.Idx → Elt F .i32) ∗ owns (c : Thread nD τ) arg3 fullShare X3
          ∗ owns (c : Thread nD τ) arg6 fullShare X6
          ∗ held (F := F) c arg13 ∗ held (F := F) c arg14 ∗ held (F := F) c arg15
          ∗ owns (c : Thread nD τ) arg16 fullShare (X16 : S2064x128.Idx → Elt F .i32)
          ∗ owns (c : Thread nD τ) arg17 fullShare X17 ∗ owns (c : Thread nD τ) arg18 fullShare (X18 : S64x128.Idx → Elt F .i32)
          ∗ owns (c : Thread nD τ) arg19 fullShare (X19 : S64x128.Idx → Elt F .i32)
          ∗ owns (c : Thread nD τ) arg20 fullShare (X20 : S8x128.Idx → Elt F .i32)
          ∗ owns (c : Thread nD τ) arg21 fullShare (X21 : S64.Idx → Elt F .i32)
          ∗ owns (c : Thread nD τ) arg22 fullShare ((fun _ => BitVec.ofNat 32 b.val) : S1.Idx → Elt F .i32))
        -∗ K r)) : sProp 𝕄)
    ⊢ wp frame (wpE (defs₀ (F := F)) Variants.nat (c : Thread nD τ) none) Set.univ
        (k0_part60 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  rw [k0_part60_eq_skeleton]
  unfold k0_part60_skel
  simp only [smemLoad, smemLoadElt, Prog.lift, Prog.bind_op, Prog.bind_ret, Prog.pure_eq_ret]
  iintro ⟨⟨HS, H2, H3, H6⟩, HK⟩
  by_cases h1 : k0_cond1 i = 1#1
  on_goal 1 =>
    simp only [h1, ↓reduceDIte]
    rw [wp_bind]
    ihave HS := (hS h1) $$ HS
    unfold Blank
    icases HS with ⟨⟨%X13, H13⟩, ⟨%X14, H14⟩, ⟨%X15, H15⟩, ⟨%X16, H16⟩, ⟨%X17, H17⟩, ⟨%X18, H18⟩, ⟨%X19, H19⟩, ⟨%X20, H20⟩, ⟨%X21, H21⟩, ⟨%X22, H22⟩⟩
    iapply (part19_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c h1 G)
    isplitl [H2 H14 H15 H18 H19 H20 H21 H22]
    · isplitl [H2]; · iexact H2
      isplitl [H14]; · iexists X14; iexact H14
      isplitl [H15]; · iexists X15; iexact H15
      isplitl [H18]; · iexists X18; iexact H18
      isplitl [H19]; · iexists X19; iexact H19
      isplitl [H20]; · iexists X20; iexact H20
      isplitl [H21]; · iexists X21; iexact H21
      iexists X22; iexact H22
    iintro %v114 ⟨H2, H14, ⟨%Y15, H15⟩, ⟨%Y18, %Y19, %Y20, %Y21, H18, H19, H20, H21, H22, %hT⟩⟩
    simp only [smemLoad, smemLoadElt, Prog.lift, Prog.bind_op, Prog.bind_ret, Prog.pure_eq_ret]
    iapply (wp_st Variants.nat (c : Thread nD τ) none Set.univ) $$ H15; iintro H15
    iapply (wp_ld Variants.nat (c : Thread nD τ) none Set.univ) $$ H16; iintro H16
    iapply (wp_st Variants.nat (c : Thread nD τ) none Set.univ) $$ H16; iintro H16
    iapply (wp_ld Variants.nat (c : Thread nD τ) none Set.univ) $$ H17; iintro H17
    iapply (wp_st Variants.nat (c : Thread nD τ) none Set.univ) $$ H17; iintro H17
    ihave H13 := (owns_open c arg13 X13) $$ H13
    icases H13 with ⟨%f13, %_, H13⟩
    ihave H3 := (owns_open c arg3 X3) $$ H3
    icases H3 with ⟨%f3, %hf3, H3⟩
    iapply (Scf.wp_for_bind frame (wpE (defs₀ (F := F)) Variants.nat (c : Thread nD τ) none) Set.univ _ _ _
      (k0_t2_ok i h1) _ _ (fun _ _ => iprop((arg3.view.loc (c : Thread nD τ) ↦[arg3.view.set]{fullShare} f3)
        ∗ (∃ f, arg13.view.loc (c : Thread nD τ) ↦[arg13.view.set]{fullShare} f)))
      (fun k _ => t2_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c h1 f3 k)) $$ [H3 H13]
    · isplitl [H3]; · iexact H3
      iexists f13; iexact H13
    iintro %_ ⟨H3, ⟨%g13, H13⟩⟩
    ihave H3 := (owns_shut c arg3 f3) $$ H3
    rw [hf3]
    ihave H13 := (owns_shut c arg13 g13) $$ H13
    rw [put_whole (s := S64x4096), put_whole (s := S2064x128), put_whole (s := S2064x128)]
    have hU : Unset J k0_pay357 := fun t e ht he _ => rfl
    generalize k0_pay357 = Y16 at hU ⊢
    have hI17 := hI h1
    generalize k0_pay358 (F := F) = Y17 at hI17 ⊢
    ihave H13 := (held_intro c arg13 _) $$ H13
    ihave H14 := (held_intro c arg14 _) $$ H14
    ihave H15 := (held_intro c arg15 _) $$ H15
    obtain ⟨e, hx⟩ : ∃ e, e = 0 := ⟨0, rfl⟩
    have h0 : ((fun _ => 0#32) : S1.Idx → BitVec 32) = fun _ => BitVec.ofNat 32 e := by rw [hx]
    rw [h0]
    have hB : Behind G (scanLo i) e := fun x h => absurd h (by omega)
    have he : e < 64 := by omega
  on_goal 2 =>
    simp only [h1, ↓reduceDIte]
    ihave HS := (hS' h1) $$ HS
    unfold Ready
    icases HS with ⟨H13, H14, H15, ⟨%Y16, H16, %hU⟩, ⟨%Y17, H17, %hI17⟩, ⟨%Y18, %Y19, %Y20, %Y21, %e, H18, H19, H20, H21, H22, %hT⟩⟩
    obtain ⟨hT, he, hB⟩ := hT
  all_goals
    have h63 : Y21 (ix64 63 (by decide)) = pre G 64 := hT.counted.ends _ (by decide)
    iapply (wp_ld Variants.nat (c : Thread nD τ) none Set.univ) $$ H22; iintro H22
    beta_reduce
    iapply (wp_call_spec Variants.nat (c : Thread nD τ) none Set.univ (scanSpec c arg21 Y21 (scanLo i) e) (63 - e)
      (fun u hu => nomatch hu) (scan1_le c i arg21 harg21 Y21 Set.univ (by rw [h63]; exact hlo) (63 - e) e (by omega)))
    rw [scanSpec_apply]
    isplitl [H21]; · iexact H21
    iintro %r %hr H21
    obtain ⟨a, ha, hea, rfl, -, hra⟩ := hr
    have hBa : Behind G (scanLo i) a := fun x hx => by
      rcases Nat.lt_or_ge x e with h5 | h5
      · exact hB x h5
      · rw [← hra x (by omega) h5 hx]; exact congrArg (fun z => Scalar.cmpi .sle z _) (hT.counted.ends (ix64 x (by omega)) (by show x < 64; omega)).symm
    iapply (wp_assume Variants.nat (c : Thread nD τ) none Set.univ (chk3_of_lt ⟨a, ha⟩))
    iapply (wp_call_spec Variants.nat (c : Thread nD τ) none Set.univ (scanSpec c arg21 Y21 (scanHi i) a) (63 - a)
      (fun u hu => nomatch hu) (scan2_le c i arg21 harg21 Y21 Set.univ (by rw [h63]; exact hhi) (63 - a) a (by omega)))
    rw [scanSpec_apply]
    isplitl [H21]; · iexact H21
    iintro %r %hr H21
    obtain ⟨b, hb, hab, rfl, hnb, hrb⟩ := hr
    iapply (wp_assume Variants.nat (c : Thread nD τ) none Set.univ (chk4_of_le ⟨a, ha⟩ ⟨b, hb⟩ hab))
    iapply (wp_ld Variants.nat (c : Thread nD τ) none Set.univ) $$ H22; iintro H22
    iapply (wp_st Variants.nat (c : Thread nD τ) none Set.univ) $$ H22; iintro H22
    rw [put_whole (s := S1)]
    iapply (wp_ld Variants.nat (c : Thread nD τ) none Set.univ) $$ H6; iintro H6
    rw [read_whole (s := S1x512)]
    iapply (wp_ld Variants.nat (c : Thread nD τ) none Set.univ) $$ H18; iintro H18
    iapply (wp_ld Variants.nat (c : Thread nD τ) none Set.univ) $$ H19; iintro H19
    rw [wp_ret]; imodintro
    iapply HK $$ %⟨a, ha⟩ %⟨b, hb⟩ %(chk3_of_lt ⟨a, ha⟩) %(chk4_of_le ⟨a, ha⟩ ⟨b, hb⟩ hab) %Y16 %Y17 %Y18 %Y19 %Y20 %Y21 %_ %_
      %(k0_off38 (BitVec.ofNat 32 a)) %(k0_off38_inb _ (chk3_of_lt ⟨a, ha⟩)) %_
    · ipureintro
      refine ⟨hab, hT, hU, hI17, hBa, fun x hx => ?_, ?_, off38_eq ⟨a, ha⟩, rfl, rfl, rfl⟩
      · rcases Nat.lt_or_ge x a with h5 | h5
        · exact sle_of_le _ _ _ (hBa x h5) (scanLo_le i)
        · rw [← hrb x (by omega) h5 hx]
          exact congrArg (fun z => Scalar.cmpi .sle z _) (hT.counted.ends (ix64 x (by omega)) (by show x < 64; omega)).symm
      · intro h
        apply hnb
        rw [← h]
        exact congrArg (fun z => Scalar.cmpi .sle z _) (hT.counted.ends (ix64 b hb) (by show b < 64; omega))
    isplitl [H2]; · iexact H2
    isplitl [H3]; · iexact H3
    isplitl [H6]; · iexact H6
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.KernelIdeal.Own
-- ==== Proof.KI.T5.lean ====
module

public import proofs.«01_k».proof.Proof.Gen.KernelIdeal.Loops
public import proofs.«01_k».proof.Proof.KI.Unset

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

/-- A token index below 2048 names rows inside the word table and inside the two tables written. -/
theorem tok_ok (v : BitVec 32) (h : v.toNat < 2048) (b : BitVec 32) (hb : b.toNat ≤ 7) :
    (∀ a : Fin 2, (![(Scalar.muli v 9#32).toNat, 0] : Fin 2 → ℕ) a + S8x128.size a ≤ S18432x128.size a)
    ∧ (∀ a : Fin 2, (![(Scalar.addi v b).toNat, 0] : Fin 2 → ℕ) a + S8x128.size a ≤ S2064x128.size a) := by
  have h9 : (Scalar.muli v 9#32).toNat = v.toNat * 9 := by
    show (v * 9#32).toNat = _
    rw [BitVec.toNat_mul]; simp only [BitVec.toNat_ofNat]; omega
  have h7 : (Scalar.addi v b).toNat = v.toNat + b.toNat := by
    show (v + b).toNat = _
    rw [BitVec.toNat_add]; omega
  rw [h9, h7]
  constructor <;> intro a <;> fin_cases a
  · show v.toNat * 9 + 8 ≤ 18432; omega
  · show 0 + 128 ≤ 128; omega
  · show v.toNat + b.toNat + 8 ≤ 2064; omega
  · show 0 + 128 ≤ 128; omega

/-- The place a row's token is read from. -/
def rowAt (off : Fin 1 → ℕ) (inb : ∀ a, off a + S1.size a ≤ S16384.size a) : S16384.Idx :=
  (Rect.unit (s := S16384) off S1.size inb).toLoadRect.idx (Shape.Idx.first (show 0 < S1.numel by decide))

/-- The row a grid point starts at. -/
def scanW (i : grid0.Coords) : BitVec 32 := Scalar.muli (BitVec.ofNat 32 (i 0).val) 512#32

set_option maxHeartbeats 4000000 in
set_option sl_exec.dischHeartbeats 400000 in
/-- One trip of the token loop keeps the buffers it reads and leaves some numbers in the two tables it writes;
    it keeps the marks of the pairs that no row joins. -/
theorem t5_trip (c : Dev nD) (v73 : Vec F S1x128 .i32) (v74 : Vec F S1x128 .i32) (v75 : IVec S8x128 32)
    (v76 : IVec S8x128 32) (v77 : Vec F S256x256 .fp8e5m2)
    (X1 : BufTy.Contents (Elt F) arg1.view.ty) (hX1 : ∀ p, (arg1.view.read (Elt F) X1 p : BitVec 32).toNat < 2048) (X5 : BufTy.Contents (Elt F) arg5.view.ty)
    (X6 : BufTy.Contents (Elt F) arg6.view.ty) (J : ℕ → ℕ → Prop)
    (hv : ∀ x, v75 x = BitVec.ofNat 32 (x 0).val) (hJ : Joined J (arg1.view.read (Elt F) X1) v73 v74) (X13 : BufTy.Contents (Elt F) arg13.view.ty) (k : Fin k0_t5_loop.trips) :
    (iprop((arg1.view.loc (c : Thread nD τ) ↦[arg1.view.set]{fullShare} X1)
      ∗ (arg5.view.loc (c : Thread nD τ) ↦[arg5.view.set]{fullShare} X5)
      ∗ (arg6.view.loc (c : Thread nD τ) ↦[arg6.view.set]{fullShare} X6)
      ∗ (arg13.view.loc (c : Thread nD τ) ↦[arg13.view.set]{fullShare} X13)
      ∗ (∃ f, arg15.view.loc (c : Thread nD τ) ↦[arg15.view.set]{fullShare} f)
      ∗ (∃ f, ⌜Unset J (arg16.view.read (Elt F) f)⌝ ∗ arg16.view.loc (c : Thread nD τ) ↦[arg16.view.set]{fullShare} f)) : sProp 𝕄)
    ⊢ wp frame (wpE (defs₀ (F := F)) Variants.nat (c : Thread nD τ) none) Set.univ
        (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (scanW i) v73 v74 v75 v76 v77 k ())
        (fun _ => iprop((arg1.view.loc (c : Thread nD τ) ↦[arg1.view.set]{fullShare} X1)
      ∗ (arg5.view.loc (c : Thread nD τ) ↦[arg5.view.set]{fullShare} X5)
      ∗ (arg6.view.loc (c : Thread nD τ) ↦[arg6.view.set]{fullShare} X6)
      ∗ (arg13.view.loc (c : Thread nD τ) ↦[arg13.view.set]{fullShare} X13)
      ∗ (∃ f, arg15.view.loc (c : Thread nD τ) ↦[arg15.view.set]{fullShare} f)
      ∗ (∃ f, ⌜Unset J (arg16.view.read (Elt F) f)⌝ ∗ arg16.view.loc (c : Thread nD τ) ↦[arg16.view.set]{fullShare} f))) := by
  unfold k0_t5_body
  iintro ⟨H1, H5, H6, H13, ⟨%f15, H15⟩, ⟨%f16, %hf, H16⟩⟩
  sl_exec (disch := exact tok_ok _ (hX1 _) _ (by decide))
  sl_step
  isplitl [H1]; · iexact H1
  isplitl [H5]; · iexact H5
  isplitl [H6]; · iexact H6
  isplitl [H13]; · iexact H13
  isplitl [H15]; · iexists _; iexact H15
  iexists _
  isplitr
  swap; · iexact H16
  · ipureintro
    unfold t5_trip.sl.H16_w64
    refine keep_at arg16 hv hJ hX1 7 (scanW i) (t5_trip.sl.v968 k) 8#32 7#32 15#32 0#32 (rowAt (k0_off110 i k 15#32) (k0_off110_inb i k 15)) rfl rfl (by decide) rfl rfl rfl (by first | exact shapeCast_self _ _ | rfl) ?_
    unfold t5_trip.sl.H16_w62
    refine keep_at arg16 hv hJ hX1 6 (scanW i) (t5_trip.sl.v968 k) 8#32 6#32 14#32 1#32 (rowAt (k0_off110 i k 14#32) (k0_off110_inb i k 14)) rfl rfl (by decide) rfl rfl rfl (by first | exact shapeCast_self _ _ | rfl) ?_
    unfold t5_trip.sl.H16_w60
    refine keep_at arg16 hv hJ hX1 5 (scanW i) (t5_trip.sl.v968 k) 8#32 5#32 13#32 2#32 (rowAt (k0_off110 i k 13#32) (k0_off110_inb i k 13)) rfl rfl (by decide) rfl rfl rfl (by first | exact shapeCast_self _ _ | rfl) ?_
    unfold t5_trip.sl.H16_w58
    refine keep_at arg16 hv hJ hX1 4 (scanW i) (t5_trip.sl.v968 k) 8#32 4#32 12#32 3#32 (rowAt (k0_off110 i k 12#32) (k0_off110_inb i k 12)) rfl rfl (by decide) rfl rfl rfl (by first | exact shapeCast_self _ _ | rfl) ?_
    unfold t5_trip.sl.H16_w56
    refine keep_at arg16 hv hJ hX1 3 (scanW i) (t5_trip.sl.v968 k) 8#32 3#32 11#32 4#32 (rowAt (k0_off110 i k 11#32) (k0_off110_inb i k 11)) rfl rfl (by decide) rfl rfl rfl (by first | exact shapeCast_self _ _ | rfl) ?_
    unfold t5_trip.sl.H16_w54
    refine keep_at arg16 hv hJ hX1 2 (scanW i) (t5_trip.sl.v968 k) 8#32 2#32 10#32 5#32 (rowAt (k0_off110 i k 10#32) (k0_off110_inb i k 10)) rfl rfl (by decide) rfl rfl rfl (by first | exact shapeCast_self _ _ | rfl) ?_
    unfold t5_trip.sl.H16_w52
    refine keep_at arg16 hv hJ hX1 1 (scanW i) (t5_trip.sl.v968 k) 8#32 1#32 9#32 6#32 (rowAt (k0_off110 i k 9#32) (k0_off110_inb i k 9)) rfl rfl (by decide) rfl rfl rfl (by first | exact shapeCast_self _ _ | rfl) ?_
    unfold t5_trip.sl.H16_w50
    refine keep_at arg16 hv hJ hX1 0 (scanW i) (t5_trip.sl.v968 k) 8#32 0#32 8#32 7#32 (rowAt (k0_off110 i k 8#32) (k0_off110_inb i k 8)) rfl rfl (by decide) rfl rfl rfl (by first | exact shapeCast_self _ _ | rfl) ?_
    unfold t5_trip.sl.H16_w48
    refine keep_at arg16 hv hJ hX1 7 (scanW i) (t5_trip.sl.v968 k) 0#32 7#32 7#32 0#32 (rowAt (k0_off110 i k 7#32) (k0_off110_inb i k 7)) rfl rfl (by decide) rfl rfl rfl (by first | exact shapeCast_self _ _ | rfl) ?_
    unfold t5_trip.sl.H16_w46
    refine keep_at arg16 hv hJ hX1 6 (scanW i) (t5_trip.sl.v968 k) 0#32 6#32 6#32 1#32 (rowAt (k0_off110 i k 6#32) (k0_off110_inb i k 6)) rfl rfl (by decide) rfl rfl rfl (by first | exact shapeCast_self _ _ | rfl) ?_
    unfold t5_trip.sl.H16_w44
    refine keep_at arg16 hv hJ hX1 5 (scanW i) (t5_trip.sl.v968 k) 0#32 5#32 5#32 2#32 (rowAt (k0_off110 i k 5#32) (k0_off110_inb i k 5)) rfl rfl (by decide) rfl rfl rfl (by first | exact shapeCast_self _ _ | rfl) ?_
    unfold t5_trip.sl.H16_w42
    refine keep_at arg16 hv hJ hX1 4 (scanW i) (t5_trip.sl.v968 k) 0#32 4#32 4#32 3#32 (rowAt (k0_off110 i k 4#32) (k0_off110_inb i k 4)) rfl rfl (by decide) rfl rfl rfl (by first | exact shapeCast_self _ _ | rfl) ?_
    unfold t5_trip.sl.H16_w40
    refine keep_at arg16 hv hJ hX1 3 (scanW i) (t5_trip.sl.v968 k) 0#32 3#32 3#32 4#32 (rowAt (k0_off110 i k 3#32) (k0_off110_inb i k 3)) rfl rfl (by decide) rfl rfl rfl (by first | exact shapeCast_self _ _ | rfl) ?_
    unfold t5_trip.sl.H16_w38
    refine keep_at arg16 hv hJ hX1 2 (scanW i) (t5_trip.sl.v968 k) 0#32 2#32 2#32 5#32 (rowAt (k0_off110 i k 2#32) (k0_off110_inb i k 2)) rfl rfl (by decide) rfl rfl rfl (by first | exact shapeCast_self _ _ | rfl) ?_
    unfold t5_trip.sl.H16_w36
    refine keep_at arg16 hv hJ hX1 1 (scanW i) (t5_trip.sl.v968 k) 0#32 1#32 1#32 6#32 (rowAt (k0_off110 i k 1#32) (k0_off110_inb i k 1)) rfl rfl (by decide) rfl rfl rfl (by first | exact shapeCast_self _ _ | rfl) ?_
    unfold t5_trip.sl.H16_w34
    refine keep_at arg16 hv hJ hX1 0 (scanW i) (t5_trip.sl.v968 k) 0#32 0#32 0#32 7#32 (rowAt (k0_off110 i k 0#32) (k0_off110_inb i k 0)) rfl rfl (by decide) rfl rfl rfl (by first | exact shapeCast_self _ _ | rfl) ?_
    unfold t5_trip.sl.H16_w32
    refine keep_at arg16 hv hJ hX1 7 (scanW i) (t5_trip.sl.v86 k) 8#32 7#32 15#32 0#32 (rowAt (k0_off44 i k 15#32) (k0_off44_inb i k 15)) rfl rfl (by decide) rfl rfl rfl (by first | exact shapeCast_self _ _ | rfl) ?_
    unfold t5_trip.sl.H16_w30
    refine keep_at arg16 hv hJ hX1 6 (scanW i) (t5_trip.sl.v86 k) 8#32 6#32 14#32 1#32 (rowAt (k0_off44 i k 14#32) (k0_off44_inb i k 14)) rfl rfl (by decide) rfl rfl rfl (by first | exact shapeCast_self _ _ | rfl) ?_
    unfold t5_trip.sl.H16_w28
    refine keep_at arg16 hv hJ hX1 5 (scanW i) (t5_trip.sl.v86 k) 8#32 5#32 13#32 2#32 (rowAt (k0_off44 i k 13#32) (k0_off44_inb i k 13)) rfl rfl (by decide) rfl rfl rfl (by first | exact shapeCast_self _ _ | rfl) ?_
    unfold t5_trip.sl.H16_w26
    refine keep_at arg16 hv hJ hX1 4 (scanW i) (t5_trip.sl.v86 k) 8#32 4#32 12#32 3#32 (rowAt (k0_off44 i k 12#32) (k0_off44_inb i k 12)) rfl rfl (by decide) rfl rfl rfl (by first | exact shapeCast_self _ _ | rfl) ?_
    unfold t5_trip.sl.H16_w24
    refine keep_at arg16 hv hJ hX1 3 (scanW i) (t5_trip.sl.v86 k) 8#32 3#32 11#32 4#32 (rowAt (k0_off44 i k 11#32) (k0_off44_inb i k 11)) rfl rfl (by decide) rfl rfl rfl (by first | exact shapeCast_self _ _ | rfl) ?_
    unfold t5_trip.sl.H16_w22
    refine keep_at arg16 hv hJ hX1 2 (scanW i) (t5_trip.sl.v86 k) 8#32 2#32 10#32 5#32 (rowAt (k0_off44 i k 10#32) (k0_off44_inb i k 10)) rfl rfl (by decide) rfl rfl rfl (by first | exact shapeCast_self _ _ | rfl) ?_
    unfold t5_trip.sl.H16_w20
    refine keep_at arg16 hv hJ hX1 1 (scanW i) (t5_trip.sl.v86 k) 8#32 1#32 9#32 6#32 (rowAt (k0_off44 i k 9#32) (k0_off44_inb i k 9)) rfl rfl (by decide) rfl rfl rfl (by first | exact shapeCast_self _ _ | rfl) ?_
    unfold t5_trip.sl.H16_w18
    refine keep_at arg16 hv hJ hX1 0 (scanW i) (t5_trip.sl.v86 k) 8#32 0#32 8#32 7#32 (rowAt (k0_off44 i k 8#32) (k0_off44_inb i k 8)) rfl rfl (by decide) rfl rfl rfl (by first | exact shapeCast_self _ _ | rfl) ?_
    unfold t5_trip.sl.H16_w16
    refine keep_at arg16 hv hJ hX1 7 (scanW i) (t5_trip.sl.v86 k) 0#32 7#32 7#32 0#32 (rowAt (k0_off44 i k 7#32) (k0_off44_inb i k 7)) rfl rfl (by decide) rfl rfl rfl (by first | exact shapeCast_self _ _ | rfl) ?_
    unfold t5_trip.sl.H16_w14
    refine keep_at arg16 hv hJ hX1 6 (scanW i) (t5_trip.sl.v86 k) 0#32 6#32 6#32 1#32 (rowAt (k0_off44 i k 6#32) (k0_off44_inb i k 6)) rfl rfl (by decide) rfl rfl rfl (by first | exact shapeCast_self _ _ | rfl) ?_
    unfold t5_trip.sl.H16_w12
    refine keep_at arg16 hv hJ hX1 5 (scanW i) (t5_trip.sl.v86 k) 0#32 5#32 5#32 2#32 (rowAt (k0_off44 i k 5#32) (k0_off44_inb i k 5)) rfl rfl (by decide) rfl rfl rfl (by first | exact shapeCast_self _ _ | rfl) ?_
    unfold t5_trip.sl.H16_w10
    refine keep_at arg16 hv hJ hX1 4 (scanW i) (t5_trip.sl.v86 k) 0#32 4#32 4#32 3#32 (rowAt (k0_off44 i k 4#32) (k0_off44_inb i k 4)) rfl rfl (by decide) rfl rfl rfl (by first | exact shapeCast_self _ _ | rfl) ?_
    unfold t5_trip.sl.H16_w8
    refine keep_at arg16 hv hJ hX1 3 (scanW i) (t5_trip.sl.v86 k) 0#32 3#32 3#32 4#32 (rowAt (k0_off44 i k 3#32) (k0_off44_inb i k 3)) rfl rfl (by decide) rfl rfl rfl (by first | exact shapeCast_self _ _ | rfl) ?_
    unfold t5_trip.sl.H16_w6
    refine keep_at arg16 hv hJ hX1 2 (scanW i) (t5_trip.sl.v86 k) 0#32 2#32 2#32 5#32 (rowAt (k0_off44 i k 2#32) (k0_off44_inb i k 2)) rfl rfl (by decide) rfl rfl rfl (by first | exact shapeCast_self _ _ | rfl) ?_
    unfold t5_trip.sl.H16_w4
    refine keep_at arg16 hv hJ hX1 1 (scanW i) (t5_trip.sl.v86 k) 0#32 1#32 1#32 6#32 (rowAt (k0_off44 i k 1#32) (k0_off44_inb i k 1)) rfl rfl (by decide) rfl rfl rfl (by first | exact shapeCast_self _ _ | rfl) ?_
    unfold t5_trip.sl.H16_w2
    refine keep_at arg16 hv hJ hX1 0 (scanW i) (t5_trip.sl.v86 k) 0#32 0#32 0#32 7#32 (rowAt (k0_off44 i k 0#32) (k0_off44_inb i k 0)) rfl rfl (by decide) rfl rfl rfl (by first | exact shapeCast_self _ _ | rfl) ?_
    exact hf

end Cert.KernelIdeal.Own
-- ==== Proof.KI.T67.lean ====
module

public import proofs.«01_k».proof.Proof.KI.Init
public import proofs.«01_k».proof.Proof.KI.Unset

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Own

local notation "𝕄" => MT nD τ sig Unit (Elt F) ℕ (UR sig nD τ) ℕ

/-- An index of a block of 128 tokens and the experts. -/
def at64 (a : ℕ) (ha : a < 128) (e : ℕ) (he : e < 64) : S128x64.Idx := fun d =>
  match d with
  | ⟨0, _⟩ => ⟨a, ha⟩
  | ⟨1, _⟩ => ⟨e, he⟩

/-- An index of a block of 128 tokens and 128 lanes. -/
def at128 (a : ℕ) (ha : a < 128) (e : ℕ) (he : e < 128) : S128x128.Idx := fun d =>
  match d with
  | ⟨0, _⟩ => ⟨a, ha⟩
  | ⟨1, _⟩ => ⟨e, he⟩

/-- An index of the tokens and the experts. -/
def pairAt (t : ℕ) (ht : t < 2048) (e : ℕ) (he : e < 64) : S2048x64.Idx := fun d =>
  match d with
  | ⟨0, _⟩ => ⟨t, ht⟩
  | ⟨1, _⟩ => ⟨e, he⟩

/-- The 128 tokens of a block, read from all the tokens. -/
def dyBlock (X3 : S2048x4096.Idx → Elt F .i8) (q : ℕ) : S128x4096.Idx → Elt F .i8 := fun y =>
  X3 (fun d => match d with
    | ⟨0, _⟩ => ⟨(128 * q + (y 0).val) % 2048, Nat.mod_lt _ (by decide)⟩
    | ⟨1, _⟩ => y 1)

/-- The scales of the 128 tokens of a block. -/
def scBlock (X4 : S2x1024.Idx → Elt F .f32) (q : ℕ) : S1x128.Idx → Elt F .f32 := fun y =>
  X4 (fun d => match d with
    | ⟨0, _⟩ => ⟨q / 8 % 2, Nat.mod_lt _ (by decide)⟩
    | ⟨1, _⟩ => ⟨(128 * (q % 8) + (y 1).val) % 1024, Nat.mod_lt _ (by decide)⟩)

/-- The dense products of a block of tokens beside the tokens' scales. -/
def denseTr (v107 : FVec F S64x4096 .bf16) (v117 : Vec F S128x4096 .i8) (v122 : Vec F S1x128 .f32) : FVec F S128x128 .f32 :=
  transpose S128x128 [1, 0] (concatenate S128x128 0 [⟨S64x128, matmul dot_S64x4096_S128x4096_S64x128_1_1_0_0_n_n none v107
      (bitcastToFloat .fp8e5m2 (shapeCast S128x4096 v117 shapeCasts_S128x4096_S128x4096)) (constant S64x128 .f32 0x00000000#32)⟩,
    ⟨S64x128, broadcastTo S64x128 (shapeCast S1x128 v122 shapeCasts_S1x128_S1x128) broadcasts_S1x128_S64x128⟩]
    concatenates_S64x128_S64x128_S128x128_d0) transposes_S128x128_p1_0_S128x128

/-- What a block's result holds at a pair whose mark lies: the dense product times the token's scale. -/
theorem pay352_at (v107 : FVec F S64x4096 .bf16) (v117 : Vec F S128x4096 .i8) (v122 : Vec F S1x128 .f32) (v130 : Vec F S128x128 .f32)
    (v134 : Vec F S128x128 .i32) (a : ℕ) (ha : a < 128) (e : ℕ) (he : e < 64) (h : v134 (at128 a ha e (by omega)) = 2143338223#32) :
    k0_pay352 v107 v117 v122 v130 v134 (at64 a ha e he)
      = FloatOps.mulf (denseTr v107 v117 v122 (at128 a ha e (by omega))) (denseTr v107 v117 v122 (at128 a ha 64 (by omega))) := by
  have i1 : ∀ v : S128x128.Idx → F .f32, extractStridedSlice S128x64 ![0, 0] v slices_S128x128_o0_0_S128x64 (at64 a ha e he)
      = v (at128 a ha e (by omega)) := by
    intro v
    refine congrArg v (funext fun d => Fin.ext ?_)
    match d with
    | ⟨0, _⟩ => show 0 + a = a; omega
    | ⟨1, _⟩ => show 0 + e = e; omega
  have i2 : ∀ v : S128x128.Idx → F .f32, broadcastTo S128x64 (extractStridedSlice S128x1 ![0, 64] v slices_S128x128_o0_64_S128x1)
      broadcasts_S128x1_S128x64 (at64 a ha e he) = v (at128 a ha 64 (by omega)) := by
    intro v
    unfold broadcastTo
    refine congrArg v (funext fun d => Fin.ext ?_)
    match d with
    | ⟨0, _⟩ => show 0 + a = a; omega
    | ⟨1, _⟩ => rfl
  show FloatOps.mulf (extractStridedSlice S128x64 ![0, 0] (select (cmpi .eq v134 (broadcast S128x128 2143338223#32)) (denseTr v107 v117 v122) v130)
      slices_S128x128_o0_0_S128x64 (at64 a ha e he))
    (broadcastTo S128x64 (extractStridedSlice S128x1 ![0, 64] (denseTr v107 v117 v122) slices_S128x128_o0_64_S128x1)
      broadcasts_S128x1_S128x64 (at64 a ha e he)) = _
  rw [i1, i2]
  show FloatOps.mulf (Scalar.select (IntOp.cmpi .eq (v134 (at128 a ha e (by omega))) 2143338223#32) _ _) _ = _
  rw [h]
  rfl

/-- The first `n` tokens' results hold the dense product at every pair whose mark lies. -/
def Dense (J : ℕ → ℕ → Prop) (v105 : Vec F S64x4096 .f32) (X3 : S2048x4096.Idx → Elt F .i8) (X4 : S2x1024.Idx → Elt F .f32) (n : ℕ)
    (X11 : S2048x64.Idx → Elt F .f32) : Prop :=
  ∀ (t : ℕ) (ht : t < 2048) (e : ℕ) (he : e < 64), t < n → ¬ J t e → X11 (pairAt t ht e he)
    = FloatOps.mulf (denseTr (k0_pay6 v105) (dyBlock X3 (t / 128)) (scBlock X4 (t / 128)) (at128 (t % 128) (Nat.mod_lt _ (by decide)) e (by omega)))
        (denseTr (k0_pay6 v105) (dyBlock X3 (t / 128)) (scBlock X4 (t / 128)) (at128 (t % 128) (Nat.mod_lt _ (by decide)) 64 (by omega)))

theorem dy_read (X3 : S2048x4096.Idx → Elt F .i8) (q : ℕ) (hq : q < 16) {o : Fin 2 → ℕ} (inb) (ho : o = ![128 * q, 0]) :
    (fun j => X3 ((Rect.unit (s := S2048x4096) o S128x4096.size inb).idx j)) = dyBlock X3 q := by
  subst ho
  funext y
  have hy : (y 0).val < 128 := (y 0).isLt
  refine congrArg X3 (funext fun d => Fin.ext ?_)
  match d with
  | ⟨0, _⟩ => show 128 * q + 1 * (y 0).val = (128 * q + (y 0).val) % 2048; omega
  | ⟨1, _⟩ => show 0 + 1 * (y 1).val = (y 1).val; omega

theorem sc_read (X4 : S2x1024.Idx → Elt F .f32) (q : ℕ) (hq : q < 16) {o : Fin 2 → ℕ} (inb) (ho : o = ![q / 8, 128 * (q % 8)]) :
    (fun j => X4 ((Rect.unit (s := S2x1024) o S1x128.size inb).idx j)) = scBlock X4 q := by
  subst ho
  funext y
  have hy : (y 1).val < 128 := (y 1).isLt
  have hy0 : (y 0).val < 1 := (y 0).isLt
  refine congrArg X4 (funext fun d => Fin.ext ?_)
  match d with
  | ⟨0, _⟩ => show q / 8 + 1 * (y 0).val = q / 8 % 2; omega
  | ⟨1, _⟩ => show 128 * (q % 8) + 1 * (y 1).val = (128 * (q % 8) + (y 1).val) % 1024; omega

theorem mark_read {J : ℕ → ℕ → Prop} {X16 : S2064x128.Idx → BitVec 32} (hU : Unset J X16) (q : ℕ) (hq : q < 16) {o : Fin 2 → ℕ} (inb)
    (ho : o = ![128 * q + 7, 0]) (a : ℕ) (ha : a < 128) (e : ℕ) (he : e < 64) (hj : ¬ J (128 * q + a) e) :
    X16 ((Rect.unit (s := S2064x128) o S128x128.size inb).idx (at128 a ha e (by omega))) = 2143338223#32 := by
  subst ho
  rw [← hU (128 * q + a) e (by omega) he hj]
  refine congrArg X16 (funext fun d => Fin.ext ?_)
  match d with
  | ⟨0, _⟩ => show 128 * q + 7 + 1 * a = 128 * q + a + 7; omega
  | ⟨1, _⟩ => show 0 + 1 * e = e; omega

/-- A block's store adds the block's tokens. -/
theorem dense_put {J : ℕ → ℕ → Prop} {v105 : Vec F S64x4096 .f32} {X3 : S2048x4096.Idx → Elt F .i8} {X4 : S2x1024.Idx → Elt F .f32}
    {X11 : S2048x64.Idx → Elt F .f32} (q : ℕ) (hq : q < 16) (v117 : Vec F S128x4096 .i8) (v122 : Vec F S1x128 .f32)
    (v130 : Vec F S128x128 .f32) (v134 : Vec F S128x128 .i32)
    {o : Fin 2 → ℕ} (inb) (ho : o = ![128 * q, 0]) (h3 : v117 = dyBlock X3 q) (h4 : v122 = scBlock X4 q)
    (hU : ∀ a (ha : a < 128) e (he : e < 64), ¬ J (128 * q + a) e → v134 (at128 a ha e (by omega)) = 2143338223#32)
    (hD : Dense J v105 X3 X4 (128 * q) X11) :
    Dense J v105 X3 X4 (128 * (q + 1)) (put (Rect.unit (s := S2048x64) o S128x64.size inb) Finset.univ
      (k0_pay352 (k0_pay6 v105) v117 v122 v130 v134) X11) := by
  subst ho h3 h4
  intro t ht e he hn hj
  by_cases hlt : t < 128 * q
  · rw [put_unit_out _ _ _ _ _ _ _ (0 : Fin 2) (by left; show t < 128 * q; exact hlt)]
    exact hD t ht e he hlt hj
  · obtain ⟨a, ha, rfl⟩ : ∃ a, a < 128 ∧ t = 128 * q + a := ⟨t - 128 * q, by omega, by omega⟩
    have hd : (128 * q + a) / 128 = q := by omega
    have hm : (128 * q + a) % 128 = a := by omega
    rw [put_unit_in _ _ _ _ _ _ (fun d => by
      fin_cases d
      · show 128 * q ≤ 128 * q + a ∧ 128 * q + a < 128 * q + 128; omega
      · show 0 ≤ e ∧ e < 0 + 64; omega)]
    have hi : ∀ (h0 : ∀ d : Fin 2, ((pairAt (128 * q + a) ht e he) d).val - (![128 * q, 0] : Fin 2 → ℕ) d < S128x64.size d), (fun d : Fin 2 => ⟨((pairAt (128 * q + a) ht e he) d).val - (![128 * q, 0] : Fin 2 → ℕ) d, h0 d⟩ : S128x64.Idx)
        = at64 a ha e he := by
      intro h0
      funext d
      refine Fin.ext ?_
      match d with
      | ⟨0, _⟩ => show 128 * q + a - 128 * q = a; omega
      | ⟨1, _⟩ => show e - 0 = e; omega
    refine (congrArg _ (hi _)).trans ((pay352_at _ _ _ _ _ _ _ _ _ (hU a ha e he hj)).trans ?_)
    have hz : ∀ (b : ℕ) (hb : b < 128) (f : ℕ) (hf : f < 128), b = a → at128 b hb f hf = at128 a ha f hf := by
      intro b hb f hf hba
      subst hba
      rfl
    rw [hz _ _ e (by omega) hm, hz _ _ 64 (by omega) hm, hd]

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

/-- What the two result loops read and write: they keep what they read, and leave some numbers in the first result and the dense
    product at the pairs whose mark lies in the third. -/
def Late (c : Dev nD) (J : ℕ → ℕ → Prop) (v105 : Vec F S64x4096 .f32) (X3 : S2048x4096.Idx → Elt F .i8) (X4 : S2x1024.Idx → Elt F .f32)
    (X7 : S2048x64.Idx → Elt F .f32) (X16 : S2064x128.Idx → Elt F .i32) (n : ℕ) : sProp 𝕄 :=
  iprop(owns (c : Thread nD τ) arg3 fullShare X3 ∗ owns (c : Thread nD τ) arg4 fullShare X4 ∗ owns (c : Thread nD τ) arg7 fullShare X7
    ∗ held (F := F) c arg15 ∗ owns (c : Thread nD τ) arg16 fullShare X16 ∗ held (F := F) c arg9
    ∗ (∃ X11, owns (c : Thread nD τ) arg11 fullShare X11 ∗ ⌜Dense J v105 X3 X4 n X11⌝))

theorem off6 : ∀ k : Fin k0_t6_loop.trips, k.val < 8 ∧ k0_off179 k = ![128 * k.val, 0] ∧ k0_off176 k = ![128 * k.val, 0]
    ∧ k0_off177 k = ![k.val / 8, 128 * (k.val % 8)] ∧ k0_off178 k = ![128 * k.val + 7, 0] := by
  decide +kernel

theorem off7 : ∀ k : Fin k0_t7_loop.trips, k.val < 8 ∧ k0_off183 k = ![128 * (8 + k.val), 0] ∧ k0_off180 k = ![128 * (8 + k.val), 0]
    ∧ k0_off181 k = ![(8 + k.val) / 8, 128 * ((8 + k.val) % 8)] ∧ k0_off182 k = ![128 * (8 + k.val) + 7, 0] := by
  decide +kernel

/-- One trip of the first result loop. -/
theorem t6_trip (c : Dev nD) (h2 : k0_cond2 i = 1#1) {J : ℕ → ℕ → Prop} (v105 : Vec F S64x4096 .f32) (X3 X4 X7 X16) (hU : Unset J X16) (k : Fin k0_t6_loop.trips) :
    Late arg3 arg4 arg7 arg9 arg11 arg15 arg16 c J v105 X3 X4 X7 X16 (128 * (k.val))
    ⊢ wp frame (wpE (defs₀ (F := F)) Variants.nat (c : Thread nD τ) none) Set.univ
        (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 v105 k ())
        (fun _ => Late arg3 arg4 arg7 arg9 arg11 arg15 arg16 c J v105 X3 X4 X7 X16 (128 * ((k.val + 1)))) := by
  obtain ⟨hk, o1, o2, o3, o4⟩ := off6 k
  unfold k0_t6_body
  rw [k0_part58_eq_skeleton]
  unfold k0_part58_skel
  simp only [Prog.lift, Prog.bind_op, Prog.bind_ret, Prog.pure_eq_ret]
  unfold Late
  iintro ⟨H3, H4, H7, ⟨%X15, H15⟩, H16, ⟨%X9, H9⟩, ⟨%X11, H11, %hD⟩⟩
  iapply (wp_ld Variants.nat (c : Thread nD τ) none Set.univ) $$ H3; iintro H3
  iapply (wp_ld Variants.nat (c : Thread nD τ) none Set.univ) $$ H4; iintro H4
  iapply (wp_ld Variants.nat (c : Thread nD τ) none Set.univ) $$ H15; iintro H15
  iapply (wp_ld Variants.nat (c : Thread nD τ) none Set.univ) $$ H16; iintro H16
  iapply (wp_ld Variants.nat (c : Thread nD τ) none Set.univ) $$ H11; iintro H11
  iapply (wp_st Variants.nat (c : Thread nD τ) none Set.univ) $$ H11; iintro H11
  iapply (wp_ld Variants.nat (c : Thread nD τ) none Set.univ) $$ H7; iintro H7
  iapply (wp_ld Variants.nat (c : Thread nD τ) none Set.univ) $$ H9; iintro H9
  iapply (wp_st Variants.nat (c : Thread nD τ) none Set.univ) $$ H9; iintro H9
  rw [wp_ret]; imodintro
  isplitl [H3]; · iexact H3
  isplitl [H4]; · iexact H4
  isplitl [H7]; · iexact H7
  isplitl [H15]; · iexists X15; iexact H15
  isplitl [H16]; · iexact H16
  isplitl [H9]; · iexists _; iexact H9
  iexists _
  isplitl [H11]; · iexact H11
  ipureintro
  exact dense_put (k.val) (by omega) _ _ _ _ _ o1 (dy_read X3 _ (by omega) _ o2) (sc_read X4 _ (by omega) _ o3)
    (fun a ha e he hj => mark_read hU _ (by omega) _ o4 a ha e he hj) hD

/-- One trip of the second result loop. -/
theorem t7_trip (c : Dev nD) (h2 : k0_cond2 i = 1#1) {J : ℕ → ℕ → Prop} (v105 : Vec F S64x4096 .f32) (X3 X4 X7 X16) (hU : Unset J X16) (k : Fin k0_t7_loop.trips) :
    Late arg3 arg4 arg7 arg9 arg11 arg15 arg16 c J v105 X3 X4 X7 X16 (128 * (8 + k.val))
    ⊢ wp frame (wpE (defs₀ (F := F)) Variants.nat (c : Thread nD τ) none) Set.univ
        (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 v105 k ())
        (fun _ => Late arg3 arg4 arg7 arg9 arg11 arg15 arg16 c J v105 X3 X4 X7 X16 (128 * (8 + (k.val + 1)))) := by
  obtain ⟨hk, o1, o2, o3, o4⟩ := off7 k
  unfold k0_t7_body
  rw [k0_part59_eq_skeleton]
  unfold k0_part59_skel
  simp only [Prog.lift, Prog.bind_op, Prog.bind_ret, Prog.pure_eq_ret]
  unfold Late
  iintro ⟨H3, H4, H7, ⟨%X15, H15⟩, H16, ⟨%X9, H9⟩, ⟨%X11, H11, %hD⟩⟩
  iapply (wp_ld Variants.nat (c : Thread nD τ) none Set.univ) $$ H3; iintro H3
  iapply (wp_ld Variants.nat (c : Thread nD τ) none Set.univ) $$ H4; iintro H4
  iapply (wp_ld Variants.nat (c : Thread nD τ) none Set.univ) $$ H15; iintro H15
  iapply (wp_ld Variants.nat (c : Thread nD τ) none Set.univ) $$ H16; iintro H16
  iapply (wp_ld Variants.nat (c : Thread nD τ) none Set.univ) $$ H11; iintro H11
  iapply (wp_st Variants.nat (c : Thread nD τ) none Set.univ) $$ H11; iintro H11
  iapply (wp_ld Variants.nat (c : Thread nD τ) none Set.univ) $$ H7; iintro H7
  iapply (wp_ld Variants.nat (c : Thread nD τ) none Set.univ) $$ H9; iintro H9
  iapply (wp_st Variants.nat (c : Thread nD τ) none Set.univ) $$ H9; iintro H9
  rw [wp_ret]; imodintro
  isplitl [H3]; · iexact H3
  isplitl [H4]; · iexact H4
  isplitl [H7]; · iexact H7
  isplitl [H15]; · iexists X15; iexact H15
  isplitl [H16]; · iexact H16
  isplitl [H9]; · iexists _; iexact H9
  iexists _
  isplitl [H11]; · iexact H11
  ipureintro
  exact dense_put (8 + k.val) (by omega) _ _ _ _ _ o1 (dy_read X3 _ (by omega) _ o2) (sc_read X4 _ (by omega) _ o3)
    (fun a ha e he hj => mark_read hU _ (by omega) _ o4 a ha e he hj) hD

end Cert.KernelIdeal.Own
-- ==== Proof.KI.Body.lean ====
module

public import proofs.«01_k».proof.Proof.KI.Enter
public import proofs.«01_k».proof.Proof.KI.T5
public import proofs.«01_k».proof.Proof.KI.T67

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

/-- A later first row keeps what is known of the scratch buffers. -/
theorem ready_mono (c : Dev nD) (G : S64.Idx → BitVec 32) (w w' : BitVec 32) (I : (S64x4096.Idx → Elt F .f32) → Prop)
    (J : ℕ → ℕ → Prop) (h : w.toInt ≤ w'.toInt) :
    Ready arg13 arg14 arg15 arg16 arg17 arg18 arg19 arg20 arg21 arg22 c G w I J
      ⊢ Ready arg13 arg14 arg15 arg16 arg17 arg18 arg19 arg20 arg21 arg22 c G w' I J := by
  unfold Ready
  iintro ⟨H13, H14, H15, H16, H17, ⟨%X18, %X19, %X20, %X21, %e, H18, H19, H20, H21, H22, %hT⟩⟩
  isplitl [H13]; · iexact H13
  isplitl [H14]; · iexact H14
  isplitl [H15]; · iexact H15
  isplitl [H16]; · iexact H16
  isplitl [H17]; · iexact H17
  iexists X18, X19, X20, X21, e
  isplitl [H18]; · iexact H18
  isplitl [H19]; · iexact H19
  isplitl [H20]; · iexact H20
  isplitl [H21]; · iexact H21
  isplitl [H22]; · iexact H22
  ipureintro
  exact ⟨hT.1, hT.2.1, fun x hx => sle_of_le _ _ _ (hT.2.2 x hx) h⟩

/-- The pairs of a token and an expert that some row joins. -/
def Joins (T : S16384.Idx → BitVec 32) (G : S64.Idx → BitVec 32) (t e : ℕ) : Prop :=
  ∃ p : S16384.Idx, (T p).toNat = t ∧ (pre G e).toInt ≤ (p 0).val ∧ ((p 0).val : ℤ) < (pre G (e + 1)).toInt

/-- The rows that the lanes' starts and ends tell of are the experts'. -/
theorem joined_lanes (T : S16384.Idx → BitVec 32) (G : S64.Idx → BitVec 32) (X18 X19 : S64x128.Idx → BitVec 32) (X20 : S8x128.Idx → BitVec 32)
    (X21 : S64.Idx → BitVec 32) (hT : Tables G X18 X19 X20 X21) (inb0 inb1) :
    Joined (Joins T G) T (fun j => X20 ((Rect.unit (s := S8x128) ![0, 0] S1x128.size inb0).idx j))
      (fun j => X20 ((Rect.unit (s := S8x128) ![1, 0] S1x128.size inb1).idx j)) := by
  intro p e he h0 h1
  have e0 : X20 ((Rect.unit (s := S8x128) ![0, 0] S1x128.size inb0).idx (lane e he)) = pre G e := by
    rw [hT.lanes.starts _ (by show 0 + 1 * 0 = 0; rfl)]
    have h1 : ((Rect.unit (s := S8x128) ![0, 0] S1x128.size inb0).idx (lane e he) 1).val = e := by show 0 + 1 * e = e; omega
    rw [h1, if_pos he]
  have e1 : X20 ((Rect.unit (s := S8x128) ![1, 0] S1x128.size inb1).idx (lane e he)) = pre G (e + 1) := by
    rw [hT.lanes.stops _ (by show 1 + 1 * 0 = 1; rfl)]
    have h1 : ((Rect.unit (s := S8x128) ![1, 0] S1x128.size inb1).idx (lane e he) 1).val = e := by show 0 + 1 * e = e; omega
    rw [h1, if_pos he]
  have h0' : (X20 ((Rect.unit (s := S8x128) ![0, 0] S1x128.size inb0).idx (lane e he))).toInt ≤ (p 0).val := h0
  have h1' : ((p 0).val : ℤ) < (X20 ((Rect.unit (s := S8x128) ![1, 0] S1x128.size inb1).idx (lane e he))).toInt := h1
  rw [e0] at h0'
  rw [e1] at h1'
  exact ⟨p, rfl, h0', h1'⟩

/-- What the last grid point leaves in the results of the sums. -/
def Last (G : S64.Idx → BitVec 32) (I : (S64x4096.Idx → Elt F .f32) → Prop) (X8 X10 X12 : S64x4096.Idx → Elt F .f32) : Prop :=
  ∃ X17 X18 X19 X20 X21, Tables G X18 X19 X20 X21 ∧ I X17 ∧ X12 = k0_pay4 (F := F) X19 X18 X17 ∧ X10 = k0_pay5 (F := F) X19 X18 X17 X8

set_option maxHeartbeats 2000000 in
/-- One grid point of the kernel. -/
theorem body_run (c : Dev nD) (G : S64.Idx → BitVec 32) (I I' : (S64x4096.Idx → Elt F .f32) → Prop) (S : sProp 𝕄)
    (X1 : S16384.Idx → BitVec 32) (hX1 : ∀ p, (X1 p).toNat < 2048)
    (hS : k0_cond1 i = 1#1 → S ⊢ Blank arg13 arg14 arg15 arg16 arg17 arg18 arg19 arg20 arg21 arg22 c)
    (hS' : k0_cond1 i ≠ 1#1 → S ⊢ Ready arg13 arg14 arg15 arg16 arg17 arg18 arg19 arg20 arg21 arg22 c G (scanLo i) I (Joins X1 G))
    (hI : k0_cond1 i = 1#1 → I (k0_pay358 (F := F)))
    (hlo : Scalar.cmpi .sle (pre G 64) (scanLo i) ≠ 1#1) (hhi : Scalar.cmpi .sle (pre G 64) (scanHi i) ≠ 1#1)
    (X3 : S2048x4096.Idx → Elt F .i8) (X4 : S2x1024.Idx → Elt F .f32) (X5 : S512x4096.Idx → Elt F .fp8e4m3) (X6 : S1x512.Idx → Elt F .f32)
    (X7 : S2048x64.Idx → Elt F .f32) (X8 : S64x4096.Idx → Elt F .f32)
    (hstep : ∀ (a b : Fin 64) X17 X18 X19 X20 X21, a.val ≤ b.val → Tables G X18 X19 X20 X21 → I X17 → Behind G (scanLo i) a.val →
      Behind G (scanHi i) b.val → Scalar.cmpi .sle (pre G (b.val + 1)) (scanHi i) ≠ 1#1 →
      I' (tiles i X5 X6 X18 X19 (a.val / 8) X17 (b.val / 8 - a.val / 8 + 1))) :
    (iprop(S ∗ owns (c : Thread nD τ) arg1 fullShare (X1 : S16384.Idx → Elt F .i32)
        ∗ owns (c : Thread nD τ) arg2 fullShare (G : S64.Idx → Elt F .i32) ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare X7 ∗ owns (c : Thread nD τ) arg8 fullShare X8
        ∗ held (F := F) c arg9 ∗ held (F := F) c arg10 ∗ held (F := F) c arg11 ∗ held (F := F) c arg12) : sProp 𝕄)
    ⊢ wp frame (wpE (defs₀ (F := F)) Variants.nat (c : Thread nD τ) none) Set.univ
        (cc0_moe_router_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(Ready arg13 arg14 arg15 arg16 arg17 arg18 arg19 arg20 arg21 arg22 c G (scanHi i) I' (Joins X1 G)
        ∗ owns (c : Thread nD τ) arg1 fullShare (X1 : S16384.Idx → Elt F .i32)
        ∗ owns (c : Thread nD τ) arg2 fullShare (G : S64.Idx → Elt F .i32) ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare X7 ∗ owns (c : Thread nD τ) arg8 fullShare X8
        ∗ held (F := F) c arg9
        ∗ (∃ X10 X11 X12, owns (c : Thread nD τ) arg10 fullShare X10 ∗ owns (c : Thread nD τ) arg11 fullShare X11
          ∗ owns (c : Thread nD τ) arg12 fullShare X12
          ∗ ⌜k0_cond2 i = 1#1 → Last G I' X8 X10 X12 ∧ Dense (Joins X1 G) X10 X3 X4 2048 X11⌝))) := by
  rw [cc0_moe_router_bwd_eq_skeleton]
  unfold cc0_moe_router_bwd_skel
  simp only [Prog.lift, Prog.bind_op, Prog.bind_ret, Prog.pure_eq_ret]
  iintro ⟨HS, H1, H2, H3, H4, H5, H6, H7, H8, H9, ⟨%X10, H10⟩, ⟨%X11, H11⟩, ⟨%X12, H12⟩⟩
  rw [wp_bind]
  iapply (part60_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c G I (Joins X1 G) S hS hS' hI hlo hhi X3 X6)
  isplitl [HS H2 H3 H6]
  · isplitl [HS]; · iexact HS
    isplitl [H2]; · iexact H2
    isplitl [H3]; · iexact H3
    iexact H6
  iintro %a %b %h3 %h4 %X16 %X17 %X18 %X19 %X20 %X21 %A %B %o' %inb' %r %hh ⟨H2, H3, H6, ⟨%X13, H13⟩, H14, ⟨%X15, H15⟩, H16, H17, H18, H19, H20, H21, H22⟩
  obtain ⟨hab, hT, hU, hI17, hBa, hBb, hnb, ho', hA, hB, rfl⟩ := hh
  dsimp only
  rw [wp_bind]
  iapply (part61_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c a b hab h3 h4 _ _ _ X5 X6 X18 X19 X20 X17 A B o' ho' inb' hA hB)
  isplitl [H5 H18 H19 H20 H17]
  · isplitl [H5]; · iexact H5
    isplitl [H18]; · iexact H18
    isplitl [H19]; · iexact H19
    isplitl [H20]; · iexact H20
    iexact H17
  iintro %r %hr ⟨H5, H18, H19, H20, H17⟩
  subst hr
  dsimp only
  icases H14 with ⟨%X14, H14⟩
  iapply (wp_ld Variants.nat (c : Thread nD τ) none Set.univ) $$ H14; iintro H14
  ihave H1 := (owns_open c arg1 X1) $$ H1
  icases H1 with ⟨%f1, %hf1, H1⟩
  ihave H5 := (owns_open c arg5 X5) $$ H5
  icases H5 with ⟨%f5, %hf5, H5⟩
  ihave H6 := (owns_open c arg6 X6) $$ H6
  icases H6 with ⟨%f6, %hf6, H6⟩
  ihave H13 := (owns_open c arg13 X13) $$ H13
  icases H13 with ⟨%f13, %_, H13⟩
  ihave H15 := (owns_open c arg15 X15) $$ H15
  icases H15 with ⟨%f15, %_, H15⟩
  ihave H16 := (owns_open c arg16 X16) $$ H16
  icases H16 with ⟨%f16, %hf16, H16⟩
  have hv75 : ∀ x : S8x128.Idx, iota .tc S8x128 32 [0] iota_S8x128_d0_w32 x = BitVec.ofNat 32 (x 0).val := fun x => by
    show BitVec.ofNat 32 (0 * S8x128.size 0 + (x 0).val) = _
    rw [Nat.zero_mul, Nat.zero_add]
  have hU' : Unset (Joins X1 G) (arg16.view.read (Elt F) f16) := by rw [hf16]; exact hU
  iapply (Scf.wp_for_bind frame (wpE (defs₀ (F := F)) Variants.nat (c : Thread nD τ) none) Set.univ _ _ _
    k0_t5_ok _ _ (fun _ _ => iprop((arg1.view.loc (c : Thread nD τ) ↦[arg1.view.set]{fullShare} f1)
      ∗ (arg5.view.loc (c : Thread nD τ) ↦[arg5.view.set]{fullShare} f5)
      ∗ (arg6.view.loc (c : Thread nD τ) ↦[arg6.view.set]{fullShare} f6)
      ∗ (arg13.view.loc (c : Thread nD τ) ↦[arg13.view.set]{fullShare} f13)
      ∗ (∃ f, arg15.view.loc (c : Thread nD τ) ↦[arg15.view.set]{fullShare} f)
      ∗ (∃ f, ⌜Unset (Joins X1 G) (arg16.view.read (Elt F) f)⌝ ∗ arg16.view.loc (c : Thread nD τ) ↦[arg16.view.set]{fullShare} f)))
    (fun k _ => t5_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c _ _ _ _ _ f1 (fun p => by rw [hf1]; exact hX1 p) f5 f6 (Joins X1 G) (fun x => hv75 x) (by rw [hf1]; exact joined_lanes X1 G X18 X19 X20 X21 hT _ _) f13 k)) $$ [H1 H5 H6 H13 H15 H16]
  · isplitl [H1]; · iexact H1
    isplitl [H5]; · iexact H5
    isplitl [H6]; · iexact H6
    isplitl [H13]; · iexact H13
    isplitl [H15]; · iexists f15; iexact H15
    iexists f16; isplitr; swap; (· iexact H16); ipureintro; exact hU'
  iintro %_ ⟨H1, H5, H6, H13, ⟨%g15, H15⟩, ⟨%g16, %hU2, H16⟩⟩
  ihave H15 := (owns_shut c arg15 g15) $$ H15
  ihave H15 := (held_intro c arg15 _) $$ H15
  ihave H16 := (owns_shut c arg16 g16) $$ H16
  ihave H1 := (owns_shut c arg1 f1) $$ H1
  ihave H5 := (owns_shut c arg5 f5) $$ H5
  ihave H6 := (owns_shut c arg6 f6) $$ H6
  ihave H13 := (owns_shut c arg13 f13) $$ H13
  rw [hf1, hf5, hf6]
  ihave H13 := (held_intro c arg13 _) $$ H13
  ihave H14 := (held_intro c arg14 _) $$ H14
  have hI' := hstep a b X17 X18 X19 X20 X21 hab hT hI17 hBa hBb hnb
  by_cases h2 : k0_cond2 i = 1#1
  on_goal 1 =>
    simp only [h2, ↓reduceDIte]
    iapply (wp_ld Variants.nat (c : Thread nD τ) none Set.univ) $$ H19; iintro H19
    iapply (wp_ld Variants.nat (c : Thread nD τ) none Set.univ) $$ H18; iintro H18
    iapply (wp_ld Variants.nat (c : Thread nD τ) none Set.univ) $$ H17; iintro H17
    iapply (wp_ld Variants.nat (c : Thread nD τ) none Set.univ) $$ H12; iintro H12
    iapply (wp_st Variants.nat (c : Thread nD τ) none Set.univ) $$ H12; iintro H12
    iapply (wp_ld Variants.nat (c : Thread nD τ) none Set.univ) $$ H8; iintro H8
    iapply (wp_ld Variants.nat (c : Thread nD τ) none Set.univ) $$ H10; iintro H10
    iapply (wp_st Variants.nat (c : Thread nD τ) none Set.univ) $$ H10; iintro H10
    iapply (wp_ld Variants.nat (c : Thread nD τ) none Set.univ) $$ H10; iintro H10
    rw [read_whole (s := S64x128), read_whole (s := S64x128), read_whole (s := S64x4096), read_whole (s := S64x4096), read_whole (s := S64x4096),
      put_whole (s := S64x4096), put_whole (s := S64x4096)]
    have hL : k0_cond2 i = 1#1 → Last G I' X8 (k0_pay5 (F := F) X19 X18 (tiles i X5 X6 X18 X19 (a.val / 8) X17 (b.val / 8 - a.val / 8 + 1)) X8)
        (k0_pay4 (F := F) X19 X18 (tiles i X5 X6 X18 X19 (a.val / 8) X17 (b.val / 8 - a.val / 8 + 1))) :=
      fun _ => ⟨_, X18, X19, X20, X21, hT, hI', rfl, rfl⟩
    generalize k0_pay5 (F := F) X19 X18 (tiles i X5 X6 X18 X19 (a.val / 8) X17 (b.val / 8 - a.val / 8 + 1)) X8 = Y10 at hL ⊢
    generalize k0_pay4 (F := F) X19 X18 (tiles i X5 X6 X18 X19 (a.val / 8) X17 (b.val / 8 - a.val / 8 + 1)) = Y12 at hL ⊢
    iapply (Scf.wp_for_bind frame (wpE (defs₀ (F := F)) Variants.nat (c : Thread nD τ) none) Set.univ _ _ _
      (k0_t6_ok i h2) _ _ (fun k _ => Late arg3 arg4 arg7 arg9 arg11 arg15 arg16 c (Joins X1 G) Y10 X3 X4 X7 (arg16.view.read (Elt F) g16) (128 * k))
      (fun k _ => t6_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c h2 Y10 X3 X4 X7 _ hU2 k)) $$ [H3 H4 H7 H9 H11 H15 H16]
    · unfold Late
      isplitl [H3]; · iexact H3
      isplitl [H4]; · iexact H4
      isplitl [H7]; · iexact H7
      isplitl [H15]; · iexact H15
      isplitl [H16]; · iexact H16
      isplitl [H9]; · iexact H9
      iexists X11
      isplitl [H11]; · iexact H11
      ipureintro
      exact fun t ht e he h _ => absurd h (by omega)
    iintro %_ HL
    rw [show 128 * k0_t6_loop.trips = 128 * (8 + 0) from by decide +kernel]
    iapply (Scf.wp_for_bind frame (wpE (defs₀ (F := F)) Variants.nat (c : Thread nD τ) none) Set.univ _ _ _
      (k0_t7_ok i h2) _ _ (fun k _ => Late arg3 arg4 arg7 arg9 arg11 arg15 arg16 c (Joins X1 G) Y10 X3 X4 X7 (arg16.view.read (Elt F) g16) (128 * (8 + k)))
      (fun k _ => t7_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c h2 Y10 X3 X4 X7 _ hU2 k)) $$ [HL]
    · iexact HL
    iintro %_ HL
    rw [show 128 * (8 + k0_t7_loop.trips) = 2048 from by decide +kernel]
    unfold Late
    icases HL with ⟨H3, H4, H7, H15, H16, H9, ⟨%Y11, H11, %hD⟩⟩
    have hE : k0_cond2 i = 1#1 → Last G I' X8 Y10 Y12 ∧ Dense (Joins X1 G) Y10 X3 X4 2048 Y11 := fun h => ⟨hL h, hD⟩
  on_goal 2 =>
    simp only [h2, ↓reduceDIte]
    have hE : k0_cond2 i = 1#1 → Last G I' X8 X10 X12 ∧ Dense (Joins X1 G) X10 X3 X4 2048 X11 := fun h => absurd h h2
    obtain ⟨Y11, hY11⟩ : ∃ Y, Y = X11 := ⟨_, rfl⟩
    obtain ⟨Y10, hY10⟩ : ∃ Y, Y = X10 := ⟨_, rfl⟩
    obtain ⟨Y12, hY12⟩ : ∃ Y, Y = X12 := ⟨_, rfl⟩
    rw [← hY10, ← hY11, ← hY12] at hE ⊢
  all_goals
    rw [wp_ret]; imodintro
    unfold Ready
    isplitl [H13 H14 H15 H16 H17 H18 H19 H20 H21 H22]
    · isplitl [H13]; · iexact H13
      isplitl [H14]; · iexact H14
      isplitl [H15]; · iexact H15
      isplitl [H16]
      · iexists _
        isplitl [H16]; · iexact H16
        ipureintro; exact hU2
      isplitl [H17]
      · iexists _
        isplitl [H17]; · iexact H17
        ipureintro; exact hI'
      iexists X18, X19, X20, X21, b.val
      isplitl [H18]; · iexact H18
      isplitl [H19]; · iexact H19
      isplitl [H20]; · iexact H20
      isplitl [H21]; · iexact H21
      isplitl [H22]; · iexact H22
      ipureintro
      exact ⟨hT, b.isLt, hBb⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists Y10, Y11, Y12
    isplitl [H10]; · iexact H10
    isplitl [H11]; · iexact H11
    isplitl [H12]; · iexact H12
    ipureintro; first | exact fun _ => hE h2 | exact fun h => h.elim

end Cert.KernelIdeal.Own
-- ==== Proof.KI.Kit.lean ====
module

public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)

/-- Core `c`'s buffers when the pipeline is entered: after the host's reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host's reshapes, then the pipeline. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no reshape writes is found as launched. -/
theorem V_keep (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))

/-- Window `w`'s block at point `t`, read off its array as the pipeline finds it. -/
abbrev iblk (c : Dev nD) (w : Fin (cfg0 (F := F)).W) (t : Fin (cfg0 (F := F)).N) :=
  (((cfg0 (F := F)).win w).blk t).view.read (Elt F) (V m c (Pipeline.arrRef spec0 w))

end Cert.KernelIdeal.Own
-- ==== Proof.KI.Run.lean ====
module

public import proofs.«01_k».proof.Proof.KI.Body
public import proofs.«01_k».proof.Proof.KI.Kit
public import Idealize.ShloMosaic.Lib.StableHlo.RunHlo

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own
open Idealize.ShloMosaic.Pipeline (RDat)

variable (m : (ℓ : Loc nD τ sig) → Buf (Elt F) ℓ) (ρ : Dev nD → PrngReg)

/-- The scratch buffers before the first point. -/
abbrev Bl (c : Dev nD) : sProp 𝕄 :=
  Blank (F := F) (Memref.whole cc0_scratch0) (Memref.whole cc0_scratch1) (Memref.whole cc0_scratch2) (Memref.whole cc0_scratch3)
    (Memref.whole cc0_scratch4) (Memref.whole cc0_scratch5) (Memref.whole cc0_scratch6) (Memref.whole cc0_scratch7)
    (Memref.whole cc0_scratch8) (Memref.whole cc0_scratch9) c

/-- The scratch buffers between points. -/
abbrev Rd (c : Dev nD) (G : S64.Idx → BitVec 32) (w : BitVec 32) (I : (S64x4096.Idx → Elt F .f32) → Prop) (J : ℕ → ℕ → Prop) : sProp 𝕄 :=
  Ready (F := F) (Memref.whole cc0_scratch0) (Memref.whole cc0_scratch1) (Memref.whole cc0_scratch2) (Memref.whole cc0_scratch3)
    (Memref.whole cc0_scratch4) (Memref.whole cc0_scratch5) (Memref.whole cc0_scratch6) (Memref.whole cc0_scratch7)
    (Memref.whole cc0_scratch8) (Memref.whole cc0_scratch9) c G w I J

theorem held_whole (c : Dev nD) (b : Ref sig .tc) :
    (held (F := F) c (Memref.whole b) : sProp 𝕄) = iprop(∃ f : Buf (Elt F) ((c : Thread nD τ).loc b), ((c : Thread nD τ).loc b) ↦{fullShare} f) := by
  unfold held
  simp only [owns_whole]

theorem blank_eq (c : Dev nD) :
    (Pipeline.scopedRest (Ix := Unit) (Name := ℕ) (U := UR sig nD τ) (Lvl := ℕ) (Val := Elt F) spec0 c : sProp 𝕄) = Bl c := by
  rw [scopedRest0_eq]
  unfold Bl Blank held
  simp only [owns_whole]
  rfl

theorem cond1_iff : ∀ t : Fin grid0.N, (k0_cond1 (grid0.coords t) = 1#1 ↔ t.val = 0) := by decide +kernel
theorem cond2_iff : ∀ t : Fin grid0.N, (k0_cond2 (grid0.coords t) = 1#1 ↔ t.val = 31) := by decide +kernel
theorem lo_eq : ∀ t : Fin grid0.N, scanLo (grid0.coords t) = BitVec.ofNat 32 (512 * t.val) := by decide +kernel
theorem hi_le : ∀ t : Fin grid0.N, (scanHi (grid0.coords t)).toInt ≤ (BitVec.ofNat 32 (512 * (t.val + 1))).toInt := by decide +kernel
theorem lo_lt : ∀ t : Fin grid0.N, (scanLo (grid0.coords t)).toInt < 16384 := by decide +kernel
theorem hi_lt : ∀ t : Fin grid0.N, (scanHi (grid0.coords t)).toInt < 16384 := by decide +kernel

/-- The group sizes and the tokens as launched. -/
abbrev groups (c : Dev nD) : S64.Idx → BitVec 32 := m ((c : Thread nD τ).loc main_arg6)
abbrev tokens (c : Dev nD) : S16384.Idx → BitVec 32 := m ((c : Thread nD τ).loc main_arg5)

section Inv

variable (I : Dev nD → ℕ → (S64x4096.Idx → Elt F .f32) → Prop)
  (P : Dev nD → (w : Fin (cfg0 (F := F)).W) → (((cfg0 (F := F)).win w).block.Idx → Elt F ((cfg0 (F := F)).win w).elt) → Prop)

/-- What the scratch holds before point `t`. -/
def phi (c : Dev nD) (t : ℕ) : sProp 𝕄 :=
  iprop((if t = 0 then Bl (F := F) c else Rd c (groups m c) (BitVec.ofNat 32 (512 * t)) (I c t) (Joins (tokens m c) (groups m c))) ∗ ∃ r, prngReg c r)

/-- The relational proof data: inputs stay as found, at the last point the outputs satisfy `P`. -/
def rdat (c : Dev nD) : RDat τ (Elt F) Unit ℕ (UR sig nD τ) ℕ (cfg0 (F := F)) c where
  A w := V m c (Pipeline.arrRef spec0 w)
  after w t Y X := if ((cfg0 (F := F)).win w).isOut then (t.val = 31 → P c w X) else X = Y
  Φ t := phi m I c t.val
  q _ := fullShare
  owed _ := 0

theorem rdat_A (c : Dev nD) (w) : (rdat m I P c).A w = V m c (Pipeline.arrRef spec0 w) := by dsimp only [rdat]

/-- An input's buffer holds its block at every point. -/
theorem finds_in (c : Dev nD) (w : Fin (cfg0 (F := F)).W) (hw : ((cfg0 (F := F)).win w).isOut = false)
    (hclip : ∀ t t' : Fin (cfg0 (F := F)).N, ((cfg0 (F := F)).win w).index t = ((cfg0 (F := F)).win w).index t' →
      ((cfg0 (F := F)).win w).clip ((cfg0 (F := F)).grid.coords t) = ((cfg0 (F := F)).win w).clip ((cfg0 (F := F)).grid.coords t'))
    (t Y) (h : (rdat m I P c).Finds w t Y) : ∃ d, Y = (rdat m I P c).fetched w t d :=
  (rdat m I P c).finds_in_eq_fetched w hw hclip
    (fun t Y X h => by
      have h' : if ((cfg0 (F := F)).win w).isOut then (t.val = 31 → P c w X) else X = Y := h
      rw [hw] at h'; exact h') t Y h

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- The group sizes' block is the whole array at every point. -/
theorem iblk1 (c : Dev nD) (t) : iblk m c 1 t = groups m c := by
  have h : V m c main_arg6 = m ((c : Thread nD τ).loc main_arg6) := V_keep m c main_arg6 (by decide) (by decide) (by decide)
  funext p
  show V m c main_arg6 _ = _
  rw [h]
  congr 1
  funext a
  apply Fin.ext
  match a with
  | ⟨0, _⟩ => show 0 * 64 + 1 * (p ⟨0, Nat.zero_lt_one⟩).val = _; rw [Nat.zero_mul, Nat.one_mul, Nat.zero_add]; rfl

/-- The tokens' block is the whole array at every point. -/
theorem iblk0 (c : Dev nD) (t) : iblk m c 0 t = tokens m c := by
  have h : V m c main_arg5 = m ((c : Thread nD τ).loc main_arg5) := V_keep m c main_arg5 (by decide) (by decide) (by decide)
  funext p
  show V m c main_arg5 _ = _
  rw [h]
  congr 1
  funext a
  apply Fin.ext
  match a with
  | ⟨0, _⟩ => show 0 * 16384 + 1 * (p ⟨0, Nat.zero_lt_one⟩).val = _; rw [Nat.zero_mul, Nat.one_mul, Nat.zero_add]; rfl

/-- What the proof data ask of the groups, the tokens, the invariant and the outputs. -/
structure Sound (c : Dev nD) : Prop where
  total : (pre (groups m c) 64).toInt = 16384
  toks : ∀ p, (tokens m c p).toNat < 2048
  first : I c 0 (k0_pay358 (F := F))
  step : ∀ (t : Fin (cfg0 (F := F)).N) (a b : Fin 64) X17 X18 X19 X20 X21, a.val ≤ b.val → Tables (groups m c) X18 X19 X20 X21 → I c t.val X17 →
    Behind (groups m c) (scanLo (grid0.coords t)) a.val → Behind (groups m c) (scanHi (grid0.coords t)) b.val →
    Scalar.cmpi .sle (pre (groups m c) (b.val + 1)) (scanHi (grid0.coords t)) ≠ 1#1 →
    I c (t.val + 1) (tiles (grid0.coords t) (iblk m c 4 t) (iblk m c 5 t) X18 X19 (a.val / 8) X17 (b.val / 8 - a.val / 8 + 1))
  out8 : ∀ X, P c 8 X
  out9 : ∀ (t : Fin (cfg0 (F := F)).N) X10 X12, t.val = 31 → Last (groups m c) (I c (t.val + 1)) (iblk m c 7 t) X10 X12 → P c 9 X10 ∧ P c 11 X12
  out10 : ∀ (t : Fin (cfg0 (F := F)).N) X10 X11 X12, t.val = 31 → Last (groups m c) (I c (t.val + 1)) (iblk m c 7 t) X10 X12 →
    Dense (Joins (tokens m c) (groups m c)) X10 (iblk m c 2 t) (iblk m c 3 t) 2048 X11 → P c 10 X11

theorem body_obligation (c : Dev nD) (hs : Sound m I P c) :
    (rdat m I P c).BodyObligation (defs₀ (F := F)) Variants.nat () Set.univ := fun t Y hY => by
  have h0 : Y 0 = iblk m c 0 t := (finds_in m I P c 0 rfl (fun _ _ _ => rfl) t _ (hY 0)).elim fun d h => h
  have h1 : Y 1 = iblk m c 1 t := (finds_in m I P c 1 rfl (fun _ _ _ => rfl) t _ (hY 1)).elim fun d h => h
  have h2 : Y 2 = iblk m c 2 t := (finds_in m I P c 2 rfl (fun _ _ _ => rfl) t _ (hY 2)).elim fun d h => h
  have h3 : Y 3 = iblk m c 3 t := (finds_in m I P c 3 rfl (fun _ _ _ => rfl) t _ (hY 3)).elim fun d h => h
  have h4 : Y 4 = iblk m c 4 t := (finds_in m I P c 4 rfl (fun _ _ _ => rfl) t _ (hY 4)).elim fun d h => h
  have h5 : Y 5 = iblk m c 5 t := (finds_in m I P c 5 rfl (fun _ _ _ => rfl) t _ (hY 5)).elim fun d h => h
  have h7 : Y 7 = iblk m c 7 t := (finds_in m I P c 7 rfl (fun _ _ _ => rfl) t _ (hY 7)).elim fun d h => h
  have h1' : Y 1 = groups m c := h1.trans (iblk1 m c t)
  have h0' : Y 0 = tokens m c := h0.trans (iblk0 m c t)
  have e1 := cond1_iff t
  have e2 := cond2_iff t
  have e3 := lo_lt t
  have e4 := hi_lt t
  have hle : ∀ w : BitVec 32, w.toInt < 16384 → Scalar.cmpi .sle (pre (groups m c) 64) w ≠ 1#1 := by
    intro w hw h
    rw [sle_iff, hs.total] at h
    omega
  have hb := body_run (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) (win0_11.stage ((cfg0 (F := F)).slots t 11)) (hstage0_11 (((cfg0 (F := F)).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) c (groups m c) (I c t.val) (I c (t.val + 1)) (if t.val = 0 then Bl (F := F) c else Rd c (groups m c) (BitVec.ofNat 32 (512 * t.val)) (I c t.val) (Joins (tokens m c) (groups m c)))
    (tokens m c) hs.toks
    (fun h => by rw [if_pos (e1.mp h)]) (fun h => by rw [if_neg (fun h' => h (e1.mpr h')), lo_eq t])
    (fun h => by rw [e1.mp h]; exact hs.first) (hle _ e3) (hle _ e4) (Y 2) (Y 3) (Y 4) (Y 5) (Y 6) (Y 7)
    (fun a b X17 X18 X19 X20 X21 h1 h2 h3 h4' h5' h6 => by rw [h4, h5]; exact hs.step t a b X17 X18 X19 X20 X21 h1 h2 h3 h4' h5' h6)
  rw [bigSep_W0, bigSep_W0, defs₀_row, show Y 1 = groups m c from h1', show Y 0 = tokens m c from h0',
    show (rdat m I P c).Φ t.castSucc = phi m I c t.val from rfl, show (rdat m I P c).Φ t.succ = phi m I c (t.val + 1) from rfl,
    show (rdat m I P c).owesAt () t.succ = (rdat m I P c).owesAt () t.castSucc from rfl]
  unfold phi
  iintro ⟨⟨HS, Hg⟩, HO, H0, H1, H2, H3, H4, H5, H6, H7, H8, H9, H10, H11⟩
  iapply (wp_wand_r Idealize.ShloMosaic.frame (wpE (defs₀ (F := F)) Variants.nat (c : Thread nD τ) none) Set.univ)
  isplitl [HS H0 H1 H2 H3 H4 H5 H6 H7 H8 H9 H10 H11]
  · iapply hb
    isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iexists _; iexact H11
  iintro %u ⟨HS, H0, H1, H2, H3, H4, H5, H6, H7, ⟨%X8, H8⟩, ⟨%X9, %X10, %X11, H9, H10, H11, %hL⟩⟩
  isplitl [HS Hg]
  · isplitl [HS]
    · rw [if_neg (by omega)]
      iapply (ready_mono _ _ _ _ _ _ _ _ _ _ c (groups m c) _ _ _ _ (hi_le t)) $$ HS
    iexact Hg
  isplitl [HO]; · iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  isplitl [H8]; · iexists _; isplitr; swap; (· iexact H8); ipureintro; exact fun _ => hs.out8 _
  isplitl [H9]; · iexists _; isplitr; swap; (· iexact H9); ipureintro; exact fun h => (hs.out9 t _ _ h (h7 ▸ (hL (e2.mpr h)).1)).1
  isplitl [H10]; · iexists _; isplitr; swap; (· iexact H10); ipureintro; exact fun h => hs.out10 t _ _ _ h (h7 ▸ (hL (e2.mpr h)).1) (h2 ▸ h3 ▸ (hL (e2.mpr h)).2)
  iexists _; isplitr; swap; (· iexact H11); ipureintro; exact fun h => (hs.out9 t _ _ h (h7 ▸ (hL (e2.mpr h)).1)).2

theorem phi_in (c : Dev nD) : (Pipeline.ΦA (U := UR sig nD τ) (Val := Elt F) spec0 c : sProp 𝕄) ⊢ phi m I c 0 := by
  unfold phi Pipeline.ΦA
  rw [blank_eq, if_pos rfl]

theorem ready_blank (c : Dev nD) (w J J') : Rd (F := F) c (groups m c) w J J' ⊢ (Bl c : sProp 𝕄) := by
  unfold Rd Bl Ready Blank
  iintro ⟨H13, H14, H15, ⟨%X16, H16, -⟩, ⟨%X17, H17, -⟩, ⟨%X18, %X19, %X20, %X21, %e, H18, H19, H20, H21, H22, -⟩⟩
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iexists _; iexact H22

theorem phi_out (c : Dev nD) : phi m I c 32 ⊢ (Pipeline.ΦA (U := UR sig nD τ) (Val := Elt F) spec0 c : sProp 𝕄) := by
  unfold phi Pipeline.ΦA
  rw [blank_eq, if_neg (by decide)]
  iintro ⟨HS, Hg⟩
  isplitl [HS]
  · iapply (ready_blank m c _ _ _) $$ HS
  iexact Hg

set_option backward.isDefEq.respectTransparency.types false in
/-- The launch: every execution ends with the windowed arrays as the proof data say, the other arrays as found, and every
    counter at zero. -/
theorem run_main (hs : ∀ c, Sound m I P c) :
    θ_run (defs (F := F)) (onTc (τ := τ) (main (F := F))) ⟨m, fun _ => 0, ρ⟩
      (fun r => RDat.FramePost (cfgs 0) (rdat m I P) (V m) r ∧ r.2.sem = fun _ => 0) :=
  RDat.θ_run_frame_track (Q' := _) cfgs (0 : Fin 1) launch0 defs₀ Variants.nat (rdat m I P) m ρ main
    (hbody := fun c => body_obligation m I P c (hs c)) (hshare := fun c => (rdat m I P c).share_full fun _ => rfl)
    (howed := fun _ _ => rfl) (V := V m) (hmain := hmain m Variants.nat) (hA := rdat_A m I P)
    (hin := phi_in m I) (hout := phi_out m I) (hQ' := fun _ h => h)

variable {m I P} in
/-- The arguments after the run. -/
theorem final_args {r : PUnit × MemSt nD τ sig (Elt F)} (h : RDat.FramePost (cfgs 0) (rdat m I P) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) := by
  have k := fun b h0 h1 h2 => V_keep m c b h0 h1 h2
  refine ⟨?_, ?_, ?_, ?_, ?_, ?_, ?_, ?_⟩
  · exact ((h c).2 main_arg0 (Pipeline.mem_restRefs_of (win := spec0) main_arg0 (by decide) (by decide))).trans (k _ (by decide) (by decide) (by decide))
  · exact ((h c).2 main_arg1 (Pipeline.mem_restRefs_of (win := spec0) main_arg1 (by decide) (by decide))).trans (k _ (by decide) (by decide) (by decide))
  · exact (h.arr_in c 3 rfl).trans ((rdat_A m I P c 3).trans (k main_arg2 (by decide) (by decide) (by decide)))
  · exact (h.arr_in c 4 rfl).trans ((rdat_A m I P c 4).trans (k main_arg3 (by decide) (by decide) (by decide)))
  · exact ((h c).2 main_arg4 (Pipeline.mem_restRefs_of (win := spec0) main_arg4 (by decide) (by decide))).trans (k _ (by decide) (by decide) (by decide))
  · exact (h.arr_in c 0 rfl).trans ((rdat_A m I P c 0).trans (k main_arg5 (by decide) (by decide) (by decide)))
  · exact (h.arr_in c 1 rfl).trans ((rdat_A m I P c 1).trans (k main_arg6 (by decide) (by decide) (by decide)))
  · exact (h.arr_in c 7 rfl).trans ((rdat_A m I P c 7).trans (k main_arg7 (by decide) (by decide) (by decide)))

end Inv

/-- Nothing said of the outputs: the run keeps its arguments, at any well formed routing. -/
theorem run_frame (hG : ∀ c, (pre (groups m c) 64).toInt = 16384) (hT : ∀ c p, (tokens m c p).toNat < 2048) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) ∧ r.2.sem = fun _ => 0) :=
  θ_run_mono (run_main m ρ (fun _ _ _ => True) (fun _ _ _ => True) fun c =>
    ⟨hG c, hT c, trivial, fun _ _ _ _ _ _ _ _ _ _ _ _ _ _ => trivial, fun _ => trivial, fun _ _ _ _ _ => ⟨trivial, trivial⟩, fun _ _ _ _ _ _ _ => trivial⟩)
    fun _ h => ⟨final_args h.1, h.2⟩

end Cert.KernelIdeal.Own
-- ==== Proof.KI.Route.lean ====
module

public import proofs.«01_k».proof.Proof.KI.Prefix
public import proofs.«01_k».proof.Pre_routed
public import Idealize.ShloMosaic.PureOps.Reduce
public import Mathlib.Data.BitVec
public import Idealize.ShloMosaic.PureOps.Ideal.Laws

@[expose] public section

noncomputable section

namespace Cert.KernelIdeal.Own

open Cert.KernelIdeal
open Idealize.ShloMosaic

/-- A routing the kernel can follow: every row's token is a token, and the groups' sizes are counts that add up to the
    number of rows. -/
structure Routed (T : S16384.Idx → BitVec 32) (G : S64.Idx → BitVec 32) : Prop where
  tok : ∀ p, (T p).toNat < 2048
  size : ∀ e, (G e).toNat ≤ 16384
  total : pre G 64 = 16384#32

/-- The running count is the sum of the groups before. -/
theorem pre_sum (G : S64.Idx → BitVec 32) : ∀ n (h : n ≤ 64), pre G n = ∑ e : Fin n, G (ix64 e.val (by omega))
  | 0, _ => rfl
  | n + 1, h => by
    rw [pre_succ G n (by omega), pre_sum G n (by omega), Fin.sum_univ_castSucc]
    rfl

theorem fold_addi {ι : Type} [DecidableEq ι] (s : Finset ι) (f : ι → BitVec 32) : s.fold IntOp.addi 0#32 f = ∑ i ∈ s, f i := by
  induction s using Finset.induction_on with
  | empty => rfl
  | insert a s h ih => rw [Finset.fold_insert h, Finset.sum_insert h, ih]; rfl

/-- The experts as indices of the groups. -/
def ixEquiv : Fin 64 ≃ S64.Idx where
  toFun e := ix64 e.val e.isLt
  invFun i := i 0
  left_inv e := rfl
  right_inv i := by
    funext a
    obtain rfl : a = 0 := Subsingleton.elim _ _
    rfl

/-- The host's sum of the group sizes is the running count after the last. -/
theorem total_eq (G : S64.Idx → BitVec 32) (h : S64.ReducesTo [0] Cert.Pre_routed.S_) (hu : 0 < Cert.Pre_routed.S_.numel) (j) :
    Host.reduce IntOp.addi G (constantI Cert.Pre_routed.S_ 32 0#32) h hu j = pre G 64 := by
  rw [Host.reduce_eq_fold, Finset.filter_true_of_mem (fun i _ => by funext a; exact a.elim0), pre_sum G 64 le_rfl]
  exact (fold_addi _ _).trans (Fintype.sum_equiv ixEquiv _ _ fun _ => rfl).symm

section
variable [Cert.Pre_routed.Facts] {F : FTy → Type} [FloatOps F]

/-- What the stated precondition says of the tokens and the group sizes. -/
theorem routed_of_pre (a0 : FVec F Cert.Pre_routed.S2x1024x64 .f32) (a1 : IVec Cert.Pre_routed.S2x1024x4096 8) (a2 : FVec F Cert.Pre_routed.S2x1024 .f32)
    (a3 : FVec F Cert.Pre_routed.S16384x4096 .fp8e4m3) (a4 : FVec F S16384 .f32) (T : IVec S16384 32) (G : IVec S64 32) (a7 : FVec F S64x4096 .f32)
    (h : ∀ i, Cert.Pre_routed.fn a0 a1 a2 a3 a4 T G a7 i = 1#1) : Routed T G := by
  have both : ∀ p q : BitVec 1, IntOp.andi p q = 1#1 → p = 1#1 ∧ q = 1#1 := by decide
  have ofBool_eq_one (p : Bool) : (BitVec.ofBool p = 1#1) ↔ p = true := by cases p <;> decide
  have key : ∀ (v g n : BitVec 32) (f : BitVec 1),
      IntOp.andi (IntOp.andi (IntOp.andi (IntOp.andi (IntOp.cmpi .sge v 0#32) (IntOp.cmpi .slt v 2048#32)) f)
        (IntOp.andi (IntOp.cmpi .sge g 0#32) (IntOp.cmpi .sle g 16384#32))) (IntOp.cmpi .eq n 16384#32) = 1#1 →
      v.toNat < 2048 ∧ g.toNat ≤ 16384 ∧ n = 16384#32 := by
    intro v g n f e
    obtain ⟨e, e5⟩ := both _ _ e
    obtain ⟨e, e'⟩ := both _ _ e
    obtain ⟨e3, e4⟩ := both _ _ e'
    obtain ⟨e, -⟩ := both _ _ e
    obtain ⟨e1, e2⟩ := both _ _ e
    simp only [IntOp.cmpi, ofBool_eq_one, BitVec.sle_eq_decide, BitVec.slt_eq_decide,
      decide_eq_true_eq, BitVec.toInt_eq_toNat_cond, BitVec.toNat_ofNat, Nat.reducePow, Nat.reduceMod, beq_iff_eq] at e1 e2 e3 e4 e5
    exact ⟨by omega, by omega, e5⟩
  have e (p : S16384.Idx) (q : S64.Idx) : (T p).toNat < 2048 ∧ (G q).toNat ≤ 16384 ∧ pre G 64 = 16384#32 := by
    have e := h (fun a => match a with | ⟨0, _⟩ => p 0 | ⟨1, _⟩ => q 0)
    simp only [Cert.Pre_routed.fn, Cert.Pre_routed.fn_part1, andi, cmpi, broadcastInDim, total_eq] at e
    have k := key _ _ _ _ e
    refine ⟨?_, ?_, k.2.2⟩
    · convert k.1 using 3
      funext a
      obtain rfl : a = 0 := Subsingleton.elim _ _
      rfl
    · convert k.2.1 using 3
      funext a
      obtain rfl : a = 0 := Subsingleton.elim _ _
      rfl
  have z : S16384.Idx := fun a => ⟨0, by obtain rfl : a = 0 := Subsingleton.elim _ _; decide⟩
  exact ⟨fun p => (e p (ix64 0 (by decide))).1, fun q => (e z q).2.1, (e z (ix64 0 (by decide))).2.2⟩

/-- What the stated precondition says of the scales: each less itself is nought. -/
theorem finite_of_pre (a0 : FVec Ideal Cert.Pre_routed.S2x1024x64 .f32) (a1 : IVec Cert.Pre_routed.S2x1024x4096 8) (a2 : FVec Ideal Cert.Pre_routed.S2x1024 .f32)
    (a3 : FVec Ideal Cert.Pre_routed.S16384x4096 .fp8e4m3) (a4 : FVec Ideal S16384 .f32) (T : IVec S16384 32) (G : IVec S64 32) (a7 : FVec Ideal S64x4096 .f32)
    (h : ∀ i, Cert.Pre_routed.fn a0 a1 a2 a3 a4 T G a7 i = 1#1) (p : S16384.Idx) : (a4 p : EReal) - a4 p = 0 := by
  have both : ∀ p q : BitVec 1, IntOp.andi p q = 1#1 → p = 1#1 ∧ q = 1#1 := by decide
  have e := h (fun a => match a with | ⟨0, _⟩ => p 0 | ⟨1, _⟩ => (0 : Fin 64))
  simp only [Cert.Pre_routed.fn, Cert.Pre_routed.fn_part1, andi, cmpi, cmpf, subf, broadcastInDim, total_eq] at e
  have e' := (both _ _ (both _ _ (both _ _ e).1).1).2
  rw [Ideal.cmpf_def] at e'
  have e2 : Ideal.cmp .oeq ((a4 p : EReal) - a4 p) (Scalar.ofBits (F := Ideal) .f32 0x00000000#32) = 1#1 := by
    refine Eq.trans ?_ e'
    congr 1
    have hq : ∀ q : S16384.Idx, q = p → ((a4 p : EReal) - a4 p) = FloatOps.subf (F := Ideal) (φ := .f32) (a4 q) (a4 q) := by
      rintro q rfl; rfl
    refine hq _ ?_
    funext a
    obtain rfl : a = 0 := Subsingleton.elim _ _
    rfl
  rw [show Scalar.ofBits (F := Ideal) .f32 0x00000000#32 = (0 : EReal) from Ideal.ofBits_zero_f32] at e2
  by_contra hc
  simp [Ideal.cmp, hc] at e2

end

end Cert.KernelIdeal.Own
-- ==== Proof.KI.Chunk.lean ====
-- KI only
module

public import proofs.«01_k».proof.Proof.KI.Tiles
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own

/-- A row's weight in an expert's sum: its scaled entry when the row is one of the expert's. -/
theorem word_lt (t x : ℕ) (ht : t < 32) (hx : x < 512) :
    (IntOp.addi (Scalar.muli (BitVec.ofNat 32 t) 512#32) (BitVec.ofNat 32 x)).toInt = 512 * t + x := by
  have e : IntOp.addi (Scalar.muli (BitVec.ofNat 32 t) 512#32) (BitVec.ofNat 32 x) = BitVec.ofNat 32 (512 * t + x) := by
    show BitVec.ofNat 32 t * BitVec.ofNat 32 512 + BitVec.ofNat 32 x = _
    rw [← BitVec.ofNat_mul, ← BitVec.ofNat_add, Nat.mul_comm t]
  rw [e, BitVec.toInt_eq_toNat_cond, BitVec.toNat_ofNat, Nat.mod_eq_of_lt (by omega), if_pos (by omega)]
  push_cast; ring

theorem small_toInt (a : BitVec 32) (h : a.toNat ≤ 16384) : a.toInt = a.toNat := by
  rw [BitVec.toInt_eq_toNat_cond, if_pos (by omega)]

theorem in_rows (a b n : BitVec 32) : IntOp.andi (IntOp.cmpi .sge n a) (IntOp.cmpi .slt n b) = 1#1 ↔ a.toInt ≤ n.toInt ∧ n.toInt < b.toInt := by
  have ab (p q : Bool) : IntOp.andi (BitVec.ofBool p) (BitVec.ofBool q) = 1#1 ↔ p = true ∧ q = true := by
    cases p <;> cases q <;> decide
  simp only [IntOp.cmpi]
  rw [ab, BitVec.sle_eq_decide, BitVec.slt_eq_decide, decide_eq_true_eq, decide_eq_true_eq]

theorem picked {α : Type} (t x : ℕ) (ht : t < 32) (hx : x < 512) (a b : BitVec 32) (ha : a.toNat ≤ 16384) (hb : b.toNat ≤ 16384) (u v : α) :
    Scalar.select (IntOp.andi
        (IntOp.cmpi .sge (IntOp.addi (Scalar.muli (BitVec.ofNat 32 t) 512#32) (BitVec.ofNat 32 x)) a)
        (IntOp.cmpi .slt (IntOp.addi (Scalar.muli (BitVec.ofNat 32 t) 512#32) (BitVec.ofNat 32 x)) b)) u v
      = if a.toNat ≤ 512 * t + x ∧ 512 * t + x < b.toNat then u else v := by
  show (if _ = 1#1 then u else v) = _
  refine if_congr ?_ rfl rfl
  rw [in_rows, word_lt t x ht hx, small_toInt a ha, small_toInt b hb]
  omega

/-- The part of chunk `t` that the rows from `a` up to `b` give: their entries, each times its row's scale. -/
def part (t : ℕ) (a b : BitVec 32) (sc : S1x512.Idx → EReal) (y : S512x4096.Idx → EReal) (d : Fin 4096) : EReal :=
  ∑ x : Fin 512, if a.toNat ≤ 512 * t + x.val ∧ 512 * t + x.val < b.toNat then sc (ix2 0 x) * y (ix2 x d) else 0

/-- A tile's block after one chunk: each expert's sum takes in the chunk's rows of the expert. -/
theorem chunk_at (i : grid0.Coords) (ht : (i 0).val < 32) (sc : S1x512.Idx → EReal) (hs : ∀ p, sc p - sc p = 0) (st en : IVec S8x1 32)
    (h0 : ∀ p, (st p).toNat ≤ 16384) (h1 : ∀ p, (en p).toNat ≤ 16384) (y : S512x4096.Idx → EReal) (X : S8x4096.Idx → EReal) (j : S8x4096.Idx) :
    k0_pay370 (F := Idealize.ShloMosaic.Ideal) (k0_pay361 (F := Idealize.ShloMosaic.Ideal) sc) (k0_pay362 (F := Idealize.ShloMosaic.Ideal) sc)
        (k0_pay363 (F := Idealize.ShloMosaic.Ideal) sc) (k0_pay364 i) st en y X j
      = X j + part (i 0).val (st (ix2 (j 0) 0)) (en (ix2 (j 0) 0)) sc y (j 1) := by
  have e1 : k0_pay361 (F := Idealize.ShloMosaic.Ideal) sc = sc := by
    funext p; unfold k0_pay361 k0_pay360; pointwise
  have e2 : k0_pay362 (F := Idealize.ShloMosaic.Ideal) sc = fun _ => 0 := by
    funext p; unfold k0_pay362 k0_pay360; pointwise [e1]; exact hs _
  have e3 : k0_pay363 (F := Idealize.ShloMosaic.Ideal) sc = fun _ => 0 := by
    funext p; unfold k0_pay363 k0_pay360; pointwise [e1, e2]; rw [hs]
  rw [e1, e2, e3]
  unfold k0_pay370 k0_pay364
  pointwise
  have hj : (j 0).val < 8 := (j 0).isLt
  simp only [dif_neg (show ¬ (16 + (j 0).val < 8) by omega), dif_neg (show ¬ (16 + (j 0).val - 8 < 8) by omega)]
  have hz : ∀ p : Prop, ∀ _ : Decidable p, (if h : p then (0 : EReal) else 0) = 0 := fun p _ => by split <;> rfl
  simp only [hz, zero_mul, Finset.sum_const_zero, add_zero]
  unfold part
  congr 1
  refine Finset.sum_congr rfl fun x _ => ?_
  exact picked _ _ ht x.isLt _ _ (h0 _) (h1 _) _ _

/-- A tile's sums after its chunk, at an expert of the tile. -/
theorem tile_in (i : grid0.Coords) (ht : (i 0).val < 32) (y : S512x4096.Idx → EReal) (sc : S1x512.Idx → EReal) (hs : ∀ p, sc p - sc p = 0)
    (X18 X19 : S64x128.Idx → BitVec 32) (h0 : ∀ p, (X18 p).toNat ≤ 16384) (h1 : ∀ p, (X19 p).toNat ≤ 16384)
    (X : S64x4096.Idx → EReal) (r : ℕ) (hr : r < 8) (j : S64x4096.Idx) (hj : (j 0).val / 8 = r) :
    tile (F := Idealize.ShloMosaic.Ideal) i y sc X18 X19 r X j = X j + part (i 0).val (X18 (ix2 (j 0) 0)) (X19 (ix2 (j 0) 0)) sc y (j 1) := by
  have hj1 : (j 1).val < 4096 := (j 1).isLt
  have q0 : ∀ (p : S8x1.Idx) (k : Fin 2), (p k).val = if k = 0 then (p 0).val else 0 := by
    intro p k
    have : (p 1).val < 1 := (p 1).isLt
    fin_cases k
    · rfl
    · show (p 1).val = 0; omega
  rw [tile, dif_pos hr, put_unit_in _ _ _ _ _ _ (by
    intro a; fin_cases a
    · show 8 * r ≤ (j 0).val ∧ (j 0).val < 8 * r + 8; omega
    · show 0 ≤ (j 1).val ∧ (j 1).val < 0 + 4096; omega)]
  refine (chunk_at i ht sc hs _ _ (fun _ => h0 _) (fun _ => h1 _) y _ _).trans ?_
  refine congrArg₂ (· + ·) (congrArg X ?_) ?_
  · funext a; apply Fin.ext; fin_cases a
    · show 8 * r + 1 * ((j 0).val - 8 * r) = (j 0).val; omega
    · show 0 + 1 * ((j 1).val - 0) = (j 1).val; omega
  · have e : ∀ inb, (Rect.unit (s := S64x128) ![8 * r, 0] S8x1.size inb).idx
        (ix2 (⟨(j 0).val - 8 * r, by show _ < 8; omega⟩ : Fin 8) (0 : Fin 1)) = ix2 (j 0) 0 := by
      intro inb
      funext a; apply Fin.ext; fin_cases a
      · show 8 * r + 1 * ((j 0).val - 8 * r) = (j 0).val; omega
      · rfl
    exact congr (congr (congr (congrArg₂ (part (i 0).val) (congrArg X18 (e _)) (congrArg X19 (e _))) rfl) rfl) rfl

/-- A tile leaves the experts of the other tiles alone. -/
theorem tile_out (i : grid0.Coords) (y : S512x4096.Idx → EReal) (sc : S1x512.Idx → EReal) (X18 X19 : S64x128.Idx → BitVec 32)
    (X : S64x4096.Idx → EReal) (r : ℕ) (j : S64x4096.Idx) (hj : (j 0).val / 8 ≠ r) :
    tile (F := Idealize.ShloMosaic.Ideal) i y sc X18 X19 r X j = X j := by
  by_cases hr : r < 8
  · rw [tile, dif_pos hr, put_unit_out _ _ _ _ _ _ _ (0 : Fin 2) (by
      show (j 0).val < 8 * r ∨ 8 * r + 8 ≤ (j 0).val; omega)]
  · rw [tile, dif_neg hr]

/-- The sums after a run of tiles: each expert of the tiles takes in its part of the chunk, and the others nothing. -/
theorem tiles_at (i : grid0.Coords) (ht : (i 0).val < 32) (y : S512x4096.Idx → EReal) (sc : S1x512.Idx → EReal) (hs : ∀ p, sc p - sc p = 0)
    (X18 X19 : S64x128.Idx → BitVec 32) (h0 : ∀ p, (X18 p).toNat ≤ 16384) (h1 : ∀ p, (X19 p).toNat ≤ 16384)
    (X : S64x4096.Idx → EReal) (a n : ℕ) (hn : a + n ≤ 8) (j : S64x4096.Idx) :
    tiles (F := Idealize.ShloMosaic.Ideal) i y sc X18 X19 a X n j
      = if a ≤ (j 0).val / 8 ∧ (j 0).val / 8 < a + n then X j + part (i 0).val (X18 (ix2 (j 0) 0)) (X19 (ix2 (j 0) 0)) sc y (j 1) else X j := by
  induction n with
  | zero => rw [if_neg (by omega)]; rfl
  | succ n ih =>
    have ih := ih (by omega)
    show tile (F := Idealize.ShloMosaic.Ideal) i y sc X18 X19 (a + n) (tiles (F := Idealize.ShloMosaic.Ideal) i y sc X18 X19 a X n) j = _
    by_cases hj : (j 0).val / 8 = a + n
    · rw [tile_in i ht y sc hs X18 X19 h0 h1 _ _ (by omega) j hj, ih, if_neg (by omega), if_pos (by omega)]
    · rw [tile_out i y sc X18 X19 _ _ j hj, ih]
      refine if_congr ?_ rfl rfl
      omega

end Cert.KernelIdeal.Own
-- ==== Proof.KI.Seg.lean ====
-- KI only
module

public import proofs.«01_k».proof.Proof.KI.Enter
public import proofs.«01_k».proof.Proof.KI.Route

@[expose] public section

noncomputable section

namespace Cert.KernelIdeal.Own

open Cert.KernelIdeal
open Idealize.ShloMosaic

/-- The number of rows of the experts before `n`. -/
abbrev cnt (G : S64.Idx → BitVec 32) (n : ℕ) : ℕ := (pre G n).toNat

variable {T : S16384.Idx → BitVec 32} {G : S64.Idx → BitVec 32} (h : Routed T G)
include h

theorem cnt_step (n : ℕ) : cnt G n ≤ 16384 * n ∧ (∀ hn : n < 64, cnt G (n + 1) = cnt G n + (G (ix64 n hn)).toNat) := by
  suffices hb : ∀ n, n ≤ 64 → cnt G n ≤ 16384 * n by
    have hb' : cnt G n ≤ 16384 * n := by
      by_cases hn : n ≤ 64
      · exact hb n hn
      · have e : ∀ k, 64 ≤ k → pre G k = pre G 64 := by
          intro k hk
          induction k, hk using Nat.le_induction with
          | base => rfl
          | succ k hk ih => rw [pre, dif_neg (by omega), ih]
        show (pre G n).toNat ≤ _
        rw [e n (by omega)]
        have := hb 64 le_rfl
        show cnt G 64 ≤ _
        omega
    refine ⟨hb', fun hn => ?_⟩
    show (pre G (n + 1)).toNat = _
    rw [pre_succ G n hn, BitVec.toNat_add, Nat.mod_eq_of_lt]
    have := h.size (ix64 n hn)
    show cnt G n + _ < _
    omega
  intro n
  induction n with
  | zero => intro _; exact Nat.le_of_eq rfl
  | succ n ih =>
    intro hn
    have i := ih (by omega)
    have := h.size (ix64 n (by omega))
    show (pre G (n + 1)).toNat ≤ _
    rw [pre_succ G n (by omega), BitVec.toNat_add]
    refine le_trans (Nat.mod_le _ _) ?_
    show cnt G n + _ ≤ _
    omega

theorem cnt_le_succ (n : ℕ) : cnt G n ≤ cnt G (n + 1) := by
  by_cases hn : n < 64
  · rw [(cnt_step h n).2 hn]; omega
  · show (pre G n).toNat ≤ (pre G (n + 1)).toNat
    rw [show pre G (n + 1) = pre G n by rw [pre, dif_neg hn]]

theorem cnt_mono {a b : ℕ} (hab : a ≤ b) : cnt G a ≤ cnt G b := by
  induction b, hab using Nat.le_induction with
  | base => exact le_rfl
  | succ k hk ih => exact le_trans ih (cnt_le_succ h k)

theorem cnt_last : cnt G 64 = 16384 := by
  show (pre G 64).toNat = _
  rw [h.total]; rfl

theorem cnt_le {n : ℕ} (hn : n ≤ 64) : cnt G n ≤ 16384 := (cnt_mono h hn).trans (cnt_last h).le

/-- A running count as a signed word. -/
theorem pre_toInt {n : ℕ} (hn : n ≤ 64) : (pre G n).toInt = (cnt G n : ℤ) := by
  have := cnt_le h hn
  have e : cnt G n = (pre G n).toNat := rfl
  rw [BitVec.toInt_eq_toNat_cond, if_pos (by omega)]

/-- The experts below the window of experts that grid point `t` meets have all their rows behind it. -/
theorem cnt_behind (t : Fin grid0.N) (w : BitVec 32) (q : ℤ) (hw : w.toInt = q) (e : ℕ) (he : e ≤ 64) (hb : Behind G w e) (x : ℕ)
    (hx : x < e) : (cnt G (x + 1) : ℤ) ≤ q := by
  have k := (sle_iff _ _).1 (hb x hx)
  rwa [pre_toInt h (by omega), hw] at k

theorem exists_expert (j : ℕ) (hj : j < 16384) : ∃ e < 64, cnt G e ≤ j ∧ j < cnt G (e + 1) := by
  have key : ∀ n ≤ 64, j < cnt G n → ∃ e < n, cnt G e ≤ j ∧ j < cnt G (e + 1) := by
    intro n
    induction n with
    | zero => intro _ hn; exact absurd hn (by show ¬ (j < 0); omega)
    | succ n ih =>
      intro hn hj
      by_cases hc : j < cnt G n
      · obtain ⟨e, he, k⟩ := ih (by omega) hc
        exact ⟨e, by omega, k⟩
      · exact ⟨n, by omega, by omega, hj⟩
  exact key 64 le_rfl (by rw [cnt_last h]; exact hj)

/-- How many experts have all their rows at or before row `j`, counted, is the expert of row `j`. -/
theorem count_eq (j : ℕ) (e : ℕ) (he : e < 64) (h0 : cnt G e ≤ j) (h1 : j < cnt G (e + 1)) :
    (Finset.univ.filter fun x : Fin 64 => cnt G (x.val + 1) ≤ j).card = e := by
  have : (Finset.univ.filter fun x : Fin 64 => cnt G (x.val + 1) ≤ j) = Finset.univ.filter fun x : Fin 64 => x.val < e := by
    refine Finset.filter_congr fun x _ => ⟨fun hx => ?_, fun hx => ?_⟩
    · by_contra hc
      have := cnt_mono h (show e + 1 ≤ x.val + 1 by omega)
      omega
    · exact (cnt_mono h (show x.val + 1 ≤ e by omega)).trans h0
  rw [this]
  exact Fin.card_filter_val_lt .. |>.trans (by omega)

/-- The count picks an expert exactly when the row is one of the expert's. -/
theorem count_iff (j : ℕ) (hj : j < 16384) (e : ℕ) (he : e < 64) :
    (Finset.univ.filter fun x : Fin 64 => cnt G (x.val + 1) ≤ j).card = e ↔ cnt G e ≤ j ∧ j < cnt G (e + 1) := by
  refine ⟨fun hc => ?_, fun hc => count_eq h j e he hc.1 hc.2⟩
  obtain ⟨e', he', h0, h1⟩ := exists_expert h j hj
  have := (count_eq h j e' he' h0 h1).symm.trans hc
  subst this
  exact ⟨h0, h1⟩

end Cert.KernelIdeal.Own
-- ==== Proof.KI.Product.lean ====
module

public import proofs.«01_k».proof.Proof.KI.T67
public import Idealize.ShloMosaic.Lib.Pointwise
public import Idealize.ShloMosaic.PureOps.Ideal.Laws

@[expose] public section

/-!
# The dense products as sums

At a pair of a token and an expert that no row joins, the third result is the product of the expert's new average with the token's
gradient, times the token's scale.
-/

set_option maxRecDepth 16384

noncomputable section

namespace Cert.KernelIdeal.Own

open Cert.KernelIdeal Cert.KernelIdeal.Gen
open Idealize.ShloMosaic Idealize.ShloMosaic.TcCoe Idealize.ShloMosaic.Tactic

/-- The product of an expert's average with a token's gradient, times the token's scale. -/
def denseOf (E : S64x4096.Idx → EReal) (dy : S2048x4096.Idx → BitVec 8) (sc : S2x1024.Idx → EReal) (i : S2048x64.Idx) : EReal :=
  (∑ d : Fin 4096, E (ix2 (⟨(i 1).val, (i 1).isLt⟩ : Fin 64) d)
      * FloatOps.ofBits (F := Ideal) .fp8e5m2 (dy (ix2 (⟨(i 0).val, (i 0).isLt⟩ : Fin 2048) d)))
    * sc (ix2 (⟨(i 0).val / 1024, by have h : (i 0).val < 2048 := (i 0).isLt; omega⟩ : Fin 2) (⟨(i 0).val % 1024, Nat.mod_lt _ (by decide)⟩ : Fin 1024))

theorem tr_left (v107 : FVec Ideal S64x4096 .bf16) (v117 : Vec Ideal S128x4096 .i8) (v122 : Vec Ideal S1x128 .f32) (a : Fin 128) (e : Fin 64) :
    denseTr (F := Ideal) v107 v117 v122 (at128 a.val a.isLt e.val (by omega))
      = ∑ d : Fin 4096, (v107 (ix2 e d) : EReal) * FloatOps.ofBits (F := Ideal) .fp8e5m2 (v117 (ix2 a d)) := by
  have h1 : denseTr (F := Ideal) v107 v117 v122 (at128 a.val a.isLt e.val (by omega))
      = matmul dot_S64x4096_S128x4096_S64x128_1_1_0_0_n_n none v107
      (bitcastToFloat .fp8e5m2 (shapeCast S128x4096 v117 shapeCasts_S128x4096_S128x4096)) (constant S64x128 .f32 0x00000000#32) (ix2 e a) := by
    unfold denseTr transpose
    refine concatenate_pair_apply_left (t := S128x128) (s₁ := S64x128) (s₂ := S64x128) _ _ _ _ _ rfl (ix2 e a : S64x128.Idx) ?_
    intro b
    match b with
    | ⟨0, _⟩ => rfl
    | ⟨1, _⟩ => rfl
  rw [h1]
  pointwise

theorem tr_right (v107 : FVec Ideal S64x4096 .bf16) (v117 : Vec Ideal S128x4096 .i8) (v122 : Vec Ideal S1x128 .f32) (a : Fin 128) :
    denseTr (F := Ideal) v107 v117 v122 (at128 a.val a.isLt 64 (by omega)) = v122 (ix2 (0 : Fin 1) a) := by
  have h1 : denseTr (F := Ideal) v107 v117 v122 (at128 a.val a.isLt 64 (by omega))
      = broadcastTo S64x128 (shapeCast S1x128 v122 shapeCasts_S1x128_S1x128) broadcasts_S1x128_S64x128 (ix2 (0 : Fin 64) a) := by
    unfold denseTr transpose
    refine concatenate_pair_apply_right (t := S128x128) (s₁ := S64x128) (s₂ := S64x128) _ _ _ _ _ rfl rfl (ix2 (0 : Fin 64) a : S64x128.Idx) ?_ ?_
    · intro b
      match b with
      | ⟨0, _⟩ => intro h; exact absurd rfl h
      | ⟨1, _⟩ => intro _; rfl
    · rfl
  rw [h1]
  pointwise

/-- What the third result holds at a pair that no row joins. -/
theorem dense_value {J : ℕ → ℕ → Prop} {E : S64x4096.Idx → EReal} {dy : S2048x4096.Idx → BitVec 8} {sc : S2x1024.Idx → EReal}
    {X11 : S2048x64.Idx → EReal} (h : Dense (F := Ideal) J E dy sc 2048 X11) (i : S2048x64.Idx) (hj : ¬ J (i 0).val (i 1).val) :
    X11 i = denseOf E dy sc i := by
  have h0 : (i 0).val < 2048 := (i 0).isLt
  have h1 : (i 1).val < 64 := (i 1).isLt
  have hi : i = pairAt (i 0).val h0 (i 1).val h1 := by
    funext d
    match d with
    | ⟨0, _⟩ => rfl
    | ⟨1, _⟩ => rfl
  have e := h _ h0 _ h1 h0 hj
  rw [← hi] at e
  rw [e]
  have l := tr_left (k0_pay6 (F := Ideal) E) (dyBlock (F := Ideal) dy ((i 0).val / 128)) (scBlock (F := Ideal) sc ((i 0).val / 128))
    ⟨(i 0).val % 128, Nat.mod_lt _ (by decide)⟩ ⟨(i 1).val, h1⟩
  have r := tr_right (k0_pay6 (F := Ideal) E) (dyBlock (F := Ideal) dy ((i 0).val / 128)) (scBlock (F := Ideal) sc ((i 0).val / 128))
    ⟨(i 0).val % 128, Nat.mod_lt _ (by decide)⟩
  show (_ : EReal) * _ = _
  rw [l, r]
  unfold denseOf
  have hsc : scBlock (F := Ideal) sc ((i 0).val / 128) (ix2 (0 : Fin 1) (⟨(i 0).val % 128, Nat.mod_lt _ (by decide)⟩ : Fin 128))
      = sc (ix2 (⟨(i 0).val / 1024, by omega⟩ : Fin 2) (⟨(i 0).val % 1024, Nat.mod_lt _ (by decide)⟩ : Fin 1024)) := by
    refine congrArg sc (funext fun d => Fin.ext ?_)
    match d with
    | ⟨0, _⟩ => show (i 0).val / 128 / 8 % 2 = (i 0).val / 1024; omega
    | ⟨1, _⟩ => show (128 * ((i 0).val / 128 % 8) + (i 0).val % 128) % 1024 = (i 0).val % 1024; omega
  rw [hsc]
  refine congrArg (fun z : EReal => z * _) (Finset.sum_congr rfl fun d _ => ?_)
  have hE : k0_pay6 (F := Ideal) E (ix2 (⟨(i 1).val, h1⟩ : Fin 64) d) = E (ix2 (⟨(i 1).val, h1⟩ : Fin 64) d) := by
    unfold k0_pay6
    pointwise
  have hdy : dyBlock (F := Ideal) dy ((i 0).val / 128) (ix2 (⟨(i 0).val % 128, Nat.mod_lt _ (by decide)⟩ : Fin 128) d)
      = dy (ix2 (⟨(i 0).val, h0⟩ : Fin 2048) d) := by
    refine congrArg dy (funext fun b => Fin.ext ?_)
    match b with
    | ⟨0, _⟩ => show (128 * ((i 0).val / 128) + (i 0).val % 128) % 2048 = (i 0).val; omega
    | ⟨1, _⟩ => rfl
  rw [hE, hdy]

end Cert.KernelIdeal.Own

end
-- ==== Proof.KI.Sum.lean ====
module

public import proofs.«01_k».proof.Proof.KI.Chunk
public import proofs.«01_k».proof.Proof.KI.Seg
public import proofs.«01_k».proof.Proof.KI.Run
public import proofs.«01_k».proof.Proof.KI.Product
public import Idealize.ShloMosaic.Lib.StableHlo.ReadAt
public import Idealize.ShloMosaic.Lib.Pipeline.ArrRel

@[expose] public section

/-!
# The kernel's sums, means, averages and dense products

The sums that the chunks build up are the sums over each expert's rows, and the results are functions of the arguments alone.
-/

set_option maxRecDepth 16384

noncomputable section

namespace Cert.KernelIdeal.Own

open Cert.KernelIdeal Cert.KernelIdeal.Gen
open Idealize.ShloMosaic Idealize.ShloMosaic.TcCoe Idealize.ShloMosaic.Tactic

open Cert.Own
open Idealize.ShloMosaic.Pipeline (RDat)

/-- The sum over an expert's rows of the scaled rows. -/
def rowSum (G : S64.Idx → BitVec 32) (sc : S16384.Idx → EReal) (y : S16384x4096.Idx → EReal) (e : ℕ) (d : Fin 4096) : EReal :=
  ∑ J : Fin 16384, if cnt G e ≤ J.val ∧ J.val < cnt G (e + 1) then sc (ix1 J) * y (ix2 J d) else 0

/-- An expert's mean. -/
def meanOf (G : S64.Idx → BitVec 32) (sc : S16384.Idx → EReal) (y : S16384x4096.Idx → EReal) (j : S64x4096.Idx) : EReal :=
  FloatOps.divf (F := Ideal) (φ := .f32) (rowSum G sc y (j 0).val (j 1))
    (FloatOps.sitofp (F := Ideal) .f32 (IntOp.maxsi (G (ix64 (j 0).val (j 0).isLt)) 1#32))

/-- An expert's moving average. -/
def emaOf (G : S64.Idx → BitVec 32) (sc : S16384.Idx → EReal) (y : S16384x4096.Idx → EReal) (ema : S64x4096.Idx → EReal) (j : S64x4096.Idx) : EReal :=
  Scalar.select (IntOp.cmpi .sgt (G (ix64 (j 0).val (j 0).isLt)) 0#32)
    (FloatOps.addf (F := Ideal) (φ := .f32) (FloatOps.mulf (F := Ideal) (φ := .f32) (Scalar.ofBits (F := Ideal) .f32 0x3F666666#32) (ema j))
      (FloatOps.mulf (F := Ideal) (φ := .f32) (Scalar.ofBits (F := Ideal) .f32 0x3DCCCCCD#32) (meanOf G sc y j)))
    (ema j)

theorem coord0 : ∀ t : Fin grid0.N, (grid0.coords t 0).val = t.val := by decide +kernel
theorem scanLo_toInt : ∀ t : Fin grid0.N, (scanLo (grid0.coords t)).toInt = 512 * t.val := by decide +kernel
theorem scanHi_toInt : ∀ t : Fin grid0.N, (scanHi (grid0.coords t)).toInt = 512 * t.val + 511 := by decide +kernel
theorem index4 : ∀ t : Fin grid0.N, win0_4.index t 0 = t.val ∧ win0_4.index t 1 = 0 := by decide +kernel
theorem index5 : ∀ t : Fin grid0.N, win0_5.index t 0 = 0 ∧ win0_5.index t 1 = t.val := by decide +kernel

variable (m : (ℓ : Loc nD τ sig) → Buf (Elt Ideal) ℓ) (ρ : Dev nD → PrngReg)

/-- The rows, their scales and the old averages as launched. -/
abbrev rowsIn (c : Dev nD) : S16384x4096.Idx → EReal := m ((c : Thread nD τ).loc main_arg3)
abbrev scalesIn (c : Dev nD) : S16384.Idx → EReal := m ((c : Thread nD τ).loc main_arg4)
abbrev emaIn (c : Dev nD) : S64x4096.Idx → EReal := m ((c : Thread nD τ).loc main_arg7)

theorem iblk4 (c : Dev nD) (t : Fin grid0.N) (x : Fin 512) (d : Fin 4096) (h : 512 * t.val + x.val < 16384) :
    iblk m c 4 t (ix2 x d) = rowsIn m c (ix2 ⟨512 * t.val + x.val, h⟩ d) := by
  have hv : V m c main_arg3 = m ((c : Thread nD τ).loc main_arg3) := V_keep m c main_arg3 (by decide) (by decide) (by decide)
  obtain ⟨i0, i1⟩ := index4 t
  show V m c main_arg3 _ = _
  rw [hv]
  congr 1
  funext a
  apply Fin.ext
  match a with
  | ⟨0, _⟩ => show win0_4.index t 0 * 512 + 1 * x.val = 512 * t.val + x.val; rw [i0]; omega
  | ⟨1, _⟩ => show win0_4.index t 1 * 4096 + 1 * d.val = d.val; rw [i1]; omega

theorem V_scales (c : Dev nD) (x : Fin 16384) : V m c main_v1 (ix2 (0 : Fin 1) x) = scalesIn m c (ix1 x) := by
  have hv : V m c main_v1 = shapeCast S1x16384 (scalesIn m c) shapeCasts_S16384_S1x16384 := by
    unfold V
    after_reads_simp
    rfl
  rw [hv]
  pointwise

theorem iblk5 (c : Dev nD) (t : Fin grid0.N) (x : Fin 512) (h : 512 * t.val + x.val < 16384) :
    iblk m c 5 t (ix2 (0 : Fin 1) x) = scalesIn m c (ix1 ⟨512 * t.val + x.val, h⟩) := by
  obtain ⟨i0, i1⟩ := index5 t
  rw [← V_scales]
  show V m c main_v1 _ = _
  congr 1
  funext a
  apply Fin.ext
  match a with
  | ⟨0, _⟩ => show win0_5.index t 0 * 1 + 1 * 0 = 0; rw [i0]
  | ⟨1, _⟩ => show win0_5.index t 1 * 512 + 1 * x.val = 512 * t.val + x.val; rw [i1]; omega

theorem iblk7 (c : Dev nD) (t : Fin grid0.N) : iblk m c 7 t = emaIn m c := by
  have h : V m c main_arg7 = m ((c : Thread nD τ).loc main_arg7) := V_keep m c main_arg7 (by decide) (by decide) (by decide)
  funext p
  show V m c main_arg7 _ = _
  rw [h]
  congr 1
  funext a
  apply Fin.ext
  match a with
  | ⟨0, _⟩ => show 0 * 64 + 1 * (p 0).val = _; rw [Nat.zero_mul, Nat.one_mul, Nat.zero_add]; rfl
  | ⟨1, _⟩ => show 0 * 4096 + 1 * (p 1).val = _; rw [Nat.zero_mul, Nat.one_mul, Nat.zero_add]; rfl

/-- The gradients and their scales as launched. -/
abbrev gradsIn (c : Dev nD) : S2048x4096.Idx → BitVec 8 :=
  shapeCast S2048x4096 (m ((c : Thread nD τ).loc main_arg1) : S2x1024x4096.Idx → BitVec 8) shapeCasts_S2x1024x4096_S2048x4096
abbrev gradScalesIn (c : Dev nD) : S2x1024.Idx → EReal := m ((c : Thread nD τ).loc main_arg2)

theorem V_grads (c : Dev nD) : V m c main_v0 = gradsIn m c := by
  unfold V
  after_reads_simp
  rfl

theorem iblk2 (c : Dev nD) (t : Fin grid0.N) : iblk m c 2 t = gradsIn m c := by
  funext p
  show V m c main_v0 _ = _
  rw [V_grads]
  refine congrArg (gradsIn m c) (funext fun a => Fin.ext ?_)
  match a with
  | ⟨0, _⟩ => show 0 * 2048 + 1 * (p 0).val = _; rw [Nat.zero_mul, Nat.one_mul, Nat.zero_add]; rfl
  | ⟨1, _⟩ => show 0 * 4096 + 1 * (p 1).val = _; rw [Nat.zero_mul, Nat.one_mul, Nat.zero_add]; rfl

theorem iblk3 (c : Dev nD) (t : Fin grid0.N) : iblk m c 3 t = gradScalesIn m c := by
  have h : V m c main_arg2 = m ((c : Thread nD τ).loc main_arg2) := V_keep m c main_arg2 (by decide) (by decide) (by decide)
  funext p
  show V m c main_arg2 _ = _
  rw [h]
  congr 1
  funext a
  apply Fin.ext
  match a with
  | ⟨0, _⟩ => show 0 * 2 + 1 * (p 0).val = _; rw [Nat.zero_mul, Nat.one_mul, Nat.zero_add]; rfl
  | ⟨1, _⟩ => show 0 * 1024 + 1 * (p 1).val = _; rw [Nat.zero_mul, Nat.one_mul, Nat.zero_add]; rfl

/-- One row's share of an expert's sum. -/
def share (c : Dev nD) (e : ℕ) (d : Fin 4096) (J : ℕ) : EReal :=
  if hJ : J < 16384 then
    if cnt (groups m c) e ≤ J ∧ J < cnt (groups m c) (e + 1) then scalesIn m c (ix1 ⟨J, hJ⟩) * rowsIn m c (ix2 ⟨J, hJ⟩ d) else 0
  else 0

theorem share_of (c : Dev nD) (e : ℕ) (d : Fin 4096) (J : ℕ) (hJ : J < 16384) : share m c e d J
    = if cnt (groups m c) e ≤ J ∧ J < cnt (groups m c) (e + 1) then scalesIn m c (ix1 ⟨J, hJ⟩) * rowsIn m c (ix2 ⟨J, hJ⟩ d) else 0 :=
  dif_pos hJ

/-- What the kernel's sums are before chunk `t`: the sums over the rows of the chunks before it. -/
def Sums (c : Dev nD) (t : ℕ) (X : S64x4096.Idx → Elt Ideal .f32) : Prop :=
  ∀ j, X j = ∑ s ∈ Finset.range t, ∑ x : Fin 512, share m c (j 0).val (j 1) (512 * s + x.val)

theorem part_share (c : Dev nD) (t : Fin grid0.N) (e : ℕ) (d : Fin 4096) :
    part t.val (pre (groups m c) e) (pre (groups m c) (e + 1)) (iblk m c 5 t) (iblk m c 4 t) d
      = ∑ x : Fin 512, share m c e d (512 * t.val + x.val) := by
  have ht : t.val < 32 := t.isLt
  refine Finset.sum_congr rfl fun x _ => ?_
  have hx : 512 * t.val + x.val < 16384 := by omega
  rw [share, dif_pos hx, iblk5 m c t x hx, iblk4 m c t x d hx]

/-- What the results hold at the end. -/
def Ends (c : Dev nD) (w : Fin (cfg0 (F := Ideal)).W) (X : ((cfg0 (F := Ideal)).win w).block.Idx → Elt Ideal ((cfg0 (F := Ideal)).win w).elt) : Prop :=
  (∀ h : w = (9 : Fin 12), ∀ j : S64x4096.Idx,
      (h ▸ X : ((cfg0 (F := Ideal)).win (9 : Fin 12)).block.Idx → Elt Ideal ((cfg0 (F := Ideal)).win (9 : Fin 12)).elt) j
        = emaOf (groups m c) (scalesIn m c) (rowsIn m c) (emaIn m c) j)
  ∧ (∀ h : w = (11 : Fin 12), ∀ j : S64x4096.Idx,
      (h ▸ X : ((cfg0 (F := Ideal)).win (11 : Fin 12)).block.Idx → Elt Ideal ((cfg0 (F := Ideal)).win (11 : Fin 12)).elt) j
        = meanOf (groups m c) (scalesIn m c) (rowsIn m c) j)
  ∧ (∀ h : w = (10 : Fin 12), ∀ i : S2048x64.Idx, ¬ Joins (tokens m c) (groups m c) (i 0).val (i 1).val →
      (h ▸ X : ((cfg0 (F := Ideal)).win (10 : Fin 12)).block.Idx → Elt Ideal ((cfg0 (F := Ideal)).win (10 : Fin 12)).elt) i
        = denseOf (emaOf (groups m c) (scalesIn m c) (rowsIn m c) (emaIn m c)) (gradsIn m c) (gradScalesIn m c) i)

section
variable (c : Dev nD) (h : Routed (tokens m c) (groups m c)) (hs : ∀ p, scalesIn m c p - scalesIn m c p = 0)
include h hs

theorem sums_step (t : Fin (cfg0 (F := Ideal)).N) (a b : Fin 64) (X17 : S64x4096.Idx → Elt Ideal .f32) (X18 X19 : S64x128.Idx → BitVec 32)
    (X20 : S8x128.Idx → BitVec 32) (X21 : S64.Idx → BitVec 32) (hab : a.val ≤ b.val) (hT : Tables (groups m c) X18 X19 X20 X21)
    (hX : Sums m c t.val X17) (ha : Behind (groups m c) (scanLo (grid0.coords t)) a.val) (hb : Behind (groups m c) (scanHi (grid0.coords t)) b.val)
    (hn : Scalar.cmpi .sle (pre (groups m c) (b.val + 1)) (scanHi (grid0.coords t)) ≠ 1#1) :
    Sums m c (t.val + 1) (tiles (F := Ideal) (grid0.coords t) (iblk m c 4 t) (iblk m c 5 t) X18 X19 (a.val / 8) X17 (b.val / 8 - a.val / 8 + 1)) := by
  intro j
  have ht : t.val < 32 := t.isLt
  have hj : (j 0).val < 64 := (j 0).isLt
  have e18 : ∀ p : S64x128.Idx, X18 p = pre (groups m c) (p 0).val := fun p => hT.counted.starts p (p 0).isLt
  have e19 : ∀ p : S64x128.Idx, X19 p = pre (groups m c) ((p 0).val + 1) := fun p => hT.counted.stops p (p 0).isLt
  have hsc : ∀ p : S1x512.Idx, @HSub.hSub EReal EReal EReal _ (iblk m c 5 t p) (iblk m c 5 t p) = 0 := by
    intro p
    have hp : (p 1).val < 512 := (p 1).isLt
    have e : p = ix2 (0 : Fin 1) (p 1) := by
      funext k
      match k with
      | ⟨0, _⟩ => exact Subsingleton.elim (α := Fin 1) _ _
      | ⟨1, _⟩ => rfl
    rw [e]
    exact (congrArg (fun z : EReal => z - z) (iblk5 m c t ⟨(p 1).val, hp⟩ (by show _ + (p 1).val < _; omega))).trans (hs _)
  rw [tiles_at (grid0.coords t) (by rw [coord0 t]; exact ht) (iblk m c 4 t) (iblk m c 5 t) hsc X18 X19
    (fun p => by rw [e18]; exact cnt_le h (Nat.le_of_lt (p 0).isLt)) (fun p => by rw [e19]; exact cnt_le h (p 0).isLt)
    X17 (a.val / 8) (b.val / 8 - a.val / 8 + 1) (by omega) j, e18, e19, hX j, Finset.sum_range_succ, coord0 t]
  have hp := part_share m c t (j 0).val (j 1)
  split_ifs with hin
  · exact congrArg _ hp
  · rw [← hp]
    suffices hz : part t.val (pre (groups m c) (j 0).val) (pre (groups m c) ((j 0).val + 1)) (iblk m c 5 t) (iblk m c 4 t) (j 1) = 0 by
      rw [hz, add_zero]
    refine Finset.sum_eq_zero fun x _ => if_neg ?_
    rintro ⟨h1, h2⟩
    have hx := x.isLt
    have h1' : cnt (groups m c) (j 0).val ≤ 512 * t.val + x.val := h1
    have h2' : 512 * t.val + x.val < cnt (groups m c) ((j 0).val + 1) := h2
    by_cases hlow : (j 0).val / 8 < a.val / 8
    · have := cnt_behind h t _ _ (scanLo_toInt t) a.val (by omega) ha (j 0).val (by omega)
      omega
    · have hle := cnt_mono h (show b.val + 1 ≤ (j 0).val by omega)
      rw [ne_eq, sle_iff, pre_toInt h (by omega), scanHi_toInt t] at hn
      omega

omit hs in
/-- The sums after the last chunk are the sums over all rows. -/
theorem sums_all (X : S64x4096.Idx → Elt Ideal .f32) (hX : Sums m c 32 X) (j : S64x4096.Idx) :
    X j = rowSum (groups m c) (scalesIn m c) (rowsIn m c) (j 0).val (j 1) := by
  rw [hX j, Finset.sum_range, ← Fintype.sum_prod_type']
  unfold rowSum
  refine Fintype.sum_equiv (finProdFinEquiv (m := 32) (n := 512)) _ _ fun p => ?_
  have hp1 := p.1.isLt
  have hp2 := p.2.isLt
  have hv : (finProdFinEquiv p).val = 512 * p.1.val + p.2.val := by
    show p.2.val + 512 * p.1.val = _; omega
  have hlt : 512 * p.1.val + p.2.val < 16384 := by omega
  have hq : (finProdFinEquiv p : Fin 16384) = ⟨512 * p.1.val + p.2.val, hlt⟩ := Fin.ext hv
  refine (share_of m c _ _ _ hlt).trans ?_
  exact congrArg (fun J : Fin 16384 => if cnt (groups m c) (j 0).val ≤ J.val ∧ J.val < cnt (groups m c) ((j 0).val + 1)
    then scalesIn m c (ix1 J) * rowsIn m c (ix2 J (j 1)) else 0) hq.symm

omit hs in
/-- A group's size from the tables. -/
theorem size_of (X18 X19 : S64x128.Idx → BitVec 32) (X20 : S8x128.Idx → BitVec 32) (X21 : S64.Idx → BitVec 32)
    (hT : Tables (groups m c) X18 X19 X20 X21) (p : S64x128.Idx) : X19 p - X18 p = groups m c (ix64 (p 0).val (p 0).isLt) := by
  rw [hT.counted.starts p (p 0).isLt, hT.counted.stops p (p 0).isLt, pre_succ _ _ (p 0).isLt]
  exact add_sub_cancel_left _ _

omit hs in
theorem ends_of (t : Fin (cfg0 (F := Ideal)).N) (X10 X12 : S64x4096.Idx → Elt Ideal .f32) (ht : t.val = 31)
    (hL : Last (F := Ideal) (groups m c) (Sums m c (t.val + 1)) (iblk m c 7 t) X10 X12) :
    (∀ j, X10 j = emaOf (groups m c) (scalesIn m c) (rowsIn m c) (emaIn m c) j) ∧ ∀ j, X12 j = meanOf (groups m c) (scalesIn m c) (rowsIn m c) j := by
  rw [ht, iblk7] at hL
  obtain ⟨X17, X18, X19, X20, X21, hT, hX, e12, e10⟩ := hL
  have hg : ∀ j : S64x4096.Idx, groups m c (ix64 (j 0).val (j 0).isLt)
      = X19 (ix2 (⟨(j 0).val, (j 0).isLt⟩ : Fin 64) (0 : Fin 128)) - X18 (ix2 (⟨(j 0).val, (j 0).isLt⟩ : Fin 64) (0 : Fin 128)) :=
    fun j => (size_of m c h X18 X19 X20 X21 hT (ix2 (⟨(j 0).val, (j 0).isLt⟩ : Fin 64) (0 : Fin 128))).symm
  have h12 : ∀ j, k0_pay4 (F := Ideal) X19 X18 X17 j = meanOf (groups m c) (scalesIn m c) (rowsIn m c) j := by
    intro j
    rw [meanOf, ← sums_all m c h X17 hX j]
    show _ = FloatOps.divf (F := Ideal) (φ := .f32) (X17 j) (FloatOps.sitofp .f32 (IntOp.maxsi (groups m c (ix64 (j 0).val (j 0).isLt)) 1#32))
    rw [hg j]
    unfold k0_pay4 k0_pay3
    pointwise
    rfl
  refine ⟨fun j => ?_, fun j => by rw [e12]; exact h12 j⟩
  rw [e10, emaOf, ← h12 j]
  show _ = Scalar.select (IntOp.cmpi .sgt (groups m c (ix64 (j 0).val (j 0).isLt)) 0#32) _ _
  rw [hg j]
  unfold k0_pay5
  generalize k0_pay4 (F := Ideal) X19 X18 X17 = Y
  unfold k0_pay3
  pointwise
  rfl

theorem sound : Sound m (Sums m) (Ends m) c where
  total := by rw [h.total]; decide
  toks := h.tok
  first := by
    intro j
    unfold k0_pay358
    simp only [Finset.range_zero, Finset.sum_empty]
    pointwise
  step := fun t a b X17 X18 X19 X20 X21 h1 h2 h3 h4 h5 h6 => sums_step m c h hs t a b X17 X18 X19 X20 X21 h1 h2 h3 h4 h5 h6
  out8 := fun X => ⟨fun h => absurd h (by decide), fun h => absurd h (by decide), fun h => absurd h (by decide)⟩
  out9 := fun t X10 X12 ht hL =>
    have e := ends_of m c h t X10 X12 ht hL
    ⟨⟨fun _ => e.1, fun h => absurd h (by decide), fun h => absurd h (by decide)⟩,
      ⟨fun h => absurd h (by decide), fun _ => e.2, fun h => absurd h (by decide)⟩⟩
  out10 := fun t X10 X11 X12 ht hL hD => by
    have e := (ends_of m c h t X10 X12 ht hL).1
    rw [iblk2 m c t, iblk3 m c t, show X10 = emaOf (groups m c) (scalesIn m c) (rowsIn m c) (emaIn m c) from funext e] at hD
    exact ⟨fun h => absurd h (by decide), fun h => absurd h (by decide), fun _ i hi => dense_value hD i hi⟩

end

end Cert.KernelIdeal.Own

end
-- ==== Proof.KI.Values.lean ====
module

public import proofs.«01_k».proof.Proof.KI.Sum

@[expose] public section

/-!
# The kernel's results

What the result arrays hold after the run.
-/

set_option maxRecDepth 16384

noncomputable section

namespace Cert.KernelIdeal.Own

open Cert.KernelIdeal Cert.KernelIdeal.Gen
open Idealize.ShloMosaic Idealize.ShloMosaic.TcCoe Idealize.ShloMosaic.Tactic
open Cert.Own
open Idealize.ShloMosaic.Pipeline (RDat)

theorem whole9 : ((cfg0 (F := Ideal)).win 9).WholeAt ⟨31, by decide⟩ := by decide +kernel
theorem whole10 : ((cfg0 (F := Ideal)).win 10).WholeAt ⟨31, by decide⟩ := by decide +kernel
theorem whole11 : ((cfg0 (F := Ideal)).win 11).WholeAt ⟨31, by decide⟩ := by decide +kernel

variable (m : (ℓ : Loc nD τ sig) → Buf (Elt Ideal) ℓ) (ρ : Dev nD → PrngReg)

/-- The averages after the run. -/
theorem final_ema {r : PUnit × MemSt nD τ sig (Elt Ideal)} (h : RDat.FramePost (cfgs 0) (rdat m (Sums m) (Ends m)) (V m) r) (c : Dev nD)
    (i : S64x4096.Idx) :
    r.2.mem ((c : Thread nD τ).loc main_v3_1) i = emaOf (groups m c) (scalesIn m c) (rowsIn m c) (emaIn m c) i := by
  obtain ⟨X, ⟨Y, -, hY⟩, hX⟩ := Pipeline.RDat.ArrAt.emb_eq_of_wholeAt ((h c).1 9) whole9
  exact (hX i).trans ((hY rfl).1 rfl i)

/-- The means after the run. -/
theorem final_mean {r : PUnit × MemSt nD τ sig (Elt Ideal)} (h : RDat.FramePost (cfgs 0) (rdat m (Sums m) (Ends m)) (V m) r) (c : Dev nD)
    (i : S64x4096.Idx) :
    r.2.mem ((c : Thread nD τ).loc main_v3_3) i = meanOf (groups m c) (scalesIn m c) (rowsIn m c) i := by
  obtain ⟨X, ⟨Y, -, hY⟩, hX⟩ := Pipeline.RDat.ArrAt.emb_eq_of_wholeAt ((h c).1 11) whole11
  exact (hX i).trans ((hY rfl).2.1 rfl i)

/-- The gradients after the run, at the pairs that no row joins. -/
theorem final_grad {r : PUnit × MemSt nD τ sig (Elt Ideal)} (h : RDat.FramePost (cfgs 0) (rdat m (Sums m) (Ends m)) (V m) r) (c : Dev nD)
    (i : S2048x64.Idx) (hi : ¬ Joins (tokens m c) (groups m c) (i 0).val (i 1).val) :
    r.2.mem ((c : Thread nD τ).loc main_v3_2) i
      = denseOf (emaOf (groups m c) (scalesIn m c) (rowsIn m c) (emaIn m c)) (gradsIn m c) (gradScalesIn m c) i := by
  obtain ⟨X, ⟨Y, -, hY⟩, hX⟩ := Pipeline.RDat.ArrAt.emb_eq_of_wholeAt ((h c).1 10) whole10
  exact (hX i).trans ((hY rfl).2.2 rfl i hi)

end Cert.KernelIdeal.Own

end
-- ==== Proof.RI.Rows.lean ====
module

public import proofs.«01_k».proof.Proof.Gen.ReferenceIdeal.Value
public import proofs.«01_k».proof.Proof.KI.Seg
public import Idealize.ShloMosaic.Lib.StableHlo.ReadAt
public import Idealize.ShloMosaic.Lib.Pointwise
public import Idealize.ShloMosaic.Lib.Routing.Ops

@[expose] public section

/-!
# The reference's table of rows and experts

The host code finds where each expert's rows end by a masked sum of the group sizes, counts the ends at or before each row, and
compares the count with the experts' numbers. `table_eq` says what the table holds: a one where the row is one of the expert's.
-/

set_option maxRecDepth 16384

noncomputable section

namespace Cert.ReferenceIdeal.Own

open Cert.ReferenceIdeal Cert.ReferenceIdeal.Gen
open Idealize.ShloMosaic Idealize.ShloMosaic.TcCoe Idealize.ShloMosaic.Tactic
open Cert.KernelIdeal.Own (pre cnt Routed ix64 pre_sum fold_addi pre_succ count_iff cnt_le)

variable (m : (ℓ : Loc nD τ sig) → Buf (Elt Ideal) ℓ)

abbrev groups (c : Dev nD) : S64.Idx → BitVec 32 := m ((c : Thread nD τ).loc main_arg6)
abbrev tokens (c : Dev nD) : S16384.Idx → BitVec 32 := m ((c : Thread nD τ).loc main_arg5)

/-- The groups up to each expert: group `k` in column `e` if `k ≤ e`. -/
def upTo (G : IVec S64 32) : IVec S64x64 32 :=
  select (cmpi .sle (broadcastInDim S64x64 ![0, 1] bcast_S64x1_S64x64_0_1 (broadcastInDim S64x1 ![0] bcast_S64_S64x1_0 (iotaInDim S64 32 0)))
      (broadcastInDim S64x64 ![0, 1] bcast_S1x64_S64x64_0_1 (broadcastInDim S1x64 ![1] bcast_S64_S1x64_1 (iotaInDim S64 32 0))))
    (broadcastInDim S64x64 ![0, 1] bcast_S64x1_S64x64_0_1 (broadcastInDim S64x1 ![0] bcast_S64_S64x1_0 G))
    (broadcastInDim S64x64 ![] bcast_S_S64x64 (constantI S_ 32 0#32))

/-- Where each expert's rows end, as the host computes it. -/
def ends (G : IVec S64 32) : IVec S64 32 :=
  Host.reduce IntOp.addi (upTo G) (constantI S_ 32 0#32) reducesTo_S64x64_S64_d0 h_S_

/-- Which rows are past each expert's end. -/
def past (G : IVec S64 32) : IVec S16384x64 1 :=
  cmpi .sle (broadcastInDim S16384x64 ![0, 1] bcast_S1x64_S16384x64_0_1 (broadcastInDim S1x64 ![1] bcast_S64_S1x64_1 (ends G)))
    (broadcastInDim S16384x64 ![0, 1] bcast_S16384x1_S16384x64_0_1 (broadcastInDim S16384x1 ![0] bcast_S16384_S16384x1_0 (iotaInDim S16384 32 0)))

/-- Which expert each row is of. -/
def rowExpert (G : IVec S64 32) : IVec S16384 32 :=
  Host.reduce IntOp.addi (extui 32 (past G) natLt_1_32) (constantI S_ 32 0#32) reducesTo_S16384x64_S16384_d1 h_S_

/-- The table of rows and experts. -/
def table (G : IVec S64 32) : FVec Ideal S16384x64 .f32 :=
  uitofp .f32 (cmpi .eq
    (broadcastInDim S16384x64 ![0, 1] bcast_S16384x1_S16384x64_0_1 (broadcastInDim S16384x1 ![0] bcast_S16384_S16384x1_0 (rowExpert G)))
    (broadcastInDim S16384x64 ![0, 1] bcast_S1x64_S16384x64_0_1 (broadcastInDim S1x64 ![1] bcast_S64_S1x64_1 (iotaInDim S64 32 0))))

set_option maxHeartbeats 1600000 in
theorem V_table (c : Dev nD) : V m c main_v22 = table (groups m c) := by
  unfold V
  simp only [hostOps0, hostOps0_1, hostOps0_2, List.flatten_cons, List.flatten_nil, List.cons_append, List.nil_append, List.append_nil]
  after_reads_simp
  rfl

theorem pre_range (G : S64.Idx → BitVec 32) : ∀ n, pre G n = ∑ k ∈ Finset.range n, if h : k < 64 then G (ix64 k h) else 0#32
  | 0 => rfl
  | n + 1 => by
    rw [Finset.sum_range_succ, ← pre_range G n]
    by_cases h : n < 64
    · rw [pre_succ G n h, dif_pos h]
    · rw [dif_neg h, pre, dif_neg h]; exact (add_zero _).symm

theorem reduces0 : S64x64.Reduces [0] S64 := by decide

theorem sle_bit (x y : BitVec 32) : IntOp.cmpi .sle x y = 1#1 ↔ x.toInt ≤ y.toInt := by
  rw [show IntOp.cmpi .sle x y = BitVec.ofBool (decide (x.toInt ≤ y.toInt)) from rfl]
  by_cases h : x.toInt ≤ y.toInt <;> simp [h]

theorem select_bit {α : Type} (c : BitVec 1) (P : Prop) [Decidable P] (h : c = 1#1 ↔ P) (x y : α) :
    Scalar.select c x y = if P then x else y := by
  show (if c = 1#1 then x else y) = _
  by_cases hp : P
  · rw [if_pos hp, if_pos (h.mpr hp)]
  · rw [if_neg hp, if_neg (fun hc => hp (h.mp hc))]

theorem ofNat_toInt (n : ℕ) (h : n < 16384) : (BitVec.ofNat 32 n).toInt = (n : ℤ) := by
  rw [BitVec.toInt_eq_toNat_cond, BitVec.toNat_ofNat, if_pos (by omega)]
  omega

theorem ix64_eq (k : Fin 64) : ix64 k.val k.isLt = ix1 k := by
  funext a
  fin_cases a
  rfl

theorem upTo_eq (G : IVec S64 32) (k e : Fin 64) :
    upTo G (ix2 k e) = if k.val < e.val + 1 then G (ix64 k.val k.isLt) else 0#32 := by
  have he : upTo G (ix2 k e) = Scalar.select (IntOp.cmpi .sle (BitVec.ofNat 32 k.val) (BitVec.ofNat 32 e.val)) (G (ix1 k)) 0#32 := by
    unfold upTo
    pointwise
  rw [he, ix64_eq]
  refine select_bit _ (k.val < e.val + 1) ?_ (G (ix1 k)) 0#32
  rw [sle_bit, ofNat_toInt _ (by omega), ofNat_toInt _ (by omega)]
  omega

theorem ends_eq (G : IVec S64 32) (e : Fin 64) : ends G (ix1 e) = pre G (e.val + 1) := by
  unfold ends
  rw [Host.reduce_eq_fold_single IntOp.addi _ _ reducesTo_S64x64_S64_d0 reduces0]
  refine (fold_addi _ _).trans ?_
  rw [pre_range]
  have hl : ∀ k : Fin 64, reduces0.lift (ix1 e) k = ix2 k e := fun k => by
    funext a
    apply Fin.ext
    fin_cases a <;> rfl
  have hs : (∑ k : Fin 64, if k.val < e.val + 1 then G (ix64 k.val k.isLt) else 0#32)
      = ∑ k ∈ Finset.range (e.val + 1), if h : k < 64 then G (ix64 k h) else 0#32 := by
    have h1 := Finset.sum_range (n := 64) (fun k => if k < e.val + 1 then (if h : k < 64 then G (ix64 k h) else 0#32) else 0#32)
    have h2 : (∑ k : Fin 64, if k.val < e.val + 1 then G (ix64 k.val k.isLt) else 0#32)
        = ∑ k : Fin 64, if k.val < e.val + 1 then (if h : k.val < 64 then G (ix64 k.val h) else 0#32) else 0#32 :=
      Finset.sum_congr rfl fun k _ => by rw [dif_pos k.isLt]
    refine h2.trans (h1.symm.trans ?_)
    refine (Finset.sum_filter _ _).symm.trans (Finset.sum_congr ?_ fun _ _ => rfl)
    ext k
    simp only [Finset.mem_filter, Finset.mem_range]
    have := e.isLt
    omega
  rw [← hs]
  refine Finset.sum_congr rfl fun k _ => ?_
  exact (congrArg (upTo G) (hl k)).trans (upTo_eq G k e)

variable {T : S16384.Idx → BitVec 32} {G : S64.Idx → BitVec 32}

theorem past_iff (h : Routed T G) (j : Fin 16384) (e : Fin 64) : past G (ix2 j e) = 1#1 ↔ cnt G (e.val + 1) ≤ j.val := by
  have he : past G (ix2 j e) = IntOp.cmpi .sle (ends G (ix1 e)) (BitVec.ofNat 32 j.val) := by
    unfold past
    pointwise
  rw [he, sle_bit, ends_eq, Cert.KernelIdeal.Own.pre_toInt h (by omega), ofNat_toInt _ j.isLt]
  exact Int.ofNat_le

theorem rowExpert_toNat (h : Routed T G) (j : Fin 16384) :
    (rowExpert G (ix1 j)).toNat = (Finset.univ.filter fun x : Fin 64 => cnt G (x.val + 1) ≤ j.val).card := by
  unfold rowExpert
  refine (StableHlo.Predicate.toNat_reduce_count_cols (by decide) (past G) natLt_1_32 reducesTo_S16384x64_S16384_d1 h_S_ (ix1 j)).trans ?_
  congr 1
  refine Finset.filter_congr fun x _ => ?_
  have hx : past G (StableHlo.Predicate.ij j x) = 1#1 ↔ _ := past_iff h j x
  exact hx

/-- The table has a one where the row is one of the expert's, a zero everywhere else. -/
theorem table_eq (h : Routed T G) (j : Fin 16384) (e : Fin 64) :
    table G (ix2 j e) = if cnt G e.val ≤ j.val ∧ j.val < cnt G (e.val + 1) then (1 : EReal) else 0 := by
  have he : table G (ix2 j e) = FloatOps.uitofp (F := Ideal) .f32 (IntOp.cmpi .eq (rowExpert G (ix1 j)) (BitVec.ofNat 32 e.val)) := by
    unfold table
    pointwise
  rw [he]
  have hq : rowExpert G (ix1 j) = BitVec.ofNat 32 e.val ↔ cnt G e.val ≤ j.val ∧ j.val < cnt G (e.val + 1) := by
    rw [← count_iff h j.val j.isLt e.val e.isLt, ← rowExpert_toNat h j]
    have := e.isLt
    constructor
    · intro hr; rw [hr, BitVec.toNat_ofNat]; omega
    · intro hr; apply BitVec.eq_of_toNat_eq; rw [hr, BitVec.toNat_ofNat]; omega
  show (((BitVec.ofBool (rowExpert G (ix1 j) == BitVec.ofNat 32 e.val)).toNat : ℝ) : EReal) = _
  by_cases hp : cnt G e.val ≤ j.val ∧ j.val < cnt G (e.val + 1)
  · rw [if_pos hp, hq.mpr hp, beq_self_eq_true]
    simp
  · rw [if_neg hp, beq_eq_false_iff_ne.mpr (fun hr => hp (hq.mp hr))]
    simp

end Cert.ReferenceIdeal.Own

end
-- ==== Proof.RI.Mean.lean ====
module

public import proofs.«01_k».proof.Proof.RI.Rows
public import proofs.«01_k».proof.Proof.KI.Sum
public import Idealize.ShloMosaic.PureOps.Ideal.Laws

@[expose] public section

/-!
# The reference's means and averages

The product of the table with the scaled rows is the sum over each expert's rows, so the reference's means and moving averages are
`meanOf` and `emaOf`, the functions that the kernel's results are proved to be.
-/

set_option maxRecDepth 16384

noncomputable section

namespace Cert.ReferenceIdeal.Own

open Cert.ReferenceIdeal Cert.ReferenceIdeal.Gen
open Idealize.ShloMosaic Idealize.ShloMosaic.TcCoe Idealize.ShloMosaic.Tactic
open Cert.KernelIdeal.Own (pre cnt Routed ix64 rowSum meanOf emaOf)

variable (m : (ℓ : Loc nD τ sig) → Buf (Elt Ideal) ℓ)

abbrev rowsIn (c : Dev nD) : S16384x4096.Idx → EReal := m ((c : Thread nD τ).loc main_arg3)
abbrev scalesIn (c : Dev nD) : S16384.Idx → EReal := m ((c : Thread nD τ).loc main_arg4)
abbrev emaIn (c : Dev nD) : S64x4096.Idx → EReal := m ((c : Thread nD τ).loc main_arg7)

set_option maxHeartbeats 1600000 in
theorem V_scales (c : Dev nD) (J : Fin 16384) : V m c main_v31 (ix2 J 0) = scalesIn m c (ix1 J) := by
  have h : V m c main_v31 = shapeCast S16384x1 (scalesIn m c) shapeCasts_S16384_S16384x1 := by
    unfold V
    simp only [hostOps0, hostOps0_1, hostOps0_2, List.flatten_cons, List.flatten_nil, List.cons_append, List.nil_append, List.append_nil]
    after_reads_simp
    rfl
  rw [h]
  pointwise

set_option maxHeartbeats 1600000 in
theorem V_groups (c : Dev nD) (e : Fin 64) : V m c main_v34 (ix2 e 0) = groups m c (ix1 e) := by
  have h : V m c main_v34 = shapeCast S64x1 (groups m c) shapeCasts_S64_S64x1 := by
    unfold V
    simp only [hostOps0, hostOps0_1, hostOps0_2, List.flatten_cons, List.flatten_nil, List.cons_append, List.nil_append, List.append_nil]
    after_reads_simp
    rfl
  rw [h]
  pointwise

theorem pay3_eq (seg : Vec Ideal S16384x64 .f32) (y : Vec Ideal S16384x4096 .fp8e4m3) (sc : Vec Ideal S16384x1 .f32) (gs : Vec Ideal S64x1 .i32) (e : Fin 64) (d : Fin 4096) :
    k0_pay3 (F := Ideal) seg y sc gs (ix2 e d)
      = FloatOps.divf (F := Ideal) (φ := .f32) (∑ J : Fin 16384, (seg (ix2 J e) : EReal) * ((y (ix2 J d) : EReal) * sc (ix2 J 0)))
          (FloatOps.sitofp (F := Ideal) .f32 (IntOp.maxsi (gs (ix2 e 0)) 1#32)) := by
  unfold k0_pay3 k0_pay2
  dsimp only
  pointwise

variable {T : S16384.Idx → BitVec 32}

/-- The reference's mean is the mean of the expert's rows. -/
theorem mean_eq (c : Dev nD) (h : Routed T (groups m c)) (seg : Vec Ideal S16384x64 .f32) (y : Vec Ideal S16384x4096 .fp8e4m3)
    (sc : Vec Ideal S16384x1 .f32) (gs : Vec Ideal S64x1 .i32) (hseg : seg = table (groups m c)) (hy : y = rowsIn m c)
    (hsc : ∀ J, sc (ix2 J 0) = scalesIn m c (ix1 J)) (hgs : ∀ e, gs (ix2 e 0) = groups m c (ix1 e)) (e : Fin 64) (d : Fin 4096) :
    k0_pay3 (F := Ideal) seg y sc gs (ix2 e d) = meanOf (groups m c) (scalesIn m c) (rowsIn m c) (ix2 e d) := by
  rw [pay3_eq]
  unfold meanOf
  have h1 : (∑ J : Fin 16384, (seg (ix2 J e) : EReal) * ((y (ix2 J d) : EReal) * sc (ix2 J 0)))
      = rowSum (groups m c) (scalesIn m c) (rowsIn m c) e.val d := by
    unfold rowSum
    refine Finset.sum_congr rfl fun J _ => ?_
    rw [hsc, hy, hseg, table_eq h, mul_comm (rowsIn m c (ix2 J d))]
    by_cases hp : cnt (groups m c) e.val ≤ J.val ∧ J.val < cnt (groups m c) (e.val + 1)
    · rw [if_pos hp, if_pos hp, one_mul]
    · rw [if_neg hp, if_neg hp, zero_mul]
  have h2 : gs (ix2 e 0) = groups m c (ix64 e.val e.isLt) := (hgs e).trans (congrArg _ (ix64_eq e).symm)
  rw [h1, h2]
  rfl

theorem whole11 : (cfg0.win 11).WholeAt ⟨0, by decide⟩ := by decide +kernel
theorem whole13 : (cfg0.win 13).WholeAt ⟨0, by decide⟩ := by decide +kernel

theorem blk0 (c : Dev nD) : iblk m c 0 ⟨0, by decide⟩ = rowsIn m c := by
  funext i
  show V m c main_arg3 _ = _
  rw [V_main_arg3]
  congr 1
  funext a
  apply Fin.ext
  match a with
  | ⟨0, _⟩ => show 0 * 16384 + 1 * (i 0).val = (i 0).val; omega
  | ⟨1, _⟩ => show 0 * 4096 + 1 * (i 1).val = (i 1).val; omega

theorem blk1 (c : Dev nD) : iblk m c 1 ⟨0, by decide⟩ = V m c main_v31 := by
  funext i
  show V m c main_v31 _ = _
  congr 1
  funext a
  apply Fin.ext
  match a with
  | ⟨0, _⟩ => show 0 * 16384 + 1 * (i 0).val = (i 0).val; omega
  | ⟨1, _⟩ => show 0 * 1 + 1 * (i 1).val = (i 1).val; omega

theorem blk5 (c : Dev nD) : iblk m c 5 ⟨0, by decide⟩ = table (groups m c) := by
  funext i
  show V m c main_v22 _ = _
  rw [V_table]
  congr 1
  funext a
  apply Fin.ext
  match a with
  | ⟨0, _⟩ => show 0 * 16384 + 1 * (i 0).val = (i 0).val; omega
  | ⟨1, _⟩ => show 0 * 64 + 1 * (i 1).val = (i 1).val; omega

theorem blk7 (c : Dev nD) : iblk m c 7 ⟨0, by decide⟩ = V m c main_v34 := by
  funext i
  show V m c main_v34 _ = _
  congr 1
  funext a
  apply Fin.ext
  match a with
  | ⟨0, _⟩ => show 0 * 64 + 1 * (i 0).val = (i 0).val; omega
  | ⟨1, _⟩ => show 0 * 1 + 1 * (i 1).val = (i 1).val; omega

theorem blk9 (c : Dev nD) : iblk m c 9 ⟨0, by decide⟩ = emaIn m c := by
  funext i
  show V m c main_arg7 _ = _
  rw [V_main_arg7]
  congr 1
  funext a
  apply Fin.ext
  match a with
  | ⟨0, _⟩ => show 0 * 64 + 1 * (i 0).val = (i 0).val; omega
  | ⟨1, _⟩ => show 0 * 4096 + 1 * (i 1).val = (i 1).val; omega

theorem ix2_self (i : S64x4096.Idx) : i = ix2 (i 0) (i 1) := by
  funext a
  fin_cases a <;> rfl

theorem funext_ix2 (p q : S64x4096.Idx → EReal) (h : ∀ e d, p (ix2 e d) = q (ix2 e d)) : p = q := by
  funext i
  rw [ix2_self i]
  exact h _ _

theorem z2 : (![0, 0] : Fin 2 → ℕ) = fun _ => 0 := by funext a; fin_cases a <;> rfl

/-- The average's payload at an index. -/
theorem pay4_eq (seg : Vec Ideal S16384x64 .f32) (y : Vec Ideal S16384x4096 .fp8e4m3) (sc : Vec Ideal S16384x1 .f32) (gs : Vec Ideal S64x1 .i32)
    (ema : Vec Ideal S64x4096 .f32) (e : Fin 64) (d : Fin 4096) :
    k0_pay4 (F := Ideal) seg y sc gs ema (ix2 e d)
      = Scalar.select (IntOp.cmpi .sgt (gs (ix2 e 0)) 0#32)
          (FloatOps.addf (F := Ideal) (φ := .f32) (FloatOps.mulf (F := Ideal) (φ := .f32) (Scalar.ofBits (F := Ideal) .f32 0x3F666666#32) (ema (ix2 e d)))
            (FloatOps.mulf (F := Ideal) (φ := .f32) (Scalar.ofBits (F := Ideal) .f32 0x3DCCCCCD#32) (k0_pay3 (F := Ideal) seg y sc gs (ix2 e d))))
          (ema (ix2 e d)) := by
  unfold k0_pay4 k0_pay2
  generalize k0_pay3 (F := Ideal) seg y sc gs = q
  dsimp only
  pointwise

/-- The average's value, given the operands. -/
theorem ema_eq (c : Dev nD) (h : Routed T (groups m c)) (e : Fin 64) (d : Fin 4096) :
    k0_pay4 (F := Ideal) (table (groups m c)) (rowsIn m c) (V m c main_v31) (V m c main_v34) (emaIn m c) (ix2 e d)
      = emaOf (groups m c) (scalesIn m c) (rowsIn m c) (emaIn m c) (ix2 e d) := by
  rw [pay4_eq, mean_eq m c h _ _ _ _ rfl rfl (V_scales m c) (V_groups m c), (V_groups m c e).trans (congrArg _ (ix64_eq e).symm)]
  rfl

/-- The means after the run. -/
theorem final_mean (c : Dev nD) (h : Routed T (groups m c)) (i : S64x4096.Idx) :
    (dats m 0 c).arrAt 13 cfg0.N i = meanOf (groups m c) (scalesIn m c) (rowsIn m c) i := by
  refine ((dats m 0 c).arrAt_emb_eq_after_last 13 ⟨0, by decide⟩ whole13 i).trans ?_
  rw [after0_13]
  unfold out0_13
  rw [blk0, blk1, blk5, blk7, View.canon_unit_zero z2, View.ld_unit_zero z2, View.ld_unit_zero z2, View.ld_unit_zero z2, View.ld_unit_zero z2]
  rw [funext_ix2 _ _ fun e d => mean_eq m c h _ _ _ _ rfl rfl (V_scales m c) (V_groups m c) e d]
  rfl

/-- The averages after the run. -/
theorem final_ema (c : Dev nD) (h : Routed T (groups m c)) (i : S64x4096.Idx) :
    (dats m 0 c).arrAt 11 cfg0.N i = emaOf (groups m c) (scalesIn m c) (rowsIn m c) (emaIn m c) i := by
  refine ((dats m 0 c).arrAt_emb_eq_after_last 11 ⟨0, by decide⟩ whole11 i).trans ?_
  rw [after0_11]
  unfold out0_11
  rw [blk0, blk1, blk5, blk7, blk9, View.canon_unit_zero z2, View.ld_unit_zero z2, View.ld_unit_zero z2, View.ld_unit_zero z2, View.ld_unit_zero z2, View.ld_unit_zero z2]
  rw [funext_ix2 _ _ fun e d => ema_eq m c h e d]
  rfl

end Cert.ReferenceIdeal.Own

end
-- ==== Proof.RI.Grad.lean ====
module

public import proofs.«01_k».proof.Proof.RI.Mean
public import proofs.«01_k».proof.Proof.KI.Product

@[expose] public section

/-!
# The reference's gradients at the pairs that no row joins

`hitsOf` counts the rows of a pair of a token and an expert. Where the count is zero the reference takes the dense product of the
expert's new average with the token's gradient, times the token's scale.
-/

set_option maxRecDepth 16384

noncomputable section

namespace Cert.ReferenceIdeal.Own

open Cert.ReferenceIdeal Cert.ReferenceIdeal.Gen
open Idealize.ShloMosaic Idealize.ShloMosaic.TcCoe Idealize.ShloMosaic.Tactic
open Cert.KernelIdeal.Own (pre cnt Routed ix64 emaOf denseOf Joins)

variable (m : (ℓ : Loc nD τ sig) → Buf (Elt Ideal) ℓ)

/-- The gradients and their scales as launched. -/
abbrev gradsIn (c : Dev nD) : S2048x4096.Idx → BitVec 8 :=
  shapeCast S2048x4096 (m ((c : Thread nD τ).loc main_arg1) : S2x1024x4096.Idx → BitVec 8) shapeCasts_S2x1024x4096_S2048x4096
abbrev gradScalesIn (c : Dev nD) : S2x1024.Idx → EReal := m ((c : Thread nD τ).loc main_arg2)

/-- The table of rows and tokens. -/
def pickOf (T : IVec S16384 32) : FVec Ideal S16384x2048 .f32 :=
  uitofp .f32 (cmpi .eq
    (broadcastInDim S16384x2048 ![0, 1] bcast_S16384x1_S16384x2048_0_1 (broadcastInDim S16384x1 ![0] bcast_S16384_S16384x1_0 T))
    (broadcastInDim S16384x2048 ![0, 1] bcast_S1x2048_S16384x2048_0_1 (broadcastInDim S1x2048 ![1] bcast_S2048_S1x2048_1 (iotaInDim S2048 32 0))))

/-- How many rows join each pair of a token and an expert. -/
def hitsOf (T : IVec S16384 32) (G : IVec S64 32) : FVec Ideal S2048x64 .f32 :=
  Host.dotGeneral dot_S16384x2048_S16384x64_S2048x64_0_0_1_1_n_n (some .fp32) (pickOf T) (table G)

set_option maxHeartbeats 1600000 in
theorem V_hits (c : Dev nD) : V m c main_v30 = hitsOf (tokens m c) (groups m c) := by
  unfold V
  simp only [hostOps0, hostOps0_1, hostOps0_2, List.flatten_cons, List.flatten_nil, List.cons_append, List.nil_append, List.append_nil]
  after_reads_simp
  rfl

set_option maxHeartbeats 1600000 in
theorem V_grads (c : Dev nD) : V m c main_v32 = gradsIn m c := by
  unfold V
  simp only [hostOps0, hostOps0_1, hostOps0_2, List.flatten_cons, List.flatten_nil, List.cons_append, List.nil_append, List.append_nil]
  after_reads_simp
  rfl

set_option maxHeartbeats 1600000 in
theorem V_gradScales (c : Dev nD) (t : Fin 2048) : V m c main_v33 (ix2 t 0)
    = gradScalesIn m c (ix2 (⟨t.val / 1024, by omega⟩ : Fin 2) (⟨t.val % 1024, Nat.mod_lt _ (by decide)⟩ : Fin 1024)) := by
  have h : V m c main_v33 = shapeCast S2048x1 (gradScalesIn m c) shapeCasts_S2x1024_S2048x1 := by
    unfold V
    simp only [hostOps0, hostOps0_1, hostOps0_2, List.flatten_cons, List.flatten_nil, List.cons_append, List.nil_append, List.append_nil]
    after_reads_simp
    rfl
  rw [h]
  pointwise

theorem pick_eq (T : IVec S16384 32) (J : Fin 16384) (t : Fin 2048) :
    pickOf T (ix2 J t) = if (T (ix1 J)).toNat = t.val then (1 : EReal) else 0 := by
  have he : pickOf T (ix2 J t) = FloatOps.uitofp (F := Ideal) .f32 (IntOp.cmpi .eq (T (ix1 J)) (BitVec.ofNat 32 t.val)) := by
    unfold pickOf
    pointwise
  have hq : T (ix1 J) = BitVec.ofNat 32 t.val ↔ (T (ix1 J)).toNat = t.val := by
    have := t.isLt
    constructor
    · intro hr; rw [hr, BitVec.toNat_ofNat]; omega
    · intro hr; apply BitVec.eq_of_toNat_eq; rw [hr, BitVec.toNat_ofNat]; omega
  rw [he]
  show (((BitVec.ofBool (T (ix1 J) == BitVec.ofNat 32 t.val)).toNat : ℝ) : EReal) = _
  by_cases hp : (T (ix1 J)).toNat = t.val
  · rw [if_pos hp, hq.mpr hp, beq_self_eq_true]
    simp
  · rw [if_neg hp, beq_eq_false_iff_ne.mpr (fun hr => hp (hq.mp hr))]
    simp

theorem hits_sum (T : IVec S16384 32) (G : IVec S64 32) (t : Fin 2048) (e : Fin 64) :
    hitsOf T G (ix2 t e) = ∑ J : Fin 16384, (pickOf T (ix2 J t) : EReal) * (table G (ix2 J e) : EReal) := by
  unfold hitsOf
  generalize pickOf T = p
  generalize table G = q
  pointwise

/-- A pair whose count is zero is joined by no row. -/
theorem not_joins {T : IVec S16384 32} {G : IVec S64 32} (h : Routed T G) (t : Fin 2048) (e : Fin 64)
    (hz : (hitsOf T G (ix2 t e) : EReal) = 0) : ¬ Joins T G t.val e.val := by
  rintro ⟨p, h1, h2, h3⟩
  have hp : p = ix1 (p 0) := by
    funext a
    fin_cases a
    rfl
  rw [Cert.KernelIdeal.Own.pre_toInt h (by omega)] at h2 h3
  rw [hits_sum] at hz
  have h0 := (Finset.sum_eq_zero_iff_of_nonneg (fun J _ => ?_)).mp hz (p 0) (Finset.mem_univ _)
  · rw [hp] at h1
    have e1 : (pickOf T (ix2 (p 0) t) : EReal) = 1 := (pick_eq T (p 0) t).trans (if_pos h1)
    have e2 : (table G (ix2 (p 0) e) : EReal) = 1 := (table_eq h (p 0) e).trans (if_pos ⟨by omega, by omega⟩)
    rw [e1, e2, one_mul] at h0
    exact one_ne_zero h0
  · refine mul_nonneg ?_ ?_
    · rw [show (pickOf T (ix2 J t) : EReal) = _ from pick_eq T J t]
      split_ifs
      · exact zero_le_one
      · exact le_refl _
    · rw [show (table G (ix2 J e) : EReal) = _ from table_eq h J e]
      split_ifs
      · exact zero_le_one
      · exact le_refl _

/-- A selection by a zero count. -/
theorem sel_eq (v34 : FVec Ideal S2048x64 .f32) (v35 : Vec Ideal S2048x1 .f32) (v67 W : Vec Ideal S2048x64 .f32) (t : Fin 2048) (e : Fin 64)
    (hz : (v67 (ix2 t e) : EReal) = 0) :
    select (cmpf (F := Ideal) .ogt (shapeCast S2048x64 v67 shapeCasts_S2048x64_S2048x64) (broadcast S2048x64 (Scalar.ofBits (F := Ideal) .f32 0x00000000#32))) W
      (mulf v34 (broadcastTo S2048x64 (shapeCast S2048x1 v35 shapeCasts_S2048x1_S2048x1) broadcasts_S2048x1_S2048x64)) (ix2 t e)
      = (v34 (ix2 t e) : EReal) * v35 (ix2 t 0) := by
  pointwise
  rw [hz, if_neg (lt_irrefl _)]

/-- The payload of the gradients at a pair whose count is zero. -/
theorem pay7_eq (v32 : FVec Ideal S2048x4096 .bf16) (v34 : FVec Ideal S2048x64 .f32) (v35 : Vec Ideal S2048x1 .f32)
    (v39 v44 : Vec Ideal S16384x2048 .f32) (v46 : Vec Ideal S2048x1 .f32) (v50 : Vec Ideal S16384x4096 .fp8e4m3) (v56 : Vec Ideal S16384x1 .f32)
    (v60 : Vec Ideal S16384x2048 .f32) (v62 : Vec Ideal S16384x64 .f32) (v67 : Vec Ideal S2048x64 .f32) (t : Fin 2048) (e : Fin 64)
    (hz : (v67 (ix2 t e) : EReal) = 0) :
    k0_pay7 (F := Ideal) v32 v34 v35 v39 v44 v46 v50 v56 v60 v62 v67 (ix2 t e) = (v34 (ix2 t e) : EReal) * v35 (ix2 t 0) :=
  sel_eq v34 v35 v67 _ t e hz

/-- The dense product at a pair. -/
theorem pay6_eq (v0 : Vec Ideal S16384x64 .f32) (v2 : Vec Ideal S16384x4096 .fp8e4m3) (v4 : Vec Ideal S16384x1 .f32) (v9 : Vec Ideal S64x1 .i32)
    (v17 : Vec Ideal S64x4096 .f32) (v29 : Vec Ideal S2048x4096 .i8) (t : Fin 2048) (e : Fin 64) :
    k0_pay6 (F := Ideal) v0 v2 v4 v9 v17 v29 (ix2 t e)
      = ∑ d : Fin 4096, FloatOps.ofBits (F := Ideal) .fp8e5m2 (v29 (ix2 t d)) * (k0_pay4 (F := Ideal) v0 v2 v4 v9 v17 (ix2 e d) : EReal) := by
  unfold k0_pay6 k0_pay5
  generalize k0_pay4 (F := Ideal) v0 v2 v4 v9 v17 = E
  pointwise

theorem whole12 : (cfg0.win 12).WholeAt ⟨0, by decide⟩ := by decide +kernel

theorem blk2 (c : Dev nD) : iblk m c 2 ⟨0, by decide⟩ = gradsIn m c := by
  funext i
  show V m c main_v32 _ = _
  rw [V_grads]
  refine congrArg (gradsIn m c) (funext fun a => Fin.ext ?_)
  match a with
  | ⟨0, _⟩ => show 0 * 2048 + 1 * (i 0).val = (i 0).val; omega
  | ⟨1, _⟩ => show 0 * 4096 + 1 * (i 1).val = (i 1).val; omega

theorem blk3 (c : Dev nD) : iblk m c 3 ⟨0, by decide⟩ = V m c main_v33 := by
  funext i
  show V m c main_v33 _ = _
  congr 1
  funext a
  apply Fin.ext
  match a with
  | ⟨0, _⟩ => show 0 * 2048 + 1 * (i 0).val = (i 0).val; omega
  | ⟨1, _⟩ => show 0 * 1 + 1 * (i 1).val = (i 1).val; omega

theorem blk6 (c : Dev nD) : iblk m c 6 ⟨0, by decide⟩ = hitsOf (tokens m c) (groups m c) := by
  funext i
  show V m c main_v30 _ = _
  rw [V_hits]
  refine congrArg (hitsOf (tokens m c) (groups m c)) (funext fun a => Fin.ext ?_)
  match a with
  | ⟨0, _⟩ => show 0 * 2048 + 1 * (i 0).val = (i 0).val; omega
  | ⟨1, _⟩ => show 0 * 64 + 1 * (i 1).val = (i 1).val; omega

theorem out12_eq (x0 : Vec Ideal S16384x4096 .fp8e4m3) (x1 : Vec Ideal S16384x1 .f32) (x2 : Vec Ideal S2048x4096 .i8) (x3 : Vec Ideal S2048x1 .f32)
    (x4 : Vec Ideal S16384x2048 .f32) (x5 : Vec Ideal S16384x64 .f32) (x6 : Vec Ideal S2048x64 .f32) (x7 : Vec Ideal S64x1 .i32)
    (x8 : Vec Ideal S2048x64 .f32) (x9 : Vec Ideal S64x4096 .f32) :
    out0_12 (F := Ideal) x0 x1 x2 x3 x4 x5 x6 x7 x8 x9
      = k0_pay7 (k0_pay5 x2) (k0_pay6 x5 x0 x1 x7 x9 x2) x3 x4 x4 x3 x0 x1 x4 x5 x6 := by
  have h0 : View.ld x5 r0_0 = x5 := View.ld_unit_zero z2 ..
  have h1 : View.ld x0 r0_1 = x0 := View.ld_unit_zero z2 ..
  have h2 : View.ld x1 r0_2 = x1 := View.ld_unit_zero z2 ..
  have h3 : View.ld x7 r0_3 = x7 := View.ld_unit_zero z2 ..
  have h4 : View.ld x9 r0_4 = x9 := View.ld_unit_zero z2 ..
  have h5 : View.ld x2 r0_5 = x2 := View.ld_unit_zero z2 ..
  have h6 : View.ld x3 r0_6 = x3 := View.ld_unit_zero z2 ..
  have h7 : View.ld x4 r0_7 = x4 := View.ld_unit_zero z2 ..
  have h8 : View.ld x6 r0_8 = x6 := View.ld_unit_zero z2 ..
  unfold out0_12 k0_pay8
  rw [h0, h1, h2, h3, h4, h5, h6, h7, h8]
  exact View.canon_unit_zero z2 ..

theorem out12_of (x0 : Vec Ideal S16384x4096 .fp8e4m3) (x1 : Vec Ideal S16384x1 .f32) (x2 : Vec Ideal S2048x4096 .i8) (x3 : Vec Ideal S2048x1 .f32)
    (x4 : Vec Ideal S16384x2048 .f32) (x5 : Vec Ideal S16384x64 .f32) (x6 : Vec Ideal S2048x64 .f32) (x7 : Vec Ideal S64x1 .i32)
    (x8 : Vec Ideal S2048x64 .f32) (x9 : Vec Ideal S64x4096 .f32) (y0 : Vec Ideal S16384x4096 .fp8e4m3) (y1 : Vec Ideal S16384x1 .f32)
    (y2 : Vec Ideal S2048x4096 .i8) (y3 : Vec Ideal S2048x1 .f32) (y5 : Vec Ideal S16384x64 .f32) (y6 : Vec Ideal S2048x64 .f32)
    (y7 : Vec Ideal S64x1 .i32) (y9 : Vec Ideal S64x4096 .f32) (h0 : x0 = y0) (h1 : x1 = y1) (h2 : x2 = y2) (h3 : x3 = y3) (h5 : x5 = y5)
    (h6 : x6 = y6) (h7 : x7 = y7) (h9 : x9 = y9) :
    out0_12 (F := Ideal) x0 x1 x2 x3 x4 x5 x6 x7 x8 x9
      = k0_pay7 (k0_pay5 y2) (k0_pay6 y5 y0 y1 y7 y9 y2) y3 x4 x4 y3 y0 y1 x4 y5 y6 := by
  subst h0 h1 h2 h3 h5 h6 h7 h9
  exact out12_eq ..

theorem pair_self (i : S2048x64.Idx) : i = ix2 (i 0) (i 1) := by
  funext a
  fin_cases a <;> rfl

variable {T : S16384.Idx → BitVec 32}

/-- The dense product times the scale, given the operands. -/
theorem pair_eq (c : Dev nD) (h : Routed T (groups m c)) (t : Fin 2048) (e : Fin 64) :
    (k0_pay6 (F := Ideal) (table (groups m c)) (rowsIn m c) (V m c main_v31) (V m c main_v34) (emaIn m c) (gradsIn m c) (ix2 t e) : EReal)
        * V m c main_v33 (ix2 t 0)
      = denseOf (emaOf (groups m c) (scalesIn m c) (rowsIn m c) (emaIn m c)) (gradsIn m c) (gradScalesIn m c) (ix2 t e) := by
  rw [pay6_eq, V_gradScales]
  unfold denseOf
  refine congrArg (fun z : EReal => z * _) (Finset.sum_congr rfl fun d _ => ?_)
  rw [ema_eq m c h]
  exact mul_comm _ _

/-- The gradients after the run, at the pairs whose count is zero. -/
theorem final_grad (c : Dev nD) (h : Routed T (groups m c)) (i : S2048x64.Idx)
    (hz : (hitsOf (tokens m c) (groups m c) i : EReal) = 0) :
    (dats m 0 c).arrAt 12 cfg0.N i
      = denseOf (emaOf (groups m c) (scalesIn m c) (rowsIn m c) (emaIn m c)) (gradsIn m c) (gradScalesIn m c) i := by
  refine ((dats m 0 c).arrAt_emb_eq_after_last 12 ⟨0, by decide⟩ whole12 i).trans ?_
  rewrite [after0_12]
  have e := out12_of (iblk m c 0 ⟨0, by decide⟩) (iblk m c 1 ⟨0, by decide⟩) (iblk m c 2 ⟨0, by decide⟩) (iblk m c 3 ⟨0, by decide⟩) (iblk m c 4 ⟨0, by decide⟩) (iblk m c 5 ⟨0, by decide⟩) (iblk m c 6 ⟨0, by decide⟩)
    (iblk m c 7 ⟨0, by decide⟩) (iblk m c 8 ⟨0, by decide⟩) (iblk m c 9 ⟨0, by decide⟩) _ _ _ _ _ _ _ _
    (blk0 m c) (blk1 m c) (blk2 m c) (blk3 m c) (blk5 m c) (blk6 m c) (blk7 m c) (blk9 m c)
  generalize out0_12 (F := Ideal) (iblk m c 0 ⟨0, by decide⟩) (iblk m c 1 ⟨0, by decide⟩) (iblk m c 2 ⟨0, by decide⟩) (iblk m c 3 ⟨0, by decide⟩) (iblk m c 4 ⟨0, by decide⟩) (iblk m c 5 ⟨0, by decide⟩) (iblk m c 6 ⟨0, by decide⟩)
    (iblk m c 7 ⟨0, by decide⟩) (iblk m c 8 ⟨0, by decide⟩) (iblk m c 9 ⟨0, by decide⟩) = q at e ⊢
  show q i = _
  subst e
  rw [pair_self i] at hz ⊢
  refine (pay7_eq _ _ _ _ _ _ _ _ _ _ _ _ _ hz).trans ?_
  exact pair_eq m c h _ _

end Cert.ReferenceIdeal.Own

end
-- ==== Proof.Mask.lean ====
module

public import proofs.«01_k».proof.Proof.RI.Grad
public import proofs.«01_k».proof.Proof.Gen.On_reached

@[expose] public section

/-!
# The mask of the gradients

The mask holds at a pair of a token and an expert exactly where the count of its rows is zero.
-/

set_option maxRecDepth 16384

noncomputable section

namespace Cert.ReferenceIdeal.Own

open Cert.ReferenceIdeal Cert.ReferenceIdeal.Gen
open Idealize.ShloMosaic Idealize.ShloMosaic.TcCoe
open Cert.KernelIdeal.Own (Routed Joins)

theorem count_zero (a0 : FVec Ideal ⟨3, ![2, 1024, 64]⟩ .f32) (a1 : IVec ⟨3, ![2, 1024, 4096]⟩ 8) (a2 : FVec Ideal ⟨2, ![2, 1024]⟩ .f32)
    (a3 : FVec Ideal S16384x4096 .fp8e4m3) (a4 : FVec Ideal S16384 .f32) (a5 : IVec S16384 32) (a6 : IVec S64 32) (a7 : FVec Ideal S64x4096 .f32)
    (i : S2048x64.Idx) (hi : (@Cert.On_reached.fn Cert.On_reached.Gen.facts Ideal _ a0 a1 a2 a3 a4 a5 a6 a7).2.2.1 i = 1#1) :
    (hitsOf a5 a6 i : EReal) = 0 := by
  unfold Cert.On_reached.fn Cert.On_reached.fn_part1 Cert.On_reached.fn_where at hi
  dsimp only at hi
  change cmpf (F := Ideal) .oeq (hitsOf a5 a6) _ i = 1#1 at hi
  generalize hitsOf a5 a6 = q at hi ⊢
  have h : Ideal.cmp .oeq (q i : EReal) (Ideal.ofBits .f32 0x00000000#32) = 1#1 := hi
  rw [Ideal.ofBits_zero_f32] at h
  by_contra hn
  have h0 : Ideal.cmp .oeq (q i : EReal) 0 = 0#1 := by
    simp [Ideal.cmp, hn]
  rw [h0] at h
  exact absurd h (by decide)

theorem not_joins_pair {T : IVec S16384 32} {G : IVec S64 32} (h : Routed T G) (i : S2048x64.Idx) (hz : (hitsOf T G i : EReal) = 0) :
    ¬ Joins T G (i 0).val (i 1).val := by
  refine not_joins h (i 0) (i 1) ?_
  rw [pair_self i] at hz
  exact hz

end Cert.ReferenceIdeal.Own

end
-- ==== Proof.KB.Whiles.lean ====
module

public import proofs.«01_k».proof.Proof.Gen.Kernel.Skeleton
public import proofs.«01_k».proof.Proof.Common.Rules
public import Idealize.ShloMosaic.Lib.Tactic

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own

/-- The place of entry `e` in an array of 64 words. -/
def ix64 (e : ℕ) (h : e < 64) : S64.Idx := fun a => ⟨e, by have : a = 0 := Subsingleton.elim _ _; subst this; exact h⟩

theorem chk1_of_lt : ∀ e : Fin 64, k0_chk1 (BitVec.ofNat 32 e.val) := by
  unfold k0_chk1 k0_off36; decide +kernel

theorem chk2_of_lt : ∀ e : Fin 64, k0_chk2 (BitVec.ofNat 32 e.val) := by
  unfold k0_chk2 k0_off37; decide +kernel

theorem chk3_of_lt : ∀ e : Fin 64, k0_chk3 (BitVec.ofNat 32 e.val) := by
  unfold k0_chk3 k0_off38 k0_off39 k0_mult2; decide +kernel

variable (c : Dev nD) (i : grid0.Coords) (arg21 : Memref sig .tc .smem S64 .i32) (harg21 : arg21.IsWhole)
  (X : S64.Idx → Elt F .i32)

/-- A scan of the running counts from entry `e` for the first one above `b`: it keeps the counts and returns an entry `r`
    whose count is above `b`, with no entry from `e` to `r` above `b`. -/
def scanSpec (b : BitVec 32) (e : ℕ) : sWPT 𝕄 (BitVec 32) := do
  sWPT.consume (owns (c : Thread nD τ) arg21 fullShare X)
  let r ← sWPT.arbitrary
  sWPT.assume (∃ e', ∃ h : e' < 64, e ≤ e' ∧ r = BitVec.ofNat 32 e' ∧ Scalar.cmpi .sle (X (ix64 e' h) : BitVec 32) b ≠ 1#1
    ∧ ∀ x, ∀ hx : x < 64, e ≤ x → x < e' → Scalar.cmpi .sle (X (ix64 x hx) : BitVec 32) b = 1#1)
  sWPT.produce (owns (c : Thread nD τ) arg21 fullShare X)
  pure r

theorem scanSpec_apply (b : BitVec 32) (e : ℕ) (K : BitVec 32 → sProp 𝕄) :
    scanSpec c arg21 X b e K = iprop(owns (c : Thread nD τ) arg21 fullShare X ∗ ∀ r : BitVec 32,
      ⌜∃ e', ∃ h : e' < 64, e ≤ e' ∧ r = BitVec.ofNat 32 e' ∧ Scalar.cmpi .sle (X (ix64 e' h) : BitVec 32) b ≠ 1#1
        ∧ ∀ x, ∀ hx : x < 64, e ≤ x → x < e' → Scalar.cmpi .sle (X (ix64 x hx) : BitVec 32) b = 1#1⌝
        -∗ (owns (c : Thread nD τ) arg21 fullShare X -∗ K r)) := rfl

theorem off36_idx (w : BitVec 32) (e : ℕ) (h : e < 64) (hw : w.toNat = e) (inb) (hn) :
    (Rect.unit (s := S64) (k0_off36 w) ![1] inb).idx (Shape.Idx.first hn) = ix64 e h := by
  funext a
  have : a = 0 := Subsingleton.elim _ _
  subst this
  refine Fin.ext ?_
  show w.toNat + 0 * 1 = e
  omega

theorem off37_idx (w : BitVec 32) (e : ℕ) (h : e < 64) (hw : w.toNat = e) (inb) (hn) :
    (Rect.unit (s := S64) (k0_off37 w) ![1] inb).idx (Shape.Idx.first hn) = ix64 e h := off36_idx w e h hw inb hn

/-- The bound the first scan of grid point `i` compares with: the point's first row. -/
def scanLo : BitVec 32 := Scalar.muli (BitVec.ofNat 32 (i 0).val) 512#32

/-- The bound the second scan of grid point `i` compares with: the point's last row. -/
def scanHi : BitVec 32 := Scalar.addi (scanLo i) 511#32

theorem succ_word (e : ℕ) : Scalar.addi (BitVec.ofNat 32 e) 1#32 = BitVec.ofNat 32 (e + 1) := by
  show BitVec.ofNat 32 e + 1#32 = _
  rw [BitVec.ofNat_add]

theorem defs_scan1 (w : BitVec 32) : defs₀ (F := F) .tc 1 ⟨i, arg21, harg21, w⟩ = cc0_while1 i arg21 harg21 w := rfl

theorem defs_scan2 (w : BitVec 32) : defs₀ (F := F) .tc 2 ⟨i, arg21, harg21, w⟩ = cc0_while2 i arg21 harg21 w := rfl

/-- The first scan meets its specification wherever the last count is above its bound. -/
theorem scan1_le (E : Set ℕ) (hlast : Scalar.cmpi .sle (X (ix64 63 (by decide)) : BitVec 32) (scanLo i) ≠ 1#1) :
    ∀ k e, e + k = 63 → ∀ K, scanSpec c arg21 X (scanLo i) e K
      ⊢ wp frame (wpE (defs₀ (F := F)) Variants.nat (c : Thread nD τ) (some k)) E
          (defs₀ (F := F) .tc 1 ⟨i, arg21, harg21, BitVec.ofNat 32 e⟩) K := by
  intro k
  induction k with
  | zero =>
    intro e he K
    obtain rfl : e = 63 := by omega
    rw [scanSpec_apply]
    rw [defs_scan1, cc0_while1_eq_skeleton]; unfold cc0_while1_skel
    simp only [smemLoad, smemLoadElt, Prog.lift, Prog.bind_op, Prog.bind_ret, Prog.pure_eq_ret]
    iintro ⟨H, Hk⟩
    iapply (wp_assume Variants.nat (c : Thread nD τ) (some 0) E (chk1_of_lt ⟨63, by decide⟩))
    iapply (wp_ld Variants.nat (c : Thread nD τ) (some 0) E) $$ H; iintro H
    beta_reduce; rw [off36_idx 63#32 63 (by decide) rfl]
    simp only [scanLo] at hlast
    simp only [hlast, ↓reduceIte]
    rw [wp_ret]; imodintro
    iapply Hk
    · ipureintro; exact ⟨63, by decide, le_rfl, rfl, hlast, fun x _ h1 h2 => absurd h2 (by omega)⟩
    · iexact H
  | succ k ih =>
    intro e he K
    have he64 : e < 64 := by omega
    rw [scanSpec_apply]
    rw [defs_scan1, cc0_while1_eq_skeleton]; unfold cc0_while1_skel
    simp only [smemLoad, smemLoadElt, Prog.lift, Prog.bind_op, Prog.bind_ret, Prog.pure_eq_ret]
    iintro ⟨H, Hk⟩
    iapply (wp_assume Variants.nat (c : Thread nD τ) (some (k + 1)) E (chk1_of_lt ⟨e, he64⟩))
    iapply (wp_ld Variants.nat (c : Thread nD τ) (some (k + 1)) E) $$ H; iintro H
    beta_reduce; rw [off36_idx (BitVec.ofNat 32 e) e he64 (by rw [BitVec.toNat_ofNat]; omega)]
    by_cases ht : Scalar.cmpi .sle (X (ix64 e he64) : BitVec 32) (scanLo i) = 1#1
    · have ht' := ht
      simp only [scanLo] at ht'
      simp only [ht', ↓reduceIte, Prog.bind_op, Prog.bind_ret, succ_word]
      iapply (wp_call_spec Variants.nat (c : Thread nD τ) (some (k + 1)) E (scanSpec c arg21 X (scanLo i) (e + 1)) k
        (fun u hu => by cases hu; exact Nat.lt_succ_self k) (ih (e + 1) (by omega)))
      rw [scanSpec_apply]
      isplitl [H]; · iexact H
      iintro %r %hr H
      rw [wp_ret]; imodintro
      iapply Hk
      · ipureintro
        obtain ⟨e', h, h1, h2, h3, h4⟩ := hr
        refine ⟨e', h, by omega, h2, h3, fun x hx hx1 hx2 => ?_⟩
        rcases Nat.lt_or_ge e x with h5 | h5
        · exact h4 x hx h5 hx2
        · obtain rfl : x = e := by omega
          exact ht
      · iexact H
    · have ht' := ht
      simp only [scanLo] at ht'
      simp only [ht', ↓reduceIte]
      rw [wp_ret]; imodintro
      iapply Hk
      · ipureintro; exact ⟨e, he64, le_rfl, rfl, ht, fun x _ h1 h2 => absurd h2 (by omega)⟩
      · iexact H

/-- The second scan meets its specification wherever the last count is above its bound. -/
theorem scan2_le (E : Set ℕ) (hlast : Scalar.cmpi .sle (X (ix64 63 (by decide)) : BitVec 32) (scanHi i) ≠ 1#1) :
    ∀ k e, e + k = 63 → ∀ K, scanSpec c arg21 X (scanHi i) e K
      ⊢ wp frame (wpE (defs₀ (F := F)) Variants.nat (c : Thread nD τ) (some k)) E
          (defs₀ (F := F) .tc 2 ⟨i, arg21, harg21, BitVec.ofNat 32 e⟩) K := by
  intro k
  induction k with
  | zero =>
    intro e he K
    obtain rfl : e = 63 := by omega
    rw [scanSpec_apply]
    rw [defs_scan2, cc0_while2_eq_skeleton]; unfold cc0_while2_skel
    simp only [smemLoad, smemLoadElt, Prog.lift, Prog.bind_op, Prog.bind_ret, Prog.pure_eq_ret]
    iintro ⟨H, Hk⟩
    iapply (wp_assume Variants.nat (c : Thread nD τ) (some 0) E (chk2_of_lt ⟨63, by decide⟩))
    iapply (wp_ld Variants.nat (c : Thread nD τ) (some 0) E) $$ H; iintro H
    beta_reduce; rw [off37_idx 63#32 63 (by decide) rfl]
    simp only [scanHi, scanLo] at hlast
    simp only [hlast, ↓reduceIte]
    rw [wp_ret]; imodintro
    iapply Hk
    · ipureintro; exact ⟨63, by decide, le_rfl, rfl, hlast, fun x _ h1 h2 => absurd h2 (by omega)⟩
    · iexact H
  | succ k ih =>
    intro e he K
    have he64 : e < 64 := by omega
    rw [scanSpec_apply]
    rw [defs_scan2, cc0_while2_eq_skeleton]; unfold cc0_while2_skel
    simp only [smemLoad, smemLoadElt, Prog.lift, Prog.bind_op, Prog.bind_ret, Prog.pure_eq_ret]
    iintro ⟨H, Hk⟩
    iapply (wp_assume Variants.nat (c : Thread nD τ) (some (k + 1)) E (chk2_of_lt ⟨e, he64⟩))
    iapply (wp_ld Variants.nat (c : Thread nD τ) (some (k + 1)) E) $$ H; iintro H
    beta_reduce; rw [off37_idx (BitVec.ofNat 32 e) e he64 (by rw [BitVec.toNat_ofNat]; omega)]
    by_cases ht : Scalar.cmpi .sle (X (ix64 e he64) : BitVec 32) (scanHi i) = 1#1
    · have ht' := ht
      simp only [scanHi, scanLo] at ht'
      simp only [ht', ↓reduceIte, Prog.bind_op, Prog.bind_ret, succ_word]
      iapply (wp_call_spec Variants.nat (c : Thread nD τ) (some (k + 1)) E (scanSpec c arg21 X (scanHi i) (e + 1)) k
        (fun u hu => by cases hu; exact Nat.lt_succ_self k) (ih (e + 1) (by omega)))
      rw [scanSpec_apply]
      isplitl [H]; · iexact H
      iintro %r %hr H
      rw [wp_ret]; imodintro
      iapply Hk
      · ipureintro
        obtain ⟨e', h, h1, h2, h3, h4⟩ := hr
        refine ⟨e', h, by omega, h2, h3, fun x hx hx1 hx2 => ?_⟩
        rcases Nat.lt_or_ge e x with h5 | h5
        · exact h4 x hx h5 hx2
        · obtain rfl : x = e := by omega
          exact ht
      · iexact H
    · have ht' := ht
      simp only [scanHi, scanLo] at ht'
      simp only [ht', ↓reduceIte]
      rw [wp_ret]; imodintro
      iapply Hk
      · ipureintro; exact ⟨e, he64, le_rfl, rfl, ht, fun x _ h1 h2 => absurd h2 (by omega)⟩
      · iexact H

end Cert.Kernel.Own
-- ==== Proof.KB.Prefix.lean ====
module

public import proofs.«01_k».proof.Proof.KB.Whiles
public import Idealize.ShloMosaic.Lib.Pipeline.Kit

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own

/-- The number of rows of the experts before `e`, as the kernel counts them. -/
def pre (G : S64.Idx → BitVec 32) : ℕ → BitVec 32
  | 0 => 0#32
  | e + 1 => if h : e < 64 then pre G e + G (ix64 e h) else pre G e

/-- What the counting loop has written before trip `k`: the running counts of the experts below `k`, their first row and
    the row after their last in every lane of the two row tables, and the same two in the lanes of the two carried rows. -/
structure Counted (G : S64.Idx → BitVec 32) (k : ℕ) (X21 : S64.Idx → BitVec 32) (X18 X19 : S64x128.Idx → BitVec 32) : Prop where
  ends : ∀ j, (j 0).val < k → X21 j = pre G ((j 0).val + 1)
  starts : ∀ j, (j 0).val < k → X18 j = pre G (j 0).val
  stops : ∀ j, (j 0).val < k → X19 j = pre G ((j 0).val + 1)

/-- What the counting loop carries before trip `k`. -/
structure Carried (G : S64.Idx → BitVec 32) (k : ℕ) (acc : BitVec 32 × IVec S1x128 32 × IVec S1x128 32) : Prop where
  count : acc.1 = pre G k
  starts : ∀ j, acc.2.1 j = if (j 1).val < k then pre G (j 1).val else 0#32
  stops : ∀ j, acc.2.2 j = if (j 1).val < k then pre G ((j 1).val + 1) else 0#32

theorem trips1 : k0_t1_loop.trips = 64 := by decide +kernel

theorem off1_eq : ∀ k : Fin 64, k0_off1 (Fin.cast trips1.symm k) 0 = k.val := by decide +kernel

theorem off2_eq : ∀ k : Fin 64, k0_off2 (Fin.cast trips1.symm k) 0 = k.val ∧ k0_off2 (Fin.cast trips1.symm k) 1 = 0 := by decide +kernel

theorem iv1_eq : ∀ k : Fin 64, Scf.iv 0#32 1#32 k.val = BitVec.ofNat 32 k.val := by decide +kernel

theorem off1 (k : Fin k0_t1_loop.trips) (a) : k0_off1 k a = k.val := by
  obtain rfl : a = 0 := Subsingleton.elim _ _
  exact off1_eq (Fin.cast trips1 k)

theorem off2_0 (k : Fin k0_t1_loop.trips) : k0_off2 k 0 = k.val := (off2_eq (Fin.cast trips1 k)).1

theorem off2_1 (k : Fin k0_t1_loop.trips) : k0_off2 k 1 = 0 := (off2_eq (Fin.cast trips1 k)).2

theorem idx1_read (k : Fin k0_t1_loop.trips) (hk : k.val < 64) (inb) (hn) :
    (Rect.unit (s := S64) (k0_off1 k) ![1] inb).idx (Shape.Idx.first hn) = ix64 k.val hk := by
  funext a
  refine Fin.ext ?_
  show k0_off1 k a + 1 * 0 = k.val
  rw [off1]; omega

theorem pre_succ (G : S64.Idx → BitVec 32) (e : ℕ) (h : e < 64) : pre G (e + 1) = pre G e + G (ix64 e h) := by
  rw [pre, dif_pos h]

theorem ofNat_eq_iff (a b : ℕ) (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

theorem lane_eq (k : Fin k0_t1_loop.trips) (hk : k.val < 64) (j : S1x128.Idx) :
    (cmpi .eq (iota .tc S1x128 32 [1] iota_S1x128_d1_w32) (broadcast S1x128 (Scf.iv 0#32 1#32 k.val)) j = 1#1)
      ↔ (j 1).val = k.val := by
  have hj : (j 1).val < 128 := (j 1).isLt
  rw [iv1_eq ⟨k.val, hk⟩]
  show BitVec.ofBool (BitVec.ofNat 32 (0 * 128 + (j 1).val) == BitVec.ofNat 32 k.val) = 1#1 ↔ _
  rw [show 0 * 128 + (j 1).val = (j 1).val by omega, ← ofNat_eq_iff (j 1).val k.val (by omega) (by omega)]
  by_cases h : BitVec.ofNat 32 (j 1).val = BitVec.ofNat 32 k.val
  · rw [h]; simp
  · have : (BitVec.ofNat 32 (j 1).val == BitVec.ofNat 32 k.val) = false := by simpa using h
    rw [this]; simp [h]

/-- The carried rows after one more trip. -/
theorem carried_succ (G : S64.Idx → BitVec 32) (k : Fin k0_t1_loop.trips) (hk : k.val < 64)
    (acc : BitVec 32 × IVec S1x128 32 × IVec S1x128 32) (h : Carried G k.val acc) :
    Carried G (k.val + 1) (Scalar.addi acc.1 (G (ix64 k.val hk)), k0_pay135 k acc.1 acc.2.1,
      k0_pay136 (F := F) k acc.1 acc.2.2 (G (ix64 k.val hk))) := by
  have e : Scalar.addi acc.1 (G (ix64 k.val hk)) = pre G (k.val + 1) := by
    rw [pre_succ G _ hk, ← h.count]; rfl
  refine ⟨e, fun j => ?_, fun j => ?_⟩
  · show (if cmpi .eq (iota .tc S1x128 32 [1] iota_S1x128_d1_w32) (broadcast S1x128 (Scf.iv 0#32 1#32 k.val)) j = 1#1
      then acc.1 else acc.2.1 j) = _
    by_cases hl : (j 1).val = k.val
    · rw [if_pos ((lane_eq k hk j).mpr hl), if_pos (by omega), hl, h.count]
    · rw [if_neg (fun hh => hl ((lane_eq k hk j).mp hh)), h.starts]
      by_cases h2 : (j 1).val < k.val
      · rw [if_pos h2, if_pos (by omega)]
      · rw [if_neg h2, if_neg (by omega)]
  · show (if cmpi .eq (iota .tc S1x128 32 [1] iota_S1x128_d1_w32) (broadcast S1x128 (Scf.iv 0#32 1#32 k.val)) j = 1#1
      then Scalar.addi acc.1 (G (ix64 k.val hk)) else acc.2.2 j) = _
    by_cases hl : (j 1).val = k.val
    · rw [if_pos ((lane_eq k hk j).mpr hl), if_pos (by omega), hl, e]
    · rw [if_neg (fun hh => hl ((lane_eq k hk j).mp hh)), h.stops]
      by_cases h2 : (j 1).val < k.val
      · rw [if_pos h2, if_pos (by omega)]
      · rw [if_neg h2, if_neg (by omega)]

theorem row_in (k : Fin k0_t1_loop.trips) (j : S64x128.Idx) (h : (j 0).val = k.val) :
    ∀ a, k0_off2 k a ≤ (j a).val ∧ (j a).val < k0_off2 k a + S1x128.size a := by
  intro a
  have h0 := off2_0 k
  have h1 := off2_1 k
  have hj : (j 1).val < 128 := (j 1).isLt
  fin_cases a
  · show k0_off2 k 0 ≤ (j 0).val ∧ (j 0).val < k0_off2 k 0 + 1; omega
  · show k0_off2 k 1 ≤ (j 1).val ∧ (j 1).val < k0_off2 k 1 + 128; omega

/-- A row table whose rows below `k` are known, after row `k` is written. -/
theorem rows_succ (f : ℕ → BitVec 32) (k : Fin k0_t1_loop.trips) (inb) (X : S64x128.Idx → BitVec 32) (v : BitVec 32)
    (w : S1x128.Idx → BitVec 32) (hw : ∀ j, w j = v) (hv : v = f k.val)
    (h : ∀ j, (j 0).val < k.val → X j = f (j 0).val) :
    ∀ j, (j 0).val < k.val + 1 → put (Rect.unit (s := S64x128) (k0_off2 k) S1x128.size inb) Finset.univ w X j = f (j 0).val := by
  intro j hj
  by_cases hl : (j 0).val = k.val
  · rw [put_unit_in _ _ _ _ _ _ (row_in k j hl), hl, ← hv]; exact hw _
  · rw [put_unit_out _ _ _ _ _ _ _ 0 (by rw [off2_0]; left; omega)]
    exact h j (by omega)

/-- The three tables after one more trip. -/
theorem counted_succ (G : S64.Idx → BitVec 32) (k : Fin k0_t1_loop.trips) (hk : k.val < 64)
    (s : BitVec 32) (hs : s = pre G k.val) (X21 : S64.Idx → BitVec 32) (X18 X19 : S64x128.Idx → BitVec 32)
    (h : Counted G k.val X21 X18 X19) (i1 i2 i3) :
    Counted G (k.val + 1)
      (put (Rect.unit (s := S64) (k0_off1 k) S1.size i1) Finset.univ (fun _ => Scalar.addi s (G (ix64 k.val hk))) X21)
      (put (Rect.unit (s := S64x128) (k0_off2 k) S1x128.size i2) Finset.univ (k0_pay133 s) X18)
      (put (Rect.unit (s := S64x128) (k0_off2 k) S1x128.size i3) Finset.univ (k0_pay134 (F := F) s (G (ix64 k.val hk))) X19) := by
  have e : Scalar.addi s (G (ix64 k.val hk)) = pre G (k.val + 1) := by
    rw [pre_succ G _ hk, ← hs]; rfl
  refine ⟨fun j hj => ?_, ?_, ?_⟩
  · by_cases hl : (j 0).val = k.val
    · rw [put_unit_in _ _ _ _ _ _ (fun a => by
        obtain rfl : a = 0 := Subsingleton.elim _ _
        rw [off1]; show _ ∧ _ < _ + 1; omega), hl, ← e]
    · rw [put_unit_out _ _ _ _ _ _ _ 0 (by rw [off1]; left; omega)]
      exact h.ends j (by omega)
  · exact rows_succ (pre G) k i2 X18 s _ (fun j => rfl) hs h.starts
  · exact rows_succ (fun e => pre G (e + 1)) k i3 X19 _ _ (fun j => rfl) e h.stops

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

/-- One trip of the counting loop. -/
theorem t1_trip (c : Dev nD) (h1 : k0_cond1 i = 1#1) (G : S64.Idx → BitVec 32) (k : Fin k0_t1_loop.trips)
    (acc : BitVec 32 × IVec S1x128 32 × IVec S1x128 32) :
    (iprop(owns (c : Thread nD τ) arg2 fullShare (G : S64.Idx → Elt F .i32)
      ∗ (∃ X21 X18 X19, owns (c : Thread nD τ) arg21 fullShare (X21 : S64.Idx → Elt F .i32)
        ∗ owns (c : Thread nD τ) arg18 fullShare (X18 : S64x128.Idx → Elt F .i32)
        ∗ owns (c : Thread nD τ) arg19 fullShare (X19 : S64x128.Idx → Elt F .i32)
        ∗ ⌜Counted G k.val X21 X18 X19 ∧ Carried G k.val acc⌝)) : sProp 𝕄)
    ⊢ wp frame (wpE (defs₀ (F := F)) Variants.nat (c : Thread nD τ) none) Set.univ
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 k acc)
        (fun acc => iprop(owns (c : Thread nD τ) arg2 fullShare (G : S64.Idx → Elt F .i32)
      ∗ (∃ X21 X18 X19, owns (c : Thread nD τ) arg21 fullShare (X21 : S64.Idx → Elt F .i32)
        ∗ owns (c : Thread nD τ) arg18 fullShare (X18 : S64x128.Idx → Elt F .i32)
        ∗ owns (c : Thread nD τ) arg19 fullShare (X19 : S64x128.Idx → Elt F .i32)
        ∗ ⌜Counted G (k.val + 1) X21 X18 X19 ∧ Carried G (k.val + 1) acc⌝))) := by
  obtain ⟨s, sv, ev⟩ := acc
  have hk : k.val < 64 := lt_of_lt_of_eq k.isLt trips1
  unfold k0_t1_body
  simp only [smemLoad, smemLoadElt, Prog.lift, Prog.bind_op, Prog.bind_ret, Prog.pure_eq_ret]
  iintro ⟨H2, ⟨%X21, %X18, %X19, H21, H18, H19, %hh⟩⟩
  obtain ⟨hc, ha⟩ := hh
  iapply (wp_ld Variants.nat (c : Thread nD τ) none Set.univ) $$ H2; iintro H2
  beta_reduce; rw [idx1_read k hk]
  iapply (wp_ld Variants.nat (c : Thread nD τ) none Set.univ) $$ H21; iintro H21
  iapply (wp_st Variants.nat (c : Thread nD τ) none Set.univ) $$ H21; iintro H21
  iapply (wp_ld Variants.nat (c : Thread nD τ) none Set.univ) $$ H18; iintro H18
  iapply (wp_st Variants.nat (c : Thread nD τ) none Set.univ) $$ H18; iintro H18
  iapply (wp_ld Variants.nat (c : Thread nD τ) none Set.univ) $$ H19; iintro H19
  iapply (wp_st Variants.nat (c : Thread nD τ) none Set.univ) $$ H19; iintro H19
  rw [wp_ret]; imodintro
  isplitl [H2]; · iexact H2
  iexists _, _, _
  isplitl [H21]; · iexact H21
  isplitl [H18]; · iexact H18
  isplitl [H19]; · iexact H19
  ipureintro
  exact ⟨counted_succ (F := F) G k hk s ha.count X21 X18 X19 hc _ _ _, carried_succ (F := F) G k hk (s, sv, ev) ha⟩

end Cert.Kernel.Own
-- ==== Proof.KB.T2.lean ====
module

public import proofs.«01_k».proof.Proof.Gen.Kernel.Loops
public import Idealize.ShloMosaic.Lib.Pipeline.TableIdle

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

/-- One trip of the tile loop that builds the word table keeps the buffers it reads and leaves some words in the table. -/
theorem t2_trip (c : Dev nD) (h1 : k0_cond1 i = 1#1)
    (X3 : BufTy.Contents (Elt F) arg3.view.ty) (k : Fin k0_t2_loop.trips) :
    (iprop((arg3.view.loc (c : Thread nD τ) ↦[arg3.view.set]{fullShare} X3)
      ∗ (∃ f, arg13.view.loc (c : Thread nD τ) ↦[arg13.view.set]{fullShare} f)) : sProp 𝕄)
    ⊢ wp frame (wpE (defs₀ (F := F)) Variants.nat (c : Thread nD τ) none) Set.univ
        (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 k ())
        (fun _ => iprop((arg3.view.loc (c : Thread nD τ) ↦[arg3.view.set]{fullShare} X3)
      ∗ (∃ f, arg13.view.loc (c : Thread nD τ) ↦[arg13.view.set]{fullShare} f))) := by
  unfold k0_t2_body
  iintro ⟨H3, ⟨%f13, H13⟩⟩
  sl_exec
  sl_step
  sl_close

end Cert.Kernel.Own
-- ==== Proof.KB.Init.lean ====
module

public import proofs.«01_k».proof.Proof.KB.Prefix
public import proofs.«01_k».proof.Proof.KB.T2
public import Idealize.ShloMosaic.Lib.Pipeline.Value

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own

/-- A memref owned whole at some contents. -/
abbrev held (c : Dev nD) {sp : Space} {s : Shape} {e : EltTy} (m : Memref sig .tc sp s e) : sProp 𝕄 :=
  iprop(∃ X : s.Idx → Elt F e, owns (c : Thread nD τ) m fullShare X)

/-- The two rows of the lane table: the first row of each expert and the row after its last, zero past the last expert. -/
structure Lanes (G : S64.Idx → BitVec 32) (X20 : S8x128.Idx → BitVec 32) : Prop where
  starts : ∀ j, (j 0).val = 0 → X20 j = if (j 1).val < 64 then pre G (j 1).val else 0#32
  stops : ∀ j, (j 0).val = 1 → X20 j = if (j 1).val < 64 then pre G ((j 1).val + 1) else 0#32

/-- What the first grid point leaves in the tables of expert rows. -/
structure Tables (G : S64.Idx → BitVec 32) (X18 X19 : S64x128.Idx → BitVec 32) (X20 : S8x128.Idx → BitVec 32)
    (X21 : S64.Idx → BitVec 32) : Prop where
  counted : Counted G 64 X21 X18 X19
  lanes : Lanes G X20

theorem lanes_put (G : S64.Idx → BitVec 32) (acc : BitVec 32 × IVec S1x128 32 × IVec S1x128 32) (h : Carried G 64 acc)
    (X20 : S8x128.Idx → BitVec 32) :
    Lanes G (put (Rect.unit (s := S8x128) ![1, 0] S1x128.size inb_S8x128_S1x128_1_0) Finset.univ (k0_pay138 acc.2.2)
      (put (Rect.unit (s := S8x128) ![0, 0] S1x128.size inb_S8x128_S1x128_0_0) Finset.univ (k0_pay137 acc.2.1) X20)) := by
  have h1 : k0_pay137 acc.2.1 = acc.2.1 := shapeCast_self _ _
  have h2 : k0_pay138 acc.2.2 = acc.2.2 := shapeCast_self _ _
  rw [h1, h2]
  constructor
  · intro j hj
    have hl : (j 1).val < 128 := (j 1).isLt
    rw [put_unit_out _ _ _ _ _ _ _ (0 : Fin 2) (by left; show (j 0).val < 1; omega)]
    rw [put_unit_in _ _ _ _ _ _ (fun a => by
      fin_cases a
      · show 0 ≤ (j 0).val ∧ (j 0).val < 0 + 1; omega
      · show 0 ≤ (j 1).val ∧ (j 1).val < 0 + 128; omega)]
    exact h.starts _
  · intro j hj
    have hl : (j 1).val < 128 := (j 1).isLt
    rw [put_unit_in _ _ _ _ _ _ (fun a => by
      fin_cases a
      · show 1 ≤ (j 0).val ∧ (j 0).val < 1 + 1; omega
      · show 0 ≤ (j 1).val ∧ (j 1).val < 0 + 128; omega)]
    exact h.stops _

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

set_option maxHeartbeats 1000000 in
/-- The first part of the first grid point: it counts the experts' rows and fills the tables. -/
theorem part19_run (c : Dev nD) (h1 : k0_cond1 i = 1#1) (G : S64.Idx → BitVec 32)
    (K : (Σ' (_ : FVec F S2064x128 .f32), Vec F S2064x128 .f32) → sProp 𝕄) :
    (iprop((owns (c : Thread nD τ) arg2 fullShare (G : S64.Idx → Elt F .i32)
        ∗ held (F := F) c arg14 ∗ held (F := F) c arg15 ∗ held (F := F) c arg18 ∗ held (F := F) c arg19 ∗ held (F := F) c arg20
        ∗ held (F := F) c arg21 ∗ held (F := F) c arg22)
      ∗ (∀ v114, (owns (c : Thread nD τ) arg2 fullShare (G : S64.Idx → Elt F .i32)
        ∗ owns (c : Thread nD τ) arg14 fullShare (k0_pay139 (F := F)) ∗ held (F := F) c arg15
        ∗ (∃ X18 X19 X20 X21, owns (c : Thread nD τ) arg18 fullShare (X18 : S64x128.Idx → Elt F .i32)
          ∗ owns (c : Thread nD τ) arg19 fullShare (X19 : S64x128.Idx → Elt F .i32)
          ∗ owns (c : Thread nD τ) arg20 fullShare (X20 : S8x128.Idx → Elt F .i32)
          ∗ owns (c : Thread nD τ) arg21 fullShare (X21 : S64.Idx → Elt F .i32)
          ∗ owns (c : Thread nD τ) arg22 fullShare ((fun _ => 0#32) : S1.Idx → Elt F .i32)
          ∗ ⌜Tables G X18 X19 X20 X21⌝)) -∗ K ⟨k0_pay140 (F := F), v114⟩)) : sProp 𝕄)
    ⊢ wp frame (wpE (defs₀ (F := F)) Variants.nat (c : Thread nD τ) none) Set.univ
        (k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1) K := by
  rw [k0_part19_eq_skeleton]
  unfold k0_part19_skel
  simp only [smemLoad, smemLoadElt, Prog.lift, Prog.bind_op, Prog.bind_ret, Prog.pure_eq_ret]
  iintro ⟨⟨H2, ⟨%X14, H14⟩, ⟨%X15, H15⟩, ⟨%X18, H18⟩, ⟨%X19, H19⟩, ⟨%X20, H20⟩, ⟨%X21, H21⟩, ⟨%X22, H22⟩⟩, HK⟩
  iapply (Scf.wp_for_bind frame (wpE (defs₀ (F := F)) Variants.nat (c : Thread nD τ) none) Set.univ _ _ _ (k0_t1_ok i h1) _ _
    (fun k acc => iprop(owns (c : Thread nD τ) arg2 fullShare (G : S64.Idx → Elt F .i32)
      ∗ (∃ X21 X18 X19, owns (c : Thread nD τ) arg21 fullShare (X21 : S64.Idx → Elt F .i32)
        ∗ owns (c : Thread nD τ) arg18 fullShare (X18 : S64x128.Idx → Elt F .i32)
        ∗ owns (c : Thread nD τ) arg19 fullShare (X19 : S64x128.Idx → Elt F .i32)
        ∗ ⌜Counted G k X21 X18 X19 ∧ Carried G k acc⌝)))
    (fun k acc => t1_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c h1 G k acc)) $$ [H2 H18 H19 H21]
  · isplitl [H2]; · iexact H2
    iexists X21, X18, X19
    isplitl [H21]; · iexact H21
    isplitl [H18]; · iexact H18
    isplitl [H19]; · iexact H19
    ipureintro
    exact ⟨⟨fun j h => absurd h (Nat.not_lt_zero _), fun j h => absurd h (Nat.not_lt_zero _), fun j h => absurd h (Nat.not_lt_zero _)⟩,
      ⟨rfl, fun j => (if_neg (Nat.not_lt_zero _)).symm, fun j => (if_neg (Nat.not_lt_zero _)).symm⟩⟩
  iintro %acc ⟨H2, ⟨%Y21, %Y18, %Y19, H21, H18, H19, %hh⟩⟩
  obtain ⟨s, sv, ev⟩ := acc
  rw [show Scf.trips k0_t1_loop.lb k0_t1_loop.ub k0_t1_loop.st = 64 from trips1] at hh
  obtain ⟨hc, ha⟩ := hh
  iapply (wp_ld Variants.nat (c : Thread nD τ) none Set.univ) $$ H20; iintro H20
  iapply (wp_st Variants.nat (c : Thread nD τ) none Set.univ) $$ H20; iintro H20
  iapply (wp_ld Variants.nat (c : Thread nD τ) none Set.univ) $$ H20; iintro H20
  iapply (wp_st Variants.nat (c : Thread nD τ) none Set.univ) $$ H20; iintro H20
  iapply (wp_ld Variants.nat (c : Thread nD τ) none Set.univ) $$ H22; iintro H22
  iapply (wp_st Variants.nat (c : Thread nD τ) none Set.univ) $$ H22; iintro H22
  iapply (wp_ld Variants.nat (c : Thread nD τ) none Set.univ) $$ H14; iintro H14
  iapply (wp_st Variants.nat (c : Thread nD τ) none Set.univ) $$ H14; iintro H14
  iapply (wp_ld Variants.nat (c : Thread nD τ) none Set.univ) $$ H15; iintro H15
  rw [wp_ret]; imodintro
  iapply HK
  isplitl [H2]; · iexact H2
  isplitl [H14]
  · rw [put_whole (s := S256x256)]; iexact H14
  isplitl [H15]; · iexists _; iexact H15
  iexists Y18, Y19, _, Y21
  isplitl [H18]; · iexact H18
  isplitl [H19]; · iexact H19
  isplitl [H20]; · iexact H20
  isplitl [H21]; · iexact H21
  isplitl [H22]
  · rw [put_whole (s := S1)]; iexact H22
  ipureintro
  exact ⟨hc, lanes_put G (s, sv, ev) ha X20⟩

end Cert.Kernel.Own
-- ==== Proof.KB.Words.lean ====
module

public import proofs.«01_k».proof.Proof.KB.Init

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own

/-- Two experts in order meet every bound the tile loops ask for. -/
theorem chk4_of_le : ∀ a b : Fin 64, a.val ≤ b.val → k0_chk4 (BitVec.ofNat 32 a.val) (BitVec.ofNat 32 b.val) := by
  unfold k0_chk4
  decide +kernel

/-- The tile of the first expert. -/
theorem off38_eq : ∀ a : Fin 64, k0_off38 (BitVec.ofNat 32 a.val) = ![8 * (a.val / 8), 0] := by decide +kernel

/-- The tile of the first expert. -/
theorem off39_eq : ∀ a : Fin 64, k0_off39 (BitVec.ofNat 32 a.val) = ![8 * (a.val / 8), 0] := by decide +kernel

/-- The tile loop runs once per tile after the first. -/
theorem trips3 : ∀ a b : Fin 64, a.val ≤ b.val →
    (k0_t3_loop (BitVec.ofNat 32 a.val) (BitVec.ofNat 32 b.val)).trips = b.val / 8 - a.val / 8 := by decide +kernel

/-- The remainder loop never runs. -/
theorem trips4 : ∀ a b : Fin 64, a.val ≤ b.val →
    (k0_t4_loop (BitVec.ofNat 32 a.val) (BitVec.ofNat 32 b.val)).trips = 0 := by decide +kernel

/-- The tile of a trip. -/
theorem off40_eq : ∀ a b : Fin 64, a.val ≤ b.val → ∀ k : Fin (k0_t3_loop (BitVec.ofNat 32 a.val) (BitVec.ofNat 32 b.val)).trips,
    k0_off40 (BitVec.ofNat 32 a.val) (BitVec.ofNat 32 b.val) k = ![8 * (a.val / 8 + 1 + k.val), 0] := by decide +kernel

/-- The tile of a trip. -/
theorem off41_eq : ∀ a b : Fin 64, a.val ≤ b.val → ∀ k : Fin (k0_t3_loop (BitVec.ofNat 32 a.val) (BitVec.ofNat 32 b.val)).trips,
    k0_off41 (BitVec.ofNat 32 a.val) (BitVec.ofNat 32 b.val) k = ![8 * (a.val / 8 + 1 + k.val), 0] := by decide +kernel

end Cert.Kernel.Own
-- ==== Proof.KB.Tiles.lean ====
module

public import proofs.«01_k».proof.Proof.KB.Words

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own

theorem tile_inb1 (r : ℕ) (h : r < 8) : ∀ a, (![8 * r, 0] : Fin 2 → ℕ) a + S8x1.size a ≤ S64x128.size a := by
  intro a; fin_cases a
  · show 8 * r + 8 ≤ 64; omega
  · show 0 + 1 ≤ 128; omega

theorem tile_inb (r : ℕ) (h : r < 8) : ∀ a, (![8 * r, 0] : Fin 2 → ℕ) a + S8x4096.size a ≤ S64x4096.size a := by
  intro a; fin_cases a
  · show 8 * r + 8 ≤ 64; omega
  · show 0 + 4096 ≤ 4096; omega

/-- The sums after tile `r` of eight experts has taken in the chunk of rows of grid point `i`. -/
noncomputable def tile (i : grid0.Coords) (X5 : S512x4096.Idx → Elt F .fp8e4m3) (X6 : S1x512.Idx → Elt F .f32)
    (X18 X19 : S64x128.Idx → BitVec 32) (r : ℕ) (X : S64x4096.Idx → Elt F .f32) : S64x4096.Idx → Elt F .f32 :=
  if h : r < 8 then
    put (Rect.unit (s := S64x4096) ![8 * r, 0] S8x4096.size (tile_inb r h)) Finset.univ
      (k0_pay370 (F := F) (k0_pay361 X6) (k0_pay362 X6) (k0_pay363 X6) (k0_pay364 i)
        (fun j => X18 ((Rect.unit (s := S64x128) ![8 * r, 0] S8x1.size (tile_inb1 r h)).idx j))
        (fun j => X19 ((Rect.unit (s := S64x128) ![8 * r, 0] S8x1.size (tile_inb1 r h)).idx j)) X5
        (fun j => X ((Rect.unit (s := S64x4096) ![8 * r, 0] S8x4096.size (tile_inb r h)).idx j))) X
  else X

/-- The sums after the first `n` tiles from tile `a`. -/
noncomputable def tiles (i : grid0.Coords) (X5 : S512x4096.Idx → Elt F .fp8e4m3) (X6 : S1x512.Idx → Elt F .f32)
    (X18 X19 : S64x128.Idx → BitVec 32) (a : ℕ) (X : S64x4096.Idx → Elt F .f32) : ℕ → S64x4096.Idx → Elt F .f32
  | 0 => X
  | n + 1 => tile i X5 X6 X18 X19 (a + n) (tiles i X5 X6 X18 X19 a X n)

/-- The stored block of a tile, at any spelling of its offsets. -/
theorem tile_put (i : grid0.Coords) (X5 : S512x4096.Idx → Elt F .fp8e4m3) (X6 : S1x512.Idx → Elt F .f32)
    (X18 X19 : S64x128.Idx → BitVec 32) (r : ℕ) (h : r < 8) (X : S64x4096.Idx → Elt F .f32) (o o' : Fin 2 → ℕ)
    (ho : o = ![8 * r, 0]) (ho' : o' = ![8 * r, 0]) (inb inb') :
    put (Rect.unit (s := S64x4096) o ![8, 4096] inb) Finset.univ
      (k0_pay370 (F := F) (k0_pay361 X6) (k0_pay362 X6) (k0_pay363 X6) (k0_pay364 i)
        (fun j => X18 ((Rect.unit (s := S64x128) o' ![8, 1] inb').idx j))
        (fun j => X19 ((Rect.unit (s := S64x128) o' ![8, 1] inb').idx j)) X5
        (fun j => X ((Rect.unit (s := S64x4096) o ![8, 4096] inb).idx j))) X = tile i X5 X6 X18 X19 r X := by
  subst ho ho'
  rw [tile, dif_pos h]

/-- The first tile's block, written apart in the body, is the block of the other tiles. -/
theorem pay369_eq (i : grid0.Coords) (X6 : S1x512.Idx → Elt F .f32) (a b : S8x1.Idx → BitVec 32)
    (X5 : S512x4096.Idx → Elt F .fp8e4m3) (X : S8x4096.Idx → Elt F .f32) :
    k0_pay369 (F := F) (k0_pay363 X6) (k0_pay365 (F := F) i a b) (k0_pay366 (F := F)) (k0_pay367 i X6 a b) (k0_pay368 X6) X5 X
      = k0_pay370 (F := F) (k0_pay361 X6) (k0_pay362 X6) (k0_pay363 X6) (k0_pay364 i) a b X5 X := rfl

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

set_option maxHeartbeats 1000000 in
/-- One trip of the tile loop. -/
theorem t3_trip (c : Dev nD) (a b : Fin 64) (hab : a.val ≤ b.val) (h3 : k0_chk3 (BitVec.ofNat 32 a.val))
    (h4 : k0_chk4 (BitVec.ofNat 32 a.val) (BitVec.ofNat 32 b.val)) (v9 v10 v26 : BitVec 32) (v35 v36 v39 v40)
    (X5 : S512x4096.Idx → Elt F .fp8e4m3) (X6 : S1x512.Idx → Elt F .f32)
    (X18 X19 : S64x128.Idx → BitVec 32) (X : S64x4096.Idx → Elt F .f32)
    (k : Fin (k0_t3_loop (BitVec.ofNat 32 a.val) (BitVec.ofNat 32 b.val)).trips) :
    (iprop(owns (c : Thread nD τ) arg5 fullShare X5 ∗ owns (c : Thread nD τ) arg18 fullShare (X18 : S64x128.Idx → Elt F .i32)
        ∗ owns (c : Thread nD τ) arg19 fullShare (X19 : S64x128.Idx → Elt F .i32)
        ∗ owns (c : Thread nD τ) arg17 fullShare (tiles i X5 X6 X18 X19 (a.val / 8) X (k.val + 1))) : sProp 𝕄)
    ⊢ wp frame (wpE (defs₀ (F := F)) Variants.nat (c : Thread nD τ) none) Set.univ
        (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 a.val) h3 (BitVec.ofNat 32 b.val) h4 v9 v10
          (k0_pay361 X6) (k0_pay362 X6) (k0_pay363 X6) (k0_pay364 i) v26 v35 v36 v39 v40 k ())
        fun _ => iprop(owns (c : Thread nD τ) arg5 fullShare X5 ∗ owns (c : Thread nD τ) arg18 fullShare (X18 : S64x128.Idx → Elt F .i32)
        ∗ owns (c : Thread nD τ) arg19 fullShare (X19 : S64x128.Idx → Elt F .i32)
        ∗ owns (c : Thread nD τ) arg17 fullShare (tiles i X5 X6 X18 X19 (a.val / 8) X (k.val + 1 + 1))) := by
  have hr : a.val / 8 + (k.val + 1) < 8 := by
    have := k.isLt; have := trips3 a b hab; have := b.isLt; omega
  unfold k0_t3_body
  simp only [Prog.lift, Prog.bind_op, Prog.bind_ret, Prog.pure_eq_ret]
  iintro ⟨H5, H18, H19, H17⟩
  iapply (wp_ld Variants.nat (c : Thread nD τ) none Set.univ) $$ H18; iintro H18
  iapply (wp_ld Variants.nat (c : Thread nD τ) none Set.univ) $$ H19; iintro H19
  iapply (wp_ld Variants.nat (c : Thread nD τ) none Set.univ) $$ H5; iintro H5
  iapply (wp_ld Variants.nat (c : Thread nD τ) none Set.univ) $$ H17; iintro H17
  iapply (wp_ld Variants.nat (c : Thread nD τ) none Set.univ) $$ H17; iintro H17
  iapply (wp_st Variants.nat (c : Thread nD τ) none Set.univ) $$ H17; iintro H17
  rw [wp_ret]; imodintro
  isplitl [H5]; · iexact H5
  isplitl [H18]; · iexact H18
  isplitl [H19]; · iexact H19
  rw [read_whole (s := S512x4096)]
  rw [show tiles i X5 X6 X18 X19 (a.val / 8) X (k.val + 1 + 1)
      = tile i X5 X6 X18 X19 (a.val / 8 + (k.val + 1)) (tiles i X5 X6 X18 X19 (a.val / 8) X (k.val + 1)) from rfl,
    ← tile_put i X5 X6 X18 X19 (a.val / 8 + (k.val + 1)) hr (tiles i X5 X6 X18 X19 (a.val / 8) X (k.val + 1)) _ _
      ((off41_eq a b hab k).trans (by rw [Nat.add_assoc, Nat.add_comm 1]))
      ((off40_eq a b hab k).trans (by rw [Nat.add_assoc, Nat.add_comm 1])) (k0_off41_inb _ _ h4 k) (k0_off40_inb _ _ h4 k)]
  iexact H17

set_option maxHeartbeats 1000000 in
/-- The tiles of one grid point: the sums take in the point's rows, tile by tile, and the two lane rows are read. -/
theorem part61_run (c : Dev nD) (a b : Fin 64) (hab : a.val ≤ b.val) (h3 : k0_chk3 (BitVec.ofNat 32 a.val))
    (h4 : k0_chk4 (BitVec.ofNat 32 a.val) (BitVec.ofNat 32 b.val)) (v9 v10 v26 : BitVec 32)
    (X5 : S512x4096.Idx → Elt F .fp8e4m3) (X6 : S1x512.Idx → Elt F .f32)
    (X18 X19 : S64x128.Idx → BitVec 32) (X20 : S8x128.Idx → BitVec 32) (X : S64x4096.Idx → Elt F .f32)
    (A B : S8x1.Idx → BitVec 32) (o' : Fin 2 → ℕ) (ho' : o' = ![8 * (a.val / 8), 0]) (inb')
    (hA : A = fun j => X18 ((Rect.unit (s := S64x128) o' S8x1.size inb').idx j))
    (hB : B = fun j => X19 ((Rect.unit (s := S64x128) o' S8x1.size inb').idx j))
    (K : (Σ' (_ : Vec F S1x128 .i32) (_ : Vec F S1x128 .i32) (_ : IVec S8x128 32), IVec S8x128 32) → sProp 𝕄) :
    (iprop((owns (c : Thread nD τ) arg5 fullShare X5 ∗ owns (c : Thread nD τ) arg18 fullShare (X18 : S64x128.Idx → Elt F .i32)
        ∗ owns (c : Thread nD τ) arg19 fullShare (X19 : S64x128.Idx → Elt F .i32)
        ∗ owns (c : Thread nD τ) arg20 fullShare (X20 : S8x128.Idx → Elt F .i32)
        ∗ owns (c : Thread nD τ) arg17 fullShare X)
      ∗ (∀ r, ⌜r = ⟨fun j => X20 ((Rect.unit (s := S8x128) ![0, 0] S1x128.size inb_S8x128_S1x128_0_0).idx j),
          fun j => X20 ((Rect.unit (s := S8x128) ![1, 0] S1x128.size inb_S8x128_S1x128_1_0).idx j),
          iota .tc S8x128 32 [0] iota_S8x128_d0_w32, iota .tc S8x128 32 [1] iota_S8x128_d1_w32⟩⌝
        -∗ (owns (c : Thread nD τ) arg5 fullShare X5 ∗ owns (c : Thread nD τ) arg18 fullShare (X18 : S64x128.Idx → Elt F .i32)
        ∗ owns (c : Thread nD τ) arg19 fullShare (X19 : S64x128.Idx → Elt F .i32)
        ∗ owns (c : Thread nD τ) arg20 fullShare (X20 : S8x128.Idx → Elt F .i32)
        ∗ owns (c : Thread nD τ) arg17 fullShare (tiles i X5 X6 X18 X19 (a.val / 8) X (b.val / 8 - a.val / 8 + 1)))
        -∗ K r)) : sProp 𝕄)
    ⊢ wp frame (wpE (defs₀ (F := F)) Variants.nat (c : Thread nD τ) none) Set.univ
        (k0_part61 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 a.val) h3 (BitVec.ofNat 32 b.val) h4 v9 v10
          (k0_pay361 X6) (k0_pay362 X6) (k0_pay363 X6) (k0_pay364 i) v26 (k0_pay365 (F := F) i A B) (k0_pay366 (F := F))
          (k0_pay367 i X6 A B) (k0_pay368 X6)) K := by
  have ha : a.val / 8 < 8 := by have := a.isLt; omega
  rw [k0_part61_eq_skeleton]
  unfold k0_part61_skel
  simp only [Prog.lift, Prog.bind_op, Prog.bind_ret, Prog.pure_eq_ret]
  iintro ⟨⟨H5, H18, H19, H20, H17⟩, HK⟩
  iapply (wp_ld Variants.nat (c : Thread nD τ) none Set.univ) $$ H5; iintro H5
  iapply (wp_ld Variants.nat (c : Thread nD τ) none Set.univ) $$ H17; iintro H17
  iapply (wp_ld Variants.nat (c : Thread nD τ) none Set.univ) $$ H17; iintro H17
  iapply (wp_st Variants.nat (c : Thread nD τ) none Set.univ) $$ H17; iintro H17
  iapply (Scf.wp_for_bind frame (wpE (defs₀ (F := F)) Variants.nat (c : Thread nD τ) none) Set.univ _ _ _
    (k0_t3_ok _ _ h4) _ _
    (fun k _ => iprop(owns (c : Thread nD τ) arg5 fullShare X5 ∗ owns (c : Thread nD τ) arg18 fullShare (X18 : S64x128.Idx → Elt F .i32)
        ∗ owns (c : Thread nD τ) arg19 fullShare (X19 : S64x128.Idx → Elt F .i32)
        ∗ owns (c : Thread nD τ) arg17 fullShare (tiles i X5 X6 X18 X19 (a.val / 8) X (k + 1))))
    (fun k _ => t3_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c a b hab h3 h4 v9 v10 v26 _ _ _ _ X5 X6 X18 X19 X k)) $$ [H5 H18 H19 H17]
  · isplitl [H5]; · iexact H5
    isplitl [H18]; · iexact H18
    isplitl [H19]; · iexact H19
    rw [read_whole (s := S512x4096), pay369_eq, hA, hB]
    rw [show tiles i X5 X6 X18 X19 (a.val / 8) X (0 + 1) = tile i X5 X6 X18 X19 (a.val / 8) X from rfl,
      ← tile_put i X5 X6 X18 X19 (a.val / 8) ha X _ _ (off39_eq a) ho' (k0_off39_inb _ h3) inb']
    iexact H17
  iintro %_ ⟨H5, H18, H19, H17⟩
  iapply (Scf.wp_for_bind frame (wpE (defs₀ (F := F)) Variants.nat (c : Thread nD τ) none) Set.univ _ _ _
    (k0_t4_ok _ _ h4) _ _ (fun _ _ => iprop(⌜True⌝))
    (fun k _ => absurd k.isLt (by
      have e : Scf.trips (k0_t4_loop (BitVec.ofNat 32 a.val) (BitVec.ofNat 32 b.val)).lb (k0_t4_loop (BitVec.ofNat 32 a.val) (BitVec.ofNat 32 b.val)).ub
        (k0_t4_loop (BitVec.ofNat 32 a.val) (BitVec.ofNat 32 b.val)).st = 0 := trips4 a b hab
      omega)))
  · ipureintro; trivial
  iintro %_ -
  iapply (wp_ld Variants.nat (c : Thread nD τ) none Set.univ) $$ H20; iintro H20
  iapply (wp_ld Variants.nat (c : Thread nD τ) none Set.univ) $$ H20; iintro H20
  rw [wp_ret]; imodintro
  iapply HK
  · ipureintro; rfl
  isplitl [H5]; · iexact H5
  isplitl [H18]; · iexact H18
  isplitl [H19]; · iexact H19
  isplitl [H20]; · iexact H20
  rw [show Scf.trips (k0_t3_loop (BitVec.ofNat 32 a.val) (BitVec.ofNat 32 b.val)).lb (k0_t3_loop (BitVec.ofNat 32 a.val) (BitVec.ofNat 32 b.val)).ub
    (k0_t3_loop (BitVec.ofNat 32 a.val) (BitVec.ofNat 32 b.val)).st = b.val / 8 - a.val / 8 from trips3 a b hab]
  iexact H17

end Cert.Kernel.Own
-- ==== Proof.KB.Enter.lean ====
module

public import proofs.«01_k».proof.Proof.KB.Tiles

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own

/-- Owned contents are the reading of some buffer contents. -/
theorem owns_open (c : Dev nD) {sp : Space} {s : Shape} {e : EltTy} (m : Memref sig .tc sp s e) (X : s.Idx → Elt F e) :
    (owns (c : Thread nD τ) m fullShare X : sProp 𝕄) ⊢ iprop(∃ f, ⌜m.view.read (Elt F) f = X⌝ ∗ (m.view.loc (c : Thread nD τ) ↦[m.view.set]{fullShare} f)) :=
  .rfl

/-- Buffer contents are owned at their reading. -/
theorem owns_shut (c : Dev nD) {sp : Space} {s : Shape} {e : EltTy} (m : Memref sig .tc sp s e) (f : BufTy.Contents (Elt F) m.view.ty) :
    ((m.view.loc (c : Thread nD τ) ↦[m.view.set]{fullShare} f) : sProp 𝕄) ⊢ owns (c : Thread nD τ) m fullShare (m.view.read (Elt F) f) := by
  show _ ⊢ iprop(∃ g, ⌜m.view.read (Elt F) g = m.view.read (Elt F) f⌝ ∗ (m.view.loc (c : Thread nD τ) ↦[m.view.set]{fullShare} g))
  iintro H
  iexists f
  isplitr
  · ipureintro; rfl
  · iexact H

/-- A memref owned at some contents, from one owned at known ones. -/
theorem held_intro (c : Dev nD) {sp : Space} {s : Shape} {e : EltTy} (m : Memref sig .tc sp s e) (X : s.Idx → Elt F e) :
    (owns (c : Thread nD τ) m fullShare X : sProp 𝕄) ⊢ held (F := F) c m := by
  iintro H
  iexists X
  iexact H

/-- Every expert before `e` ends at or before row `w`. -/
def Behind (G : S64.Idx → BitVec 32) (w : BitVec 32) (e : ℕ) : Prop := ∀ x < e, Scalar.cmpi .sle (pre G (x + 1)) w = 1#1

theorem lo_toInt : ∀ t : Fin 32, (Scalar.muli (BitVec.ofNat 32 t.val) 512#32).toInt = 512 * t.val := by decide +kernel

theorem hi_toInt : ∀ t : Fin 32, (Scalar.addi (Scalar.muli (BitVec.ofNat 32 t.val) 512#32) 511#32).toInt = 512 * t.val + 511 := by
  decide +kernel

theorem sle_iff (a b : BitVec 32) : Scalar.cmpi .sle a b = 1#1 ↔ a.toInt ≤ b.toInt := by
  show BitVec.ofBool (a.sle b) = 1#1 ↔ _
  rw [BitVec.sle_eq_decide]
  by_cases h : a.toInt ≤ b.toInt <;> simp [h]

theorem sle_of_le (a b b' : BitVec 32) (h : Scalar.cmpi .sle a b = 1#1) (hb : b.toInt ≤ b'.toInt) : Scalar.cmpi .sle a b' = 1#1 :=
  (sle_iff a b').2 (le_trans ((sle_iff a b).1 h) hb)

theorem scanLo_le (i : grid0.Coords) : (scanLo i).toInt ≤ (scanHi i).toInt := by
  have h1 := lo_toInt (i 0)
  have h2 := hi_toInt (i 0)
  show (Scalar.muli (BitVec.ofNat 32 (i 0).val) 512#32).toInt ≤ (Scalar.addi (Scalar.muli (BitVec.ofNat 32 (i 0).val) 512#32) 511#32).toInt
  omega

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

/-- The scratch buffers before the first grid point: they hold anything. -/
def Blank (c : Dev nD) : sProp 𝕄 :=
  iprop(held (F := F) c arg13 ∗ held (F := F) c arg14 ∗ held (F := F) c arg15 ∗ held (F := F) c arg16 ∗ held (F := F) c arg17
    ∗ held (F := F) c arg18 ∗ held (F := F) c arg19 ∗ held (F := F) c arg20 ∗ held (F := F) c arg21 ∗ held (F := F) c arg22)

/-- The scratch buffers once the tables are there: `w` is the row the point starts at, `I` what is known of the sums. -/
def Ready (c : Dev nD) (G : S64.Idx → BitVec 32) (w : BitVec 32) (I : (S64x4096.Idx → Elt F .f32) → Prop) : sProp 𝕄 :=
  iprop(held (F := F) c arg13 ∗ held (F := F) c arg14 ∗ held (F := F) c arg15 ∗ held (F := F) c arg16
    ∗ (∃ X17, owns (c : Thread nD τ) arg17 fullShare X17 ∗ ⌜I X17⌝)
    ∗ (∃ X18 X19 X20 X21 e, owns (c : Thread nD τ) arg18 fullShare (X18 : S64x128.Idx → Elt F .i32)
      ∗ owns (c : Thread nD τ) arg19 fullShare (X19 : S64x128.Idx → Elt F .i32)
      ∗ owns (c : Thread nD τ) arg20 fullShare (X20 : S8x128.Idx → Elt F .i32)
      ∗ owns (c : Thread nD τ) arg21 fullShare (X21 : S64.Idx → Elt F .i32)
      ∗ owns (c : Thread nD τ) arg22 fullShare ((fun _ => BitVec.ofNat 32 e) : S1.Idx → Elt F .i32)
      ∗ ⌜Tables G X18 X19 X20 X21 ∧ e < 64 ∧ Behind G w e⌝))

set_option maxHeartbeats 2000000 in
/-- The head of a grid point: at the first one the tables are filled, and at every one the two scans find the first and the
    last expert of the point's rows. -/
theorem part60_run (c : Dev nD) (G : S64.Idx → BitVec 32) (I : (S64x4096.Idx → Elt F .f32) → Prop) (S : sProp 𝕄)
    (hS : k0_cond1 i = 1#1 → S ⊢ Blank arg13 arg14 arg15 arg16 arg17 arg18 arg19 arg20 arg21 arg22 c)
    (hS' : k0_cond1 i ≠ 1#1 → S ⊢ Ready arg13 arg14 arg15 arg16 arg17 arg18 arg19 arg20 arg21 arg22 c G (scanLo i) I)
    (hI : k0_cond1 i = 1#1 → I (k0_pay358 (F := F)))
    (hlo : Scalar.cmpi .sle (pre G 64) (scanLo i) ≠ 1#1) (hhi : Scalar.cmpi .sle (pre G 64) (scanHi i) ≠ 1#1)
    (X3 : S2048x4096.Idx → Elt F .i8) (X6 : S1x512.Idx → Elt F .f32) (K : _ → sProp 𝕄) :
    (iprop((S ∗ owns (c : Thread nD τ) arg2 fullShare (G : S64.Idx → Elt F .i32) ∗ owns (c : Thread nD τ) arg3 fullShare X3
        ∗ owns (c : Thread nD τ) arg6 fullShare X6)
      ∗ (∀ (a b : Fin 64) h3 h4 X17 X18 X19 X20 X21 A B o' inb' r,
        ⌜a.val ≤ b.val ∧ Tables G X18 X19 X20 X21 ∧ I X17 ∧ Behind G (scanLo i) a.val ∧ Behind G (scanHi i) b.val
          ∧ Scalar.cmpi .sle (pre G (b.val + 1)) (scanHi i) ≠ 1#1 ∧ o' = ![8 * (a.val / 8), 0]
          ∧ A = (fun j => X18 ((Rect.unit (s := S64x128) o' S8x1.size inb').idx j))
          ∧ B = (fun j => X19 ((Rect.unit (s := S64x128) o' S8x1.size inb').idx j))
          ∧ r = ⟨BitVec.ofNat 32 (i 0).val, scanLo i, BitVec.ofNat 32 a.val, h3, BitVec.ofNat 32 b.val, h4,
            Scalar.shrui (BitVec.ofNat 32 a.val) 3#32, Scalar.shrui (BitVec.ofNat 32 b.val) 3#32, k0_pay361 X6, k0_pay362 X6,
            k0_pay363 X6, k0_pay364 i, Scalar.muli (Scalar.shrui (BitVec.ofNat 32 a.val) 3#32) 8#32, k0_pay365 (F := F) i A B,
            k0_pay366 (F := F), k0_pay367 i X6 A B, k0_pay368 X6⟩⌝
        -∗ (owns (c : Thread nD τ) arg2 fullShare (G : S64.Idx → Elt F .i32) ∗ owns (c : Thread nD τ) arg3 fullShare X3
          ∗ owns (c : Thread nD τ) arg6 fullShare X6
          ∗ held (F := F) c arg13 ∗ held (F := F) c arg14 ∗ held (F := F) c arg15 ∗ held (F := F) c arg16
          ∗ owns (c : Thread nD τ) arg17 fullShare X17 ∗ owns (c : Thread nD τ) arg18 fullShare (X18 : S64x128.Idx → Elt F .i32)
          ∗ owns (c : Thread nD τ) arg19 fullShare (X19 : S64x128.Idx → Elt F .i32)
          ∗ owns (c : Thread nD τ) arg20 fullShare (X20 : S8x128.Idx → Elt F .i32)
          ∗ owns (c : Thread nD τ) arg21 fullShare (X21 : S64.Idx → Elt F .i32)
          ∗ owns (c : Thread nD τ) arg22 fullShare ((fun _ => BitVec.ofNat 32 b.val) : S1.Idx → Elt F .i32))
        -∗ K r)) : sProp 𝕄)
    ⊢ wp frame (wpE (defs₀ (F := F)) Variants.nat (c : Thread nD τ) none) Set.univ
        (k0_part60 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  rw [k0_part60_eq_skeleton]
  unfold k0_part60_skel
  simp only [smemLoad, smemLoadElt, Prog.lift, Prog.bind_op, Prog.bind_ret, Prog.pure_eq_ret]
  iintro ⟨⟨HS, H2, H3, H6⟩, HK⟩
  by_cases h1 : k0_cond1 i = 1#1
  on_goal 1 =>
    simp only [h1, ↓reduceDIte]
    rw [wp_bind]
    ihave HS := (hS h1) $$ HS
    unfold Blank
    icases HS with ⟨⟨%X13, H13⟩, ⟨%X14, H14⟩, ⟨%X15, H15⟩, ⟨%X16, H16⟩, ⟨%X17, H17⟩, ⟨%X18, H18⟩, ⟨%X19, H19⟩, ⟨%X20, H20⟩, ⟨%X21, H21⟩, ⟨%X22, H22⟩⟩
    iapply (part19_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c h1 G)
    isplitl [H2 H14 H15 H18 H19 H20 H21 H22]
    · isplitl [H2]; · iexact H2
      isplitl [H14]; · iexists X14; iexact H14
      isplitl [H15]; · iexists X15; iexact H15
      isplitl [H18]; · iexists X18; iexact H18
      isplitl [H19]; · iexists X19; iexact H19
      isplitl [H20]; · iexists X20; iexact H20
      isplitl [H21]; · iexists X21; iexact H21
      iexists X22; iexact H22
    iintro %v114 ⟨H2, H14, ⟨%Y15, H15⟩, ⟨%Y18, %Y19, %Y20, %Y21, H18, H19, H20, H21, H22, %hT⟩⟩
    simp only [smemLoad, smemLoadElt, Prog.lift, Prog.bind_op, Prog.bind_ret, Prog.pure_eq_ret]
    iapply (wp_st Variants.nat (c : Thread nD τ) none Set.univ) $$ H15; iintro H15
    iapply (wp_ld Variants.nat (c : Thread nD τ) none Set.univ) $$ H16; iintro H16
    iapply (wp_st Variants.nat (c : Thread nD τ) none Set.univ) $$ H16; iintro H16
    iapply (wp_ld Variants.nat (c : Thread nD τ) none Set.univ) $$ H17; iintro H17
    iapply (wp_st Variants.nat (c : Thread nD τ) none Set.univ) $$ H17; iintro H17
    ihave H13 := (owns_open c arg13 X13) $$ H13
    icases H13 with ⟨%f13, %_, H13⟩
    ihave H3 := (owns_open c arg3 X3) $$ H3
    icases H3 with ⟨%f3, %hf3, H3⟩
    iapply (Scf.wp_for_bind frame (wpE (defs₀ (F := F)) Variants.nat (c : Thread nD τ) none) Set.univ _ _ _
      (k0_t2_ok i h1) _ _ (fun _ _ => iprop((arg3.view.loc (c : Thread nD τ) ↦[arg3.view.set]{fullShare} f3)
        ∗ (∃ f, arg13.view.loc (c : Thread nD τ) ↦[arg13.view.set]{fullShare} f)))
      (fun k _ => t2_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c h1 f3 k)) $$ [H3 H13]
    · isplitl [H3]; · iexact H3
      iexists f13; iexact H13
    iintro %_ ⟨H3, ⟨%g13, H13⟩⟩
    ihave H3 := (owns_shut c arg3 f3) $$ H3
    rw [hf3]
    ihave H13 := (owns_shut c arg13 g13) $$ H13
    rw [put_whole (s := S64x4096)]
    have hI17 := hI h1
    generalize k0_pay358 (F := F) = Y17 at hI17 ⊢
    ihave H13 := (held_intro c arg13 _) $$ H13
    ihave H14 := (held_intro c arg14 _) $$ H14
    ihave H15 := (held_intro c arg15 _) $$ H15
    ihave H16 := (held_intro c arg16 _) $$ H16
    obtain ⟨e, hx⟩ : ∃ e, e = 0 := ⟨0, rfl⟩
    have h0 : ((fun _ => 0#32) : S1.Idx → BitVec 32) = fun _ => BitVec.ofNat 32 e := by rw [hx]
    rw [h0]
    have hB : Behind G (scanLo i) e := fun x h => absurd h (by omega)
    have he : e < 64 := by omega
  on_goal 2 =>
    simp only [h1, ↓reduceDIte]
    ihave HS := (hS' h1) $$ HS
    unfold Ready
    icases HS with ⟨H13, H14, H15, H16, ⟨%Y17, H17, %hI17⟩, ⟨%Y18, %Y19, %Y20, %Y21, %e, H18, H19, H20, H21, H22, %hT⟩⟩
    obtain ⟨hT, he, hB⟩ := hT
  all_goals
    have h63 : Y21 (ix64 63 (by decide)) = pre G 64 := hT.counted.ends _ (by decide)
    iapply (wp_ld Variants.nat (c : Thread nD τ) none Set.univ) $$ H22; iintro H22
    beta_reduce
    iapply (wp_call_spec Variants.nat (c : Thread nD τ) none Set.univ (scanSpec c arg21 Y21 (scanLo i) e) (63 - e)
      (fun u hu => nomatch hu) (scan1_le c i arg21 harg21 Y21 Set.univ (by rw [h63]; exact hlo) (63 - e) e (by omega)))
    rw [scanSpec_apply]
    isplitl [H21]; · iexact H21
    iintro %r %hr H21
    obtain ⟨a, ha, hea, rfl, -, hra⟩ := hr
    have hBa : Behind G (scanLo i) a := fun x hx => by
      rcases Nat.lt_or_ge x e with h5 | h5
      · exact hB x h5
      · rw [← hra x (by omega) h5 hx]; exact congrArg (fun z => Scalar.cmpi .sle z _) (hT.counted.ends (ix64 x (by omega)) (by show x < 64; omega)).symm
    iapply (wp_assume Variants.nat (c : Thread nD τ) none Set.univ (chk3_of_lt ⟨a, ha⟩))
    iapply (wp_call_spec Variants.nat (c : Thread nD τ) none Set.univ (scanSpec c arg21 Y21 (scanHi i) a) (63 - a)
      (fun u hu => nomatch hu) (scan2_le c i arg21 harg21 Y21 Set.univ (by rw [h63]; exact hhi) (63 - a) a (by omega)))
    rw [scanSpec_apply]
    isplitl [H21]; · iexact H21
    iintro %r %hr H21
    obtain ⟨b, hb, hab, rfl, hnb, hrb⟩ := hr
    iapply (wp_assume Variants.nat (c : Thread nD τ) none Set.univ (chk4_of_le ⟨a, ha⟩ ⟨b, hb⟩ hab))
    iapply (wp_ld Variants.nat (c : Thread nD τ) none Set.univ) $$ H22; iintro H22
    iapply (wp_st Variants.nat (c : Thread nD τ) none Set.univ) $$ H22; iintro H22
    rw [put_whole (s := S1)]
    iapply (wp_ld Variants.nat (c : Thread nD τ) none Set.univ) $$ H6; iintro H6
    rw [read_whole (s := S1x512)]
    iapply (wp_ld Variants.nat (c : Thread nD τ) none Set.univ) $$ H18; iintro H18
    iapply (wp_ld Variants.nat (c : Thread nD τ) none Set.univ) $$ H19; iintro H19
    rw [wp_ret]; imodintro
    iapply HK $$ %⟨a, ha⟩ %⟨b, hb⟩ %(chk3_of_lt ⟨a, ha⟩) %(chk4_of_le ⟨a, ha⟩ ⟨b, hb⟩ hab) %Y17 %Y18 %Y19 %Y20 %Y21 %_ %_
      %(k0_off38 (BitVec.ofNat 32 a)) %(k0_off38_inb _ (chk3_of_lt ⟨a, ha⟩)) %_
    · ipureintro
      refine ⟨hab, hT, hI17, hBa, fun x hx => ?_, ?_, off38_eq ⟨a, ha⟩, rfl, rfl, rfl⟩
      · rcases Nat.lt_or_ge x a with h5 | h5
        · exact sle_of_le _ _ _ (hBa x h5) (scanLo_le i)
        · rw [← hrb x (by omega) h5 hx]
          exact congrArg (fun z => Scalar.cmpi .sle z _) (hT.counted.ends (ix64 x (by omega)) (by show x < 64; omega)).symm
      · intro h
        apply hnb
        rw [← h]
        exact congrArg (fun z => Scalar.cmpi .sle z _) (hT.counted.ends (ix64 b hb) (by show b < 64; omega))
    isplitl [H2]; · iexact H2
    isplitl [H3]; · iexact H3
    isplitl [H6]; · iexact H6
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.Kernel.Own
-- ==== Proof.KB.T5.lean ====
module

public import proofs.«01_k».proof.Proof.Gen.Kernel.Loops
public import proofs.«01_k».proof.Proof.Common.Rules

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

/-- A token index below 2048 names rows inside the word table and inside the two tables written. -/
theorem tok_ok (v : BitVec 32) (h : v.toNat < 2048) (b : BitVec 32) (hb : b.toNat ≤ 7) :
    (∀ a : Fin 2, (![(Scalar.muli v 9#32).toNat, 0] : Fin 2 → ℕ) a + S8x128.size a ≤ S18432x128.size a)
    ∧ (∀ a : Fin 2, (![(Scalar.addi v b).toNat, 0] : Fin 2 → ℕ) a + S8x128.size a ≤ S2064x128.size a) := by
  have h9 : (Scalar.muli v 9#32).toNat = v.toNat * 9 := by
    show (v * 9#32).toNat = _
    rw [BitVec.toNat_mul]; simp only [BitVec.toNat_ofNat]; omega
  have h7 : (Scalar.addi v b).toNat = v.toNat + b.toNat := by
    show (v + b).toNat = _
    rw [BitVec.toNat_add]; omega
  rw [h9, h7]
  constructor <;> intro a <;> fin_cases a
  · show v.toNat * 9 + 8 ≤ 18432; omega
  · show 0 + 128 ≤ 128; omega
  · show v.toNat + b.toNat + 8 ≤ 2064; omega
  · show 0 + 128 ≤ 128; omega

set_option sl_exec.dischHeartbeats 400000 in
/-- One trip of the token loop keeps the buffers it reads and leaves some numbers in the two tables it writes. -/
theorem t5_trip (c : Dev nD) (v3 : BitVec 32) (v73 : Vec F S1x128 .i32) (v74 : Vec F S1x128 .i32) (v75 : IVec S8x128 32)
    (v76 : IVec S8x128 32) (v77 : Vec F S256x256 .fp8e5m2)
    (X1 : BufTy.Contents (Elt F) arg1.view.ty) (hX1 : ∀ p, (arg1.view.read (Elt F) X1 p : BitVec 32).toNat < 2048) (X5 : BufTy.Contents (Elt F) arg5.view.ty)
    (X6 : BufTy.Contents (Elt F) arg6.view.ty) (X13 : BufTy.Contents (Elt F) arg13.view.ty) (k : Fin k0_t5_loop.trips) :
    (iprop((arg1.view.loc (c : Thread nD τ) ↦[arg1.view.set]{fullShare} X1)
      ∗ (arg5.view.loc (c : Thread nD τ) ↦[arg5.view.set]{fullShare} X5)
      ∗ (arg6.view.loc (c : Thread nD τ) ↦[arg6.view.set]{fullShare} X6)
      ∗ (arg13.view.loc (c : Thread nD τ) ↦[arg13.view.set]{fullShare} X13)
      ∗ (∃ f, arg15.view.loc (c : Thread nD τ) ↦[arg15.view.set]{fullShare} f)
      ∗ (∃ f, arg16.view.loc (c : Thread nD τ) ↦[arg16.view.set]{fullShare} f)) : sProp 𝕄)
    ⊢ wp frame (wpE (defs₀ (F := F)) Variants.nat (c : Thread nD τ) none) Set.univ
        (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 v73 v74 v75 v76 v77 k ())
        (fun _ => iprop((arg1.view.loc (c : Thread nD τ) ↦[arg1.view.set]{fullShare} X1)
      ∗ (arg5.view.loc (c : Thread nD τ) ↦[arg5.view.set]{fullShare} X5)
      ∗ (arg6.view.loc (c : Thread nD τ) ↦[arg6.view.set]{fullShare} X6)
      ∗ (arg13.view.loc (c : Thread nD τ) ↦[arg13.view.set]{fullShare} X13)
      ∗ (∃ f, arg15.view.loc (c : Thread nD τ) ↦[arg15.view.set]{fullShare} f)
      ∗ (∃ f, arg16.view.loc (c : Thread nD τ) ↦[arg16.view.set]{fullShare} f))) := by
  unfold k0_t5_body
  iintro ⟨H1, H5, H6, H13, ⟨%f15, H15⟩, ⟨%f16, H16⟩⟩
  sl_exec (disch := exact tok_ok _ (hX1 _) _ (by decide))
  sl_step
  sl_close

end Cert.Kernel.Own
-- ==== Proof.KB.T67.lean ====
module

public import proofs.«01_k».proof.Proof.KB.Whiles

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

/-- What the two result loops read and write: they keep what they read, and leave some numbers in the two results. -/
def Late (c : Dev nD) (X3 : BufTy.Contents (Elt F) arg3.view.ty) (X4 : BufTy.Contents (Elt F) arg4.view.ty)
    (X7 : BufTy.Contents (Elt F) arg7.view.ty) (X15 : BufTy.Contents (Elt F) arg15.view.ty) (X16 : BufTy.Contents (Elt F) arg16.view.ty) : sProp 𝕄 :=
  iprop((arg3.view.loc (c : Thread nD τ) ↦[arg3.view.set]{fullShare} X3)
    ∗ (arg4.view.loc (c : Thread nD τ) ↦[arg4.view.set]{fullShare} X4)
    ∗ (arg7.view.loc (c : Thread nD τ) ↦[arg7.view.set]{fullShare} X7)
    ∗ (arg15.view.loc (c : Thread nD τ) ↦[arg15.view.set]{fullShare} X15)
    ∗ (arg16.view.loc (c : Thread nD τ) ↦[arg16.view.set]{fullShare} X16)
    ∗ (∃ f, arg9.view.loc (c : Thread nD τ) ↦[arg9.view.set]{fullShare} f)
    ∗ (∃ f, arg11.view.loc (c : Thread nD τ) ↦[arg11.view.set]{fullShare} f))

/-- One trip of the first result loop. -/
theorem t6_trip (c : Dev nD) (h2 : k0_cond2 i = 1#1) (v105 : Vec F S64x4096 .f32) (X3 X4 X7 X15 X16) (k : Fin k0_t6_loop.trips) :
    Late arg3 arg4 arg7 arg9 arg11 arg15 arg16 c X3 X4 X7 X15 X16
    ⊢ wp frame (wpE (defs₀ (F := F)) Variants.nat (c : Thread nD τ) none) Set.univ
        (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 v105 k ())
        (fun _ => Late arg3 arg4 arg7 arg9 arg11 arg15 arg16 c X3 X4 X7 X15 X16) := by
  unfold k0_t6_body
  unfold Late
  iintro ⟨H3, H4, H7, H15, H16, ⟨%f9, H9⟩, ⟨%f11, H11⟩⟩
  sl_exec
  sl_step
  sl_close

/-- One trip of the second result loop. -/
theorem t7_trip (c : Dev nD) (h2 : k0_cond2 i = 1#1) (v105 : Vec F S64x4096 .f32) (X3 X4 X7 X15 X16) (k : Fin k0_t7_loop.trips) :
    Late arg3 arg4 arg7 arg9 arg11 arg15 arg16 c X3 X4 X7 X15 X16
    ⊢ wp frame (wpE (defs₀ (F := F)) Variants.nat (c : Thread nD τ) none) Set.univ
        (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 v105 k ())
        (fun _ => Late arg3 arg4 arg7 arg9 arg11 arg15 arg16 c X3 X4 X7 X15 X16) := by
  unfold k0_t7_body
  unfold Late
  iintro ⟨H3, H4, H7, H15, H16, ⟨%f9, H9⟩, ⟨%f11, H11⟩⟩
  sl_exec
  sl_step
  sl_close

end Cert.Kernel.Own
-- ==== Proof.KB.Body.lean ====
module

public import proofs.«01_k».proof.Proof.KB.Enter
public import proofs.«01_k».proof.Proof.KB.T5
public import proofs.«01_k».proof.Proof.KB.T67

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own

variable (i : grid0.Coords) (arg1 : Memref sig .tc .smem S16384 .i32) (harg1 : arg1.IsWhole) (arg2 : Memref sig .tc .smem S64 .i32) (harg2 : arg2.IsWhole) (arg3 : Memref sig .tc .vmem S2048x4096 .i8) (harg3 : arg3.IsWhole) (arg4 : Memref sig .tc .vmem S2x1024 .f32) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S2048x64 .f32) (harg7 : arg7.IsWhole) (arg8 : Memref sig .tc .vmem S64x4096 .f32) (harg8 : arg8.IsWhole) (arg9 : Memref sig .tc .vmem S2048x64 .f32) (harg9 : arg9.IsWhole) (arg10 : Memref sig .tc .vmem S64x4096 .f32) (harg10 : arg10.IsWhole) (arg11 : Memref sig .tc .vmem S2048x64 .f32) (harg11 : arg11.IsWhole) (arg12 : Memref sig .tc .vmem S64x4096 .f32) (harg12 : arg12.IsWhole) (arg13 : Memref sig .tc .vmem S18432x128 .i32) (harg13 : arg13.IsWhole) (arg14 : Memref sig .tc .vmem S256x256 .fp8e5m2) (harg14 : arg14.IsWhole) (arg15 : Memref sig .tc .vmem S2064x128 .f32) (harg15 : arg15.IsWhole) (arg16 : Memref sig .tc .vmem S2064x128 .i32) (harg16 : arg16.IsWhole) (arg17 : Memref sig .tc .vmem S64x4096 .f32) (harg17 : arg17.IsWhole) (arg18 : Memref sig .tc .vmem S64x128 .i32) (harg18 : arg18.IsWhole) (arg19 : Memref sig .tc .vmem S64x128 .i32) (harg19 : arg19.IsWhole) (arg20 : Memref sig .tc .vmem S8x128 .i32) (harg20 : arg20.IsWhole) (arg21 : Memref sig .tc .smem S64 .i32) (harg21 : arg21.IsWhole) (arg22 : Memref sig .tc .smem S1 .i32) (harg22 : arg22.IsWhole)

/-- A later first row keeps what is known of the scratch buffers. -/
theorem ready_mono (c : Dev nD) (G : S64.Idx → BitVec 32) (w w' : BitVec 32) (I : (S64x4096.Idx → Elt F .f32) → Prop)
    (h : w.toInt ≤ w'.toInt) :
    Ready arg13 arg14 arg15 arg16 arg17 arg18 arg19 arg20 arg21 arg22 c G w I
      ⊢ Ready arg13 arg14 arg15 arg16 arg17 arg18 arg19 arg20 arg21 arg22 c G w' I := by
  unfold Ready
  iintro ⟨H13, H14, H15, H16, H17, ⟨%X18, %X19, %X20, %X21, %e, H18, H19, H20, H21, H22, %hT⟩⟩
  isplitl [H13]; · iexact H13
  isplitl [H14]; · iexact H14
  isplitl [H15]; · iexact H15
  isplitl [H16]; · iexact H16
  isplitl [H17]; · iexact H17
  iexists X18, X19, X20, X21, e
  isplitl [H18]; · iexact H18
  isplitl [H19]; · iexact H19
  isplitl [H20]; · iexact H20
  isplitl [H21]; · iexact H21
  isplitl [H22]; · iexact H22
  ipureintro
  exact ⟨hT.1, hT.2.1, fun x hx => sle_of_le _ _ _ (hT.2.2 x hx) h⟩

/-- What the last grid point leaves in the results of the sums. -/
def Last (G : S64.Idx → BitVec 32) (I : (S64x4096.Idx → Elt F .f32) → Prop) (X8 X10 X12 : S64x4096.Idx → Elt F .f32) : Prop :=
  ∃ X17 X18 X19 X20 X21, Tables G X18 X19 X20 X21 ∧ I X17 ∧ X12 = k0_pay4 (F := F) X19 X18 X17 ∧ X10 = k0_pay5 (F := F) X19 X18 X17 X8

set_option maxHeartbeats 2000000 in
/-- One grid point of the kernel. -/
theorem body_run (c : Dev nD) (G : S64.Idx → BitVec 32) (I I' : (S64x4096.Idx → Elt F .f32) → Prop) (S : sProp 𝕄)
    (hS : k0_cond1 i = 1#1 → S ⊢ Blank arg13 arg14 arg15 arg16 arg17 arg18 arg19 arg20 arg21 arg22 c)
    (hS' : k0_cond1 i ≠ 1#1 → S ⊢ Ready arg13 arg14 arg15 arg16 arg17 arg18 arg19 arg20 arg21 arg22 c G (scanLo i) I)
    (hI : k0_cond1 i = 1#1 → I (k0_pay358 (F := F)))
    (hlo : Scalar.cmpi .sle (pre G 64) (scanLo i) ≠ 1#1) (hhi : Scalar.cmpi .sle (pre G 64) (scanHi i) ≠ 1#1)
    (X1 : S16384.Idx → BitVec 32) (hX1 : ∀ p, (X1 p).toNat < 2048)
    (X3 : S2048x4096.Idx → Elt F .i8) (X4 : S2x1024.Idx → Elt F .f32) (X5 : S512x4096.Idx → Elt F .fp8e4m3) (X6 : S1x512.Idx → Elt F .f32)
    (X7 : S2048x64.Idx → Elt F .f32) (X8 : S64x4096.Idx → Elt F .f32)
    (hstep : ∀ (a b : Fin 64) X17 X18 X19 X20 X21, a.val ≤ b.val → Tables G X18 X19 X20 X21 → I X17 → Behind G (scanLo i) a.val →
      Behind G (scanHi i) b.val → Scalar.cmpi .sle (pre G (b.val + 1)) (scanHi i) ≠ 1#1 →
      I' (tiles i X5 X6 X18 X19 (a.val / 8) X17 (b.val / 8 - a.val / 8 + 1))) :
    (iprop(S ∗ owns (c : Thread nD τ) arg1 fullShare (X1 : S16384.Idx → Elt F .i32)
        ∗ owns (c : Thread nD τ) arg2 fullShare (G : S64.Idx → Elt F .i32) ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare X7 ∗ owns (c : Thread nD τ) arg8 fullShare X8
        ∗ held (F := F) c arg9 ∗ held (F := F) c arg10 ∗ held (F := F) c arg11 ∗ held (F := F) c arg12) : sProp 𝕄)
    ⊢ wp frame (wpE (defs₀ (F := F)) Variants.nat (c : Thread nD τ) none) Set.univ
        (cc0_moe_router_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(Ready arg13 arg14 arg15 arg16 arg17 arg18 arg19 arg20 arg21 arg22 c G (scanHi i) I'
        ∗ owns (c : Thread nD τ) arg1 fullShare (X1 : S16384.Idx → Elt F .i32)
        ∗ owns (c : Thread nD τ) arg2 fullShare (G : S64.Idx → Elt F .i32) ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare X7 ∗ owns (c : Thread nD τ) arg8 fullShare X8
        ∗ held (F := F) c arg9 ∗ held (F := F) c arg11
        ∗ (∃ X10 X12, owns (c : Thread nD τ) arg10 fullShare X10 ∗ owns (c : Thread nD τ) arg12 fullShare X12
          ∗ ⌜k0_cond2 i = 1#1 → Last G I' X8 X10 X12⌝))) := by
  rw [cc0_moe_router_bwd_eq_skeleton]
  unfold cc0_moe_router_bwd_skel
  simp only [Prog.lift, Prog.bind_op, Prog.bind_ret, Prog.pure_eq_ret]
  iintro ⟨HS, H1, H2, H3, H4, H5, H6, H7, H8, H9, ⟨%X10, H10⟩, H11, ⟨%X12, H12⟩⟩
  rw [wp_bind]
  iapply (part60_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c G I S hS hS' hI hlo hhi X3 X6)
  isplitl [HS H2 H3 H6]
  · isplitl [HS]; · iexact HS
    isplitl [H2]; · iexact H2
    isplitl [H3]; · iexact H3
    iexact H6
  iintro %a %b %h3 %h4 %X17 %X18 %X19 %X20 %X21 %A %B %o' %inb' %r %hh ⟨H2, H3, H6, ⟨%X13, H13⟩, H14, ⟨%X15, H15⟩, ⟨%X16, H16⟩, H17, H18, H19, H20, H21, H22⟩
  obtain ⟨hab, hT, hI17, hBa, hBb, hnb, ho', hA, hB, rfl⟩ := hh
  dsimp only
  rw [wp_bind]
  iapply (part61_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c a b hab h3 h4 _ _ _ X5 X6 X18 X19 X20 X17 A B o' ho' inb' hA hB)
  isplitl [H5 H18 H19 H20 H17]
  · isplitl [H5]; · iexact H5
    isplitl [H18]; · iexact H18
    isplitl [H19]; · iexact H19
    isplitl [H20]; · iexact H20
    iexact H17
  iintro %r %hr ⟨H5, H18, H19, H20, H17⟩
  subst hr
  dsimp only
  icases H14 with ⟨%X14, H14⟩
  iapply (wp_ld Variants.nat (c : Thread nD τ) none Set.univ) $$ H14; iintro H14
  ihave H1 := (owns_open c arg1 X1) $$ H1
  icases H1 with ⟨%f1, %hf1, H1⟩
  ihave H5 := (owns_open c arg5 X5) $$ H5
  icases H5 with ⟨%f5, %hf5, H5⟩
  ihave H6 := (owns_open c arg6 X6) $$ H6
  icases H6 with ⟨%f6, %hf6, H6⟩
  ihave H13 := (owns_open c arg13 X13) $$ H13
  icases H13 with ⟨%f13, %_, H13⟩
  ihave H15 := (owns_open c arg15 X15) $$ H15
  icases H15 with ⟨%f15, %_, H15⟩
  ihave H16 := (owns_open c arg16 X16) $$ H16
  icases H16 with ⟨%f16, %_, H16⟩
  iapply (Scf.wp_for_bind frame (wpE (defs₀ (F := F)) Variants.nat (c : Thread nD τ) none) Set.univ _ _ _
    k0_t5_ok _ _ (fun _ _ => iprop((arg1.view.loc (c : Thread nD τ) ↦[arg1.view.set]{fullShare} f1)
      ∗ (arg5.view.loc (c : Thread nD τ) ↦[arg5.view.set]{fullShare} f5)
      ∗ (arg6.view.loc (c : Thread nD τ) ↦[arg6.view.set]{fullShare} f6)
      ∗ (arg13.view.loc (c : Thread nD τ) ↦[arg13.view.set]{fullShare} f13)
      ∗ (∃ f, arg15.view.loc (c : Thread nD τ) ↦[arg15.view.set]{fullShare} f)
      ∗ (∃ f, arg16.view.loc (c : Thread nD τ) ↦[arg16.view.set]{fullShare} f)))
    (fun k _ => t5_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c _ _ _ _ _ _ f1 (fun p => by rw [hf1]; exact hX1 p) f5 f6 f13 k)) $$ [H1 H5 H6 H13 H15 H16]
  · isplitl [H1]; · iexact H1
    isplitl [H5]; · iexact H5
    isplitl [H6]; · iexact H6
    isplitl [H13]; · iexact H13
    isplitl [H15]; · iexists f15; iexact H15
    iexists f16; iexact H16
  iintro %_ ⟨H1, H5, H6, H13, ⟨%g15, H15⟩, ⟨%g16, H16⟩⟩
  ihave H1 := (owns_shut c arg1 f1) $$ H1
  ihave H5 := (owns_shut c arg5 f5) $$ H5
  ihave H6 := (owns_shut c arg6 f6) $$ H6
  ihave H13 := (owns_shut c arg13 f13) $$ H13
  rw [hf1, hf5, hf6]
  ihave H13 := (held_intro c arg13 _) $$ H13
  ihave H14 := (held_intro c arg14 _) $$ H14
  have hI' := hstep a b X17 X18 X19 X20 X21 hab hT hI17 hBa hBb hnb
  by_cases h2 : k0_cond2 i = 1#1
  on_goal 1 =>
    simp only [h2, ↓reduceDIte]
    iapply (wp_ld Variants.nat (c : Thread nD τ) none Set.univ) $$ H19; iintro H19
    iapply (wp_ld Variants.nat (c : Thread nD τ) none Set.univ) $$ H18; iintro H18
    iapply (wp_ld Variants.nat (c : Thread nD τ) none Set.univ) $$ H17; iintro H17
    iapply (wp_ld Variants.nat (c : Thread nD τ) none Set.univ) $$ H12; iintro H12
    iapply (wp_st Variants.nat (c : Thread nD τ) none Set.univ) $$ H12; iintro H12
    iapply (wp_ld Variants.nat (c : Thread nD τ) none Set.univ) $$ H8; iintro H8
    iapply (wp_ld Variants.nat (c : Thread nD τ) none Set.univ) $$ H10; iintro H10
    iapply (wp_st Variants.nat (c : Thread nD τ) none Set.univ) $$ H10; iintro H10
    iapply (wp_ld Variants.nat (c : Thread nD τ) none Set.univ) $$ H10; iintro H10
    rw [read_whole (s := S64x128), read_whole (s := S64x128), read_whole (s := S64x4096), read_whole (s := S64x4096),
      put_whole (s := S64x4096), put_whole (s := S64x4096)]
    ihave H3 := (owns_open c arg3 X3) $$ H3
    icases H3 with ⟨%f3, %hf3, H3⟩
    ihave H4 := (owns_open c arg4 X4) $$ H4
    icases H4 with ⟨%f4, %hf4, H4⟩
    ihave H7 := (owns_open c arg7 X7) $$ H7
    icases H7 with ⟨%f7, %hf7, H7⟩
    icases H9 with ⟨%X9, H9⟩
    ihave H9 := (owns_open c arg9 X9) $$ H9
    icases H9 with ⟨%f9, %_, H9⟩
    icases H11 with ⟨%X11, H11⟩
    ihave H11 := (owns_open c arg11 X11) $$ H11
    icases H11 with ⟨%f11, %_, H11⟩
    iapply (Scf.wp_for_bind frame (wpE (defs₀ (F := F)) Variants.nat (c : Thread nD τ) none) Set.univ _ _ _
      (k0_t6_ok i h2) _ _ (fun _ _ => Late arg3 arg4 arg7 arg9 arg11 arg15 arg16 c f3 f4 f7 g15 g16)
      (fun k _ => t6_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c h2 _ f3 f4 f7 g15 g16 k)) $$ [H3 H4 H7 H9 H11 H15 H16]
    · unfold Late
      isplitl [H3]; · iexact H3
      isplitl [H4]; · iexact H4
      isplitl [H7]; · iexact H7
      isplitl [H15]; · iexact H15
      isplitl [H16]; · iexact H16
      isplitl [H9]; · iexists f9; iexact H9
      iexists f11; iexact H11
    iintro %_ HL
    iapply (Scf.wp_for_bind frame (wpE (defs₀ (F := F)) Variants.nat (c : Thread nD τ) none) Set.univ _ _ _
      (k0_t7_ok i h2) _ _ (fun _ _ => Late arg3 arg4 arg7 arg9 arg11 arg15 arg16 c f3 f4 f7 g15 g16)
      (fun k _ => t7_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c h2 _ f3 f4 f7 g15 g16 k)) $$ [HL]
    · iexact HL
    iintro %_ HL
    unfold Late
    icases HL with ⟨H3, H4, H7, H15, H16, ⟨%g9, H9⟩, ⟨%g11, H11⟩⟩
    ihave H3 := (owns_shut c arg3 f3) $$ H3
    ihave H4 := (owns_shut c arg4 f4) $$ H4
    ihave H7 := (owns_shut c arg7 f7) $$ H7
    ihave H9 := (owns_shut c arg9 g9) $$ H9
    ihave H9 := (held_intro c arg9 _) $$ H9
    ihave H11 := (owns_shut c arg11 g11) $$ H11
    ihave H11 := (held_intro c arg11 _) $$ H11
    rw [hf3, hf4, hf7]
    have hL : k0_cond2 i = 1#1 → Last G I' X8 (k0_pay5 (F := F) X19 X18 (tiles i X5 X6 X18 X19 (a.val / 8) X17 (b.val / 8 - a.val / 8 + 1)) X8)
        (k0_pay4 (F := F) X19 X18 (tiles i X5 X6 X18 X19 (a.val / 8) X17 (b.val / 8 - a.val / 8 + 1))) :=
      fun _ => ⟨_, X18, X19, X20, X21, hT, hI', rfl, rfl⟩
    generalize k0_pay5 (F := F) X19 X18 (tiles i X5 X6 X18 X19 (a.val / 8) X17 (b.val / 8 - a.val / 8 + 1)) X8 = Y10 at hL ⊢
    generalize k0_pay4 (F := F) X19 X18 (tiles i X5 X6 X18 X19 (a.val / 8) X17 (b.val / 8 - a.val / 8 + 1)) = Y12 at hL ⊢
  on_goal 2 =>
    simp only [h2, ↓reduceDIte]
    have hL : k0_cond2 i = 1#1 → Last G I' X8 X10 X12 := fun h => absurd h h2
    obtain ⟨Y10, hY10⟩ : ∃ Y, Y = X10 := ⟨_, rfl⟩
    obtain ⟨Y12, hY12⟩ : ∃ Y, Y = X12 := ⟨_, rfl⟩
    rw [← hY10, ← hY12] at hL ⊢
  all_goals
    ihave H15 := (owns_shut c arg15 g15) $$ H15
    ihave H15 := (held_intro c arg15 _) $$ H15
    ihave H16 := (owns_shut c arg16 g16) $$ H16
    ihave H16 := (held_intro c arg16 _) $$ H16
    rw [wp_ret]; imodintro
    unfold Ready
    isplitl [H13 H14 H15 H16 H17 H18 H19 H20 H21 H22]
    · isplitl [H13]; · iexact H13
      isplitl [H14]; · iexact H14
      isplitl [H15]; · iexact H15
      isplitl [H16]; · iexact H16
      isplitl [H17]
      · iexists _
        isplitl [H17]; · iexact H17
        ipureintro; exact hI'
      iexists X18, X19, X20, X21, b.val
      isplitl [H18]; · iexact H18
      isplitl [H19]; · iexact H19
      isplitl [H20]; · iexact H20
      isplitl [H21]; · iexact H21
      isplitl [H22]; · iexact H22
      ipureintro
      exact ⟨hT, b.isLt, hBb⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]; · iexact H11
    iexists Y10, Y12
    isplitl [H10]; · iexact H10
    isplitl [H12]; · iexact H12
    ipureintro; first | exact fun _ => hL h2 | exact fun h => h.elim

end Cert.Kernel.Own
-- ==== Proof.KB.Kit.lean ====
module

public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)

/-- Core `c`'s buffers when the pipeline is entered: after the host's reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host's reshapes, then the pipeline. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no reshape writes is found as launched. -/
theorem V_keep (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))

/-- Window `w`'s block at point `t`, read off its array as the pipeline finds it. -/
abbrev iblk (c : Dev nD) (w : Fin (cfg0 (F := F)).W) (t : Fin (cfg0 (F := F)).N) :=
  (((cfg0 (F := F)).win w).blk t).view.read (Elt F) (V m c (Pipeline.arrRef spec0 w))

end Cert.Kernel.Own
-- ==== Proof.KB.Run.lean ====
module

public import proofs.«01_k».proof.Proof.KB.Body
public import proofs.«01_k».proof.Proof.KB.Kit
public import Idealize.ShloMosaic.Lib.StableHlo.RunHlo

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Cert.Own
open Idealize.ShloMosaic.Pipeline (RDat)

variable (m : (ℓ : Loc nD τ sig) → Buf (Elt F) ℓ) (ρ : Dev nD → PrngReg)

/-- The scratch buffers before the first point. -/
abbrev Bl (c : Dev nD) : sProp 𝕄 :=
  Blank (F := F) (Memref.whole cc0_scratch0) (Memref.whole cc0_scratch1) (Memref.whole cc0_scratch2) (Memref.whole cc0_scratch3)
    (Memref.whole cc0_scratch4) (Memref.whole cc0_scratch5) (Memref.whole cc0_scratch6) (Memref.whole cc0_scratch7)
    (Memref.whole cc0_scratch8) (Memref.whole cc0_scratch9) c

/-- The scratch buffers between points. -/
abbrev Rd (c : Dev nD) (G : S64.Idx → BitVec 32) (w : BitVec 32) (I : (S64x4096.Idx → Elt F .f32) → Prop) : sProp 𝕄 :=
  Ready (F := F) (Memref.whole cc0_scratch0) (Memref.whole cc0_scratch1) (Memref.whole cc0_scratch2) (Memref.whole cc0_scratch3)
    (Memref.whole cc0_scratch4) (Memref.whole cc0_scratch5) (Memref.whole cc0_scratch6) (Memref.whole cc0_scratch7)
    (Memref.whole cc0_scratch8) (Memref.whole cc0_scratch9) c G w I

theorem held_whole (c : Dev nD) (b : Ref sig .tc) :
    (held (F := F) c (Memref.whole b) : sProp 𝕄) = iprop(∃ f : Buf (Elt F) ((c : Thread nD τ).loc b), ((c : Thread nD τ).loc b) ↦{fullShare} f) := by
  unfold held
  simp only [owns_whole]

theorem blank_eq (c : Dev nD) :
    (Pipeline.scopedRest (Ix := Unit) (Name := ℕ) (U := UR sig nD τ) (Lvl := ℕ) (Val := Elt F) spec0 c : sProp 𝕄) = Bl c := by
  rw [scopedRest0_eq]
  unfold Bl Blank held
  simp only [owns_whole]
  rfl

theorem cond1_iff : ∀ t : Fin grid0.N, (k0_cond1 (grid0.coords t) = 1#1 ↔ t.val = 0) := by decide +kernel
theorem cond2_iff : ∀ t : Fin grid0.N, (k0_cond2 (grid0.coords t) = 1#1 ↔ t.val = 31) := by decide +kernel
theorem lo_eq : ∀ t : Fin grid0.N, scanLo (grid0.coords t) = BitVec.ofNat 32 (512 * t.val) := by decide +kernel
theorem hi_le : ∀ t : Fin grid0.N, (scanHi (grid0.coords t)).toInt ≤ (BitVec.ofNat 32 (512 * (t.val + 1))).toInt := by decide +kernel
theorem lo_lt : ∀ t : Fin grid0.N, (scanLo (grid0.coords t)).toInt < 16384 := by decide +kernel
theorem hi_lt : ∀ t : Fin grid0.N, (scanHi (grid0.coords t)).toInt < 16384 := by decide +kernel

/-- The group sizes and the tokens as launched. -/
abbrev groups (c : Dev nD) : S64.Idx → BitVec 32 := m ((c : Thread nD τ).loc main_arg6)
abbrev tokens (c : Dev nD) : S16384.Idx → BitVec 32 := m ((c : Thread nD τ).loc main_arg5)

section Inv

variable (I : Dev nD → ℕ → (S64x4096.Idx → Elt F .f32) → Prop)
  (P : Dev nD → (w : Fin (cfg0 (F := F)).W) → (((cfg0 (F := F)).win w).block.Idx → Elt F ((cfg0 (F := F)).win w).elt) → Prop)

/-- What the scratch holds before point `t`. -/
def phi (c : Dev nD) (t : ℕ) : sProp 𝕄 :=
  iprop((if t = 0 then Bl (F := F) c else Rd c (groups m c) (BitVec.ofNat 32 (512 * t)) (I c t)) ∗ ∃ r, prngReg c r)

/-- The relational proof data: inputs stay as found, at the last point the outputs satisfy `P`. -/
def rdat (c : Dev nD) : RDat τ (Elt F) Unit ℕ (UR sig nD τ) ℕ (cfg0 (F := F)) c where
  A w := V m c (Pipeline.arrRef spec0 w)
  after w t Y X := if ((cfg0 (F := F)).win w).isOut then (t.val = 31 → P c w X) else X = Y
  Φ t := phi m I c t.val
  q _ := fullShare
  owed _ := 0

theorem rdat_A (c : Dev nD) (w) : (rdat m I P c).A w = V m c (Pipeline.arrRef spec0 w) := by dsimp only [rdat]

/-- An input's buffer holds its block at every point. -/
theorem finds_in (c : Dev nD) (w : Fin (cfg0 (F := F)).W) (hw : ((cfg0 (F := F)).win w).isOut = false)
    (hclip : ∀ t t' : Fin (cfg0 (F := F)).N, ((cfg0 (F := F)).win w).index t = ((cfg0 (F := F)).win w).index t' →
      ((cfg0 (F := F)).win w).clip ((cfg0 (F := F)).grid.coords t) = ((cfg0 (F := F)).win w).clip ((cfg0 (F := F)).grid.coords t'))
    (t Y) (h : (rdat m I P c).Finds w t Y) : ∃ d, Y = (rdat m I P c).fetched w t d :=
  (rdat m I P c).finds_in_eq_fetched w hw hclip
    (fun t Y X h => by
      have h' : if ((cfg0 (F := F)).win w).isOut then (t.val = 31 → P c w X) else X = Y := h
      rw [hw] at h'; exact h') t Y h

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- The group sizes' block is the whole array at every point. -/
theorem iblk1 (c : Dev nD) (t) : iblk m c 1 t = groups m c := by
  have h : V m c main_arg6 = m ((c : Thread nD τ).loc main_arg6) := V_keep m c main_arg6 (by decide) (by decide) (by decide)
  funext p
  show V m c main_arg6 _ = _
  rw [h]
  congr 1
  funext a
  apply Fin.ext
  match a with
  | ⟨0, _⟩ => show 0 * 64 + 1 * (p ⟨0, Nat.zero_lt_one⟩).val = _; rw [Nat.zero_mul, Nat.one_mul, Nat.zero_add]; rfl

/-- The tokens' block is the whole array at every point. -/
theorem iblk0 (c : Dev nD) (t) : iblk m c 0 t = tokens m c := by
  have h : V m c main_arg5 = m ((c : Thread nD τ).loc main_arg5) := V_keep m c main_arg5 (by decide) (by decide) (by decide)
  funext p
  show V m c main_arg5 _ = _
  rw [h]
  congr 1
  funext a
  apply Fin.ext
  match a with
  | ⟨0, _⟩ => show 0 * 16384 + 1 * (p ⟨0, Nat.zero_lt_one⟩).val = _; rw [Nat.zero_mul, Nat.one_mul, Nat.zero_add]; rfl

/-- What the proof data ask of the groups, the tokens, the invariant and the outputs. -/
structure Sound (c : Dev nD) : Prop where
  total : (pre (groups m c) 64).toInt = 16384
  toks : ∀ p, (tokens m c p).toNat < 2048
  first : I c 0 (k0_pay358 (F := F))
  step : ∀ (t : Fin (cfg0 (F := F)).N) (a b : Fin 64) X17 X18 X19 X20 X21, a.val ≤ b.val → Tables (groups m c) X18 X19 X20 X21 → I c t.val X17 →
    Behind (groups m c) (scanLo (grid0.coords t)) a.val → Behind (groups m c) (scanHi (grid0.coords t)) b.val →
    Scalar.cmpi .sle (pre (groups m c) (b.val + 1)) (scanHi (grid0.coords t)) ≠ 1#1 →
    I c (t.val + 1) (tiles (grid0.coords t) (iblk m c 4 t) (iblk m c 5 t) X18 X19 (a.val / 8) X17 (b.val / 8 - a.val / 8 + 1))
  out8 : ∀ X, P c 8 X
  out9 : ∀ (t : Fin (cfg0 (F := F)).N) X10 X12, t.val = 31 → Last (groups m c) (I c (t.val + 1)) (iblk m c 7 t) X10 X12 → P c 9 X10 ∧ P c 11 X12
  out10 : ∀ X, P c 10 X

theorem body_obligation (c : Dev nD) (hs : Sound m I P c) :
    (rdat m I P c).BodyObligation (defs₀ (F := F)) Variants.nat () Set.univ := fun t Y hY => by
  have h0 : Y 0 = iblk m c 0 t := (finds_in m I P c 0 rfl (fun _ _ _ => rfl) t _ (hY 0)).elim fun d h => h
  have h1 : Y 1 = iblk m c 1 t := (finds_in m I P c 1 rfl (fun _ _ _ => rfl) t _ (hY 1)).elim fun d h => h
  have h4 : Y 4 = iblk m c 4 t := (finds_in m I P c 4 rfl (fun _ _ _ => rfl) t _ (hY 4)).elim fun d h => h
  have h5 : Y 5 = iblk m c 5 t := (finds_in m I P c 5 rfl (fun _ _ _ => rfl) t _ (hY 5)).elim fun d h => h
  have h7 : Y 7 = iblk m c 7 t := (finds_in m I P c 7 rfl (fun _ _ _ => rfl) t _ (hY 7)).elim fun d h => h
  have h1' : Y 1 = groups m c := h1.trans (iblk1 m c t)
  have ht0 : ∀ p, ((Y 0 : S16384.Idx → BitVec 32) p).toNat < 2048 := by
    intro p; rw [h0, iblk0 m c t]; exact hs.toks p
  have e1 := cond1_iff t
  have e2 := cond2_iff t
  have e3 := lo_lt t
  have e4 := hi_lt t
  have hle : ∀ w : BitVec 32, w.toInt < 16384 → Scalar.cmpi .sle (pre (groups m c) 64) w ≠ 1#1 := by
    intro w hw h
    rw [sle_iff, hs.total] at h
    omega
  have hb := body_run (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) (win0_11.stage ((cfg0 (F := F)).slots t 11)) (hstage0_11 (((cfg0 (F := F)).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) c (groups m c) (I c t.val) (I c (t.val + 1)) (if t.val = 0 then Bl (F := F) c else Rd c (groups m c) (BitVec.ofNat 32 (512 * t.val)) (I c t.val))
    (fun h => by rw [if_pos (e1.mp h)]) (fun h => by rw [if_neg (fun h' => h (e1.mpr h')), lo_eq t])
    (fun h => by rw [e1.mp h]; exact hs.first) (hle _ e3) (hle _ e4) (Y 0) ht0 (Y 2) (Y 3) (Y 4) (Y 5) (Y 6) (Y 7)
    (fun a b X17 X18 X19 X20 X21 h1 h2 h3 h4' h5' h6 => by rw [h4, h5]; exact hs.step t a b X17 X18 X19 X20 X21 h1 h2 h3 h4' h5' h6)
  rw [bigSep_W0, bigSep_W0, defs₀_row, show Y 1 = groups m c from h1',
    show (rdat m I P c).Φ t.castSucc = phi m I c t.val from rfl, show (rdat m I P c).Φ t.succ = phi m I c (t.val + 1) from rfl,
    show (rdat m I P c).owesAt () t.succ = (rdat m I P c).owesAt () t.castSucc from rfl]
  unfold phi
  iintro ⟨⟨HS, Hg⟩, HO, H0, H1, H2, H3, H4, H5, H6, H7, H8, H9, H10, H11⟩
  iapply (wp_wand_r Idealize.ShloMosaic.frame (wpE (defs₀ (F := F)) Variants.nat (c : Thread nD τ) none) Set.univ)
  isplitl [HS H0 H1 H2 H3 H4 H5 H6 H7 H8 H9 H10 H11]
  · iapply hb
    isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iexists _; iexact H11
  iintro %u ⟨HS, H0, H1, H2, H3, H4, H5, H6, H7, ⟨%X8, H8⟩, ⟨%X10, H10⟩, ⟨%X9, %X11, H9, H11, %hL⟩⟩
  isplitl [HS Hg]
  · isplitl [HS]
    · rw [if_neg (by omega)]
      iapply (ready_mono _ _ _ _ _ _ _ _ _ _ c (groups m c) _ _ _ (hi_le t)) $$ HS
    iexact Hg
  isplitl [HO]; · iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  isplitl [H8]; · iexists _; isplitr; swap; (· iexact H8); ipureintro; exact fun _ => hs.out8 _
  isplitl [H9]; · iexists _; isplitr; swap; (· iexact H9); ipureintro; exact fun h => (hs.out9 t _ _ h (h7 ▸ hL (e2.mpr h))).1
  isplitl [H10]; · iexists _; isplitr; swap; (· iexact H10); ipureintro; exact fun _ => hs.out10 _
  iexists _; isplitr; swap; (· iexact H11); ipureintro; exact fun h => (hs.out9 t _ _ h (h7 ▸ hL (e2.mpr h))).2

theorem phi_in (c : Dev nD) : (Pipeline.ΦA (U := UR sig nD τ) (Val := Elt F) spec0 c : sProp 𝕄) ⊢ phi m I c 0 := by
  unfold phi Pipeline.ΦA
  rw [blank_eq, if_pos rfl]

theorem ready_blank (c : Dev nD) (w J) : Rd (F := F) c (groups m c) w J ⊢ (Bl c : sProp 𝕄) := by
  unfold Rd Bl Ready Blank
  iintro ⟨H13, H14, H15, H16, ⟨%X17, H17, -⟩, ⟨%X18, %X19, %X20, %X21, %e, H18, H19, H20, H21, H22, -⟩⟩
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  iexists _; iexact H22

theorem phi_out (c : Dev nD) : phi m I c 32 ⊢ (Pipeline.ΦA (U := UR sig nD τ) (Val := Elt F) spec0 c : sProp 𝕄) := by
  unfold phi Pipeline.ΦA
  rw [blank_eq, if_neg (by decide)]
  iintro ⟨HS, Hg⟩
  isplitl [HS]
  · iapply (ready_blank m c _ _) $$ HS
  iexact Hg

set_option backward.isDefEq.respectTransparency.types false in
/-- The launch: every execution ends with the windowed arrays as the proof data say, the other arrays as found, and every
    counter at zero. -/
theorem run_main (hs : ∀ c, Sound m I P c) :
    θ_run (defs (F := F)) (onTc (τ := τ) (main (F := F))) ⟨m, fun _ => 0, ρ⟩
      (fun r => RDat.FramePost (cfgs 0) (rdat m I P) (V m) r ∧ r.2.sem = fun _ => 0) :=
  RDat.θ_run_frame_track (Q' := _) cfgs (0 : Fin 1) launch0 defs₀ Variants.nat (rdat m I P) m ρ main
    (hbody := fun c => body_obligation m I P c (hs c)) (hshare := fun c => (rdat m I P c).share_full fun _ => rfl)
    (howed := fun _ _ => rfl) (V := V m) (hmain := hmain m Variants.nat) (hA := rdat_A m I P)
    (hin := phi_in m I) (hout := phi_out m I) (hQ' := fun _ h => h)

variable {m I P} in
/-- The arguments after the run. -/
theorem final_args {r : PUnit × MemSt nD τ sig (Elt F)} (h : RDat.FramePost (cfgs 0) (rdat m I P) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) := by
  have k := fun b h0 h1 h2 => V_keep m c b h0 h1 h2
  refine ⟨?_, ?_, ?_, ?_, ?_, ?_, ?_, ?_⟩
  · exact ((h c).2 main_arg0 (Pipeline.mem_restRefs_of (win := spec0) main_arg0 (by decide) (by decide))).trans (k _ (by decide) (by decide) (by decide))
  · exact ((h c).2 main_arg1 (Pipeline.mem_restRefs_of (win := spec0) main_arg1 (by decide) (by decide))).trans (k _ (by decide) (by decide) (by decide))
  · exact (h.arr_in c 3 rfl).trans ((rdat_A m I P c 3).trans (k main_arg2 (by decide) (by decide) (by decide)))
  · exact (h.arr_in c 4 rfl).trans ((rdat_A m I P c 4).trans (k main_arg3 (by decide) (by decide) (by decide)))
  · exact ((h c).2 main_arg4 (Pipeline.mem_restRefs_of (win := spec0) main_arg4 (by decide) (by decide))).trans (k _ (by decide) (by decide) (by decide))
  · exact (h.arr_in c 0 rfl).trans ((rdat_A m I P c 0).trans (k main_arg5 (by decide) (by decide) (by decide)))
  · exact (h.arr_in c 1 rfl).trans ((rdat_A m I P c 1).trans (k main_arg6 (by decide) (by decide) (by decide)))
  · exact (h.arr_in c 7 rfl).trans ((rdat_A m I P c 7).trans (k main_arg7 (by decide) (by decide) (by decide)))

end Inv

/-- Nothing said of the outputs: the run keeps its arguments, at any well formed routing. -/
theorem run_frame (hG : ∀ c, (pre (groups m c) 64).toInt = 16384) (hT : ∀ c p, (tokens m c p).toNat < 2048) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) ∧ r.2.sem = fun _ => 0) :=
  θ_run_mono (run_main m ρ (fun _ _ _ => True) (fun _ _ _ => True) fun c =>
    ⟨hG c, hT c, trivial, fun _ _ _ _ _ _ _ _ _ _ _ _ _ _ => trivial, fun _ => trivial, fun _ _ _ _ _ => ⟨trivial, trivial⟩, fun _ => trivial⟩)
    fun _ h => ⟨final_args h.1, h.2⟩

end Cert.Kernel.Own
-- ==== Proof.KB.Route.lean ====
module

public import proofs.«01_k».proof.Proof.KB.Prefix
public import proofs.«01_k».proof.Pre_routed
public import Idealize.ShloMosaic.PureOps.Reduce
public import Mathlib.Data.BitVec

@[expose] public section

noncomputable section

namespace Cert.Kernel.Own

open Cert.Kernel
open Idealize.ShloMosaic

/-- A routing the kernel can follow: every row's token is a token, and the groups' sizes are counts that add up to the
    number of rows. -/
structure Routed (T : S16384.Idx → BitVec 32) (G : S64.Idx → BitVec 32) : Prop where
  tok : ∀ p, (T p).toNat < 2048
  size : ∀ e, (G e).toNat ≤ 16384
  total : pre G 64 = 16384#32

/-- The running count is the sum of the groups before. -/
theorem pre_sum (G : S64.Idx → BitVec 32) : ∀ n (h : n ≤ 64), pre G n = ∑ e : Fin n, G (ix64 e.val (by omega))
  | 0, _ => rfl
  | n + 1, h => by
    rw [pre_succ G n (by omega), pre_sum G n (by omega), Fin.sum_univ_castSucc]
    rfl

theorem fold_addi {ι : Type} [DecidableEq ι] (s : Finset ι) (f : ι → BitVec 32) : s.fold IntOp.addi 0#32 f = ∑ i ∈ s, f i := by
  induction s using Finset.induction_on with
  | empty => rfl
  | insert a s h ih => rw [Finset.fold_insert h, Finset.sum_insert h, ih]; rfl

/-- The experts as indices of the groups. -/
def ixEquiv : Fin 64 ≃ S64.Idx where
  toFun e := ix64 e.val e.isLt
  invFun i := i 0
  left_inv e := rfl
  right_inv i := by
    funext a
    obtain rfl : a = 0 := Subsingleton.elim _ _
    rfl

/-- The host's sum of the group sizes is the running count after the last. -/
theorem total_eq (G : S64.Idx → BitVec 32) (h : S64.ReducesTo [0] Cert.Pre_routed.S_) (hu : 0 < Cert.Pre_routed.S_.numel) (j) :
    Host.reduce IntOp.addi G (constantI Cert.Pre_routed.S_ 32 0#32) h hu j = pre G 64 := by
  rw [Host.reduce_eq_fold, Finset.filter_true_of_mem (fun i _ => by funext a; exact a.elim0), pre_sum G 64 le_rfl]
  exact (fold_addi _ _).trans (Fintype.sum_equiv ixEquiv _ _ fun _ => rfl).symm

section
variable [Cert.Pre_routed.Facts] {F : FTy → Type} [FloatOps F]

/-- What the stated precondition says of the tokens and the group sizes. -/
theorem routed_of_pre (a0 : FVec F Cert.Pre_routed.S2x1024x64 .f32) (a1 : IVec Cert.Pre_routed.S2x1024x4096 8) (a2 : FVec F Cert.Pre_routed.S2x1024 .f32)
    (a3 : FVec F Cert.Pre_routed.S16384x4096 .fp8e4m3) (a4 : FVec F S16384 .f32) (T : IVec S16384 32) (G : IVec S64 32) (a7 : FVec F S64x4096 .f32)
    (h : ∀ i, Cert.Pre_routed.fn a0 a1 a2 a3 a4 T G a7 i = 1#1) : Routed T G := by
  have both : ∀ p q : BitVec 1, IntOp.andi p q = 1#1 → p = 1#1 ∧ q = 1#1 := by decide
  have ofBool_eq_one (p : Bool) : (BitVec.ofBool p = 1#1) ↔ p = true := by cases p <;> decide
  have key : ∀ (v g n : BitVec 32) (f : BitVec 1),
      IntOp.andi (IntOp.andi (IntOp.andi (IntOp.andi (IntOp.cmpi .sge v 0#32) (IntOp.cmpi .slt v 2048#32)) f)
        (IntOp.andi (IntOp.cmpi .sge g 0#32) (IntOp.cmpi .sle g 16384#32))) (IntOp.cmpi .eq n 16384#32) = 1#1 →
      v.toNat < 2048 ∧ g.toNat ≤ 16384 ∧ n = 16384#32 := by
    intro v g n f e
    obtain ⟨e, e5⟩ := both _ _ e
    obtain ⟨e, e'⟩ := both _ _ e
    obtain ⟨e3, e4⟩ := both _ _ e'
    obtain ⟨e, -⟩ := both _ _ e
    obtain ⟨e1, e2⟩ := both _ _ e
    simp only [IntOp.cmpi, ofBool_eq_one, BitVec.sle_eq_decide, BitVec.slt_eq_decide,
      decide_eq_true_eq, BitVec.toInt_eq_toNat_cond, BitVec.toNat_ofNat, Nat.reducePow, Nat.reduceMod, beq_iff_eq] at e1 e2 e3 e4 e5
    exact ⟨by omega, by omega, e5⟩
  have e (p : S16384.Idx) (q : S64.Idx) : (T p).toNat < 2048 ∧ (G q).toNat ≤ 16384 ∧ pre G 64 = 16384#32 := by
    have e := h (fun a => match a with | ⟨0, _⟩ => p 0 | ⟨1, _⟩ => q 0)
    simp only [Cert.Pre_routed.fn, Cert.Pre_routed.fn_part1, andi, cmpi, broadcastInDim, total_eq] at e
    have k := key _ _ _ _ e
    refine ⟨?_, ?_, k.2.2⟩
    · convert k.1 using 3
      funext a
      obtain rfl : a = 0 := Subsingleton.elim _ _
      rfl
    · convert k.2.1 using 3
      funext a
      obtain rfl : a = 0 := Subsingleton.elim _ _
      rfl
  have z : S16384.Idx := fun a => ⟨0, by obtain rfl : a = 0 := Subsingleton.elim _ _; decide⟩
  exact ⟨fun p => (e p (ix64 0 (by decide))).1, fun q => (e z q).2.1, (e z (ix64 0 (by decide))).2.2⟩

end

end Cert.Kernel.Own
-- ==== Proof.lean ====
module

public import proofs.«01_k».proof.Defs
public import proofs.«01_k».proof.Proof.Gen.Kernel
public import proofs.«01_k».proof.Proof.Gen.KernelIdeal
public import proofs.«01_k».proof.Proof.Gen.Pre_routed
public import proofs.«01_k».proof.Proof.Gen.On_reached
public import proofs.«01_k».proof.Proof.Gen.ReferenceIdeal
public import proofs.«01_k».proof.Proof.Gen.ReferenceIdeal.Value
public import proofs.«01_k».proof.Proof.KI.Run
public import proofs.«01_k».proof.Proof.KI.Route
public import proofs.«01_k».proof.Proof.KI.Values
public import proofs.«01_k».proof.Proof.RI.Mean
public import proofs.«01_k».proof.Proof.RI.Grad
public import proofs.«01_k».proof.Proof.Mask
public import proofs.«01_k».proof.Proof.KB.Run
public import proofs.«01_k».proof.Proof.KB.Route

@[expose] public section

noncomputable section

namespace Cert.Proof

open Idealize.ShloMosaic Idealize.ShloMosaic.TcCoe Idealize.SL.Sem

/-- The idealized kernel runs, keeps its arguments and ends with every counter at zero. -/
theorem frame_ideal : @Cert.quiescent_KernelIdeal Cert.KernelIdeal.Gen.facts Cert.Pre_routed.Gen.facts := fun m g h =>
  have k := fun c => Cert.KernelIdeal.Own.routed_of_pre _ _ _ _ _ _ _ _ (congrFun (h c))
  Cert.KernelIdeal.Own.run_frame m g (fun c => by rw [(k c).total]; decide) (fun c => (k c).tok)

/-- The kernel runs, keeps its arguments and ends with every counter at zero. -/
theorem frame_bits : @Cert.quiescent_Kernel Cert.Kernel.Gen.facts Cert.Pre_routed.Gen.facts := fun m g h =>
  have k := fun c => Cert.Kernel.Own.routed_of_pre _ _ _ _ _ _ _ _ (congrFun (h c))
  Cert.Kernel.Own.run_frame m g (fun c => by rw [(k c).total]; decide) (fun c => (k c).tok)

/-- The reference runs, keeps its arguments and ends with every counter at zero. -/
theorem frame_ref : @Cert.quiescent_ReferenceIdeal Cert.ReferenceIdeal.Gen.facts Cert.Pre_routed.Gen.facts := fun m g _ =>
  Cert.ReferenceIdeal.Gen.frame m g

open Cert.KernelIdeal.Own (meanOf emaOf denseOf) in
/-- The kernel's averages and means are the reference's, and its gradients at the pairs that no row joins. -/
theorem algebraic : @Cert.algebraic_KernelIdeal_ReferenceIdeal_on_reached Cert.KernelIdeal.Gen.facts Cert.ReferenceIdeal.Gen.facts
    Cert.Pre_routed.Gen.facts Cert.On_reached.Gen.facts := by
  intro m g m' g' hp ha
  have hr := fun c => Cert.KernelIdeal.Own.routed_of_pre _ _ _ _ _ _ _ _ (congrFun (hp c))
  have hs := fun c => Cert.KernelIdeal.Own.finite_of_pre _ _ _ _ _ _ _ _ (congrFun (hp c))
  refine ⟨fun c => m (c.tc.loc Cert.KernelIdeal.main_v3_0),
    fun c => emaOf (Cert.KernelIdeal.Own.groups m c) (Cert.KernelIdeal.Own.scalesIn m c) (Cert.KernelIdeal.Own.rowsIn m c) (Cert.KernelIdeal.Own.emaIn m c),
    fun c => denseOf (emaOf (Cert.KernelIdeal.Own.groups m c) (Cert.KernelIdeal.Own.scalesIn m c) (Cert.KernelIdeal.Own.rowsIn m c) (Cert.KernelIdeal.Own.emaIn m c))
      (Cert.KernelIdeal.Own.gradsIn m c) (Cert.KernelIdeal.Own.gradScalesIn m c),
    fun c => meanOf (Cert.KernelIdeal.Own.groups m c) (Cert.KernelIdeal.Own.scalesIn m c) (Cert.KernelIdeal.Own.rowsIn m c), ?_, ?_⟩
  · refine (θ_run _ _ _).mono (fun r h c => ⟨?_, ?_, ?_, ?_, ?_⟩)
      (Cert.KernelIdeal.Own.run_main m g (Cert.KernelIdeal.Own.Sums m) (Cert.KernelIdeal.Own.Ends m) (fun c => Cert.KernelIdeal.Own.sound m c (hr c) (hs c)))
    · intro i hi
      exact absurd (show (0#1 : BitVec 1) = 1#1 from hi) (by decide)
    · intro i _
      exact Cert.KernelIdeal.Own.final_ema m h.1 c i
    · intro i hi
      exact Cert.KernelIdeal.Own.final_grad m h.1 c i (Cert.ReferenceIdeal.Own.not_joins_pair (hr c) i
        (Cert.ReferenceIdeal.Own.count_zero _ _ _ _ _ _ _ _ i hi))
    · intro i _
      exact Cert.KernelIdeal.Own.final_mean m h.1 c i
    · exact Cert.KernelIdeal.Own.final_args h.1 c
  · refine (θ_run _ _ _).mono (fun r h c => ?_) (Cert.ReferenceIdeal.Value.run_blocks m' g')
    obtain ⟨-, h1, h2, h3, hargs⟩ := h c
    obtain ⟨-, a1, a2, a3, a4, a5, a6, a7⟩ := ha c
    have e1 : Cert.ReferenceIdeal.Own.gradsIn m' c = Cert.KernelIdeal.Own.gradsIn m c :=
      congrArg (fun b : Cert.KernelIdeal.S2x1024x4096.Idx → BitVec 8 =>
        shapeCast Cert.ReferenceIdeal.S2048x4096 b Cert.ReferenceIdeal.Gen.facts.shapeCasts_S2x1024x4096_S2048x4096) a1
    have e2 : Cert.ReferenceIdeal.Own.gradScalesIn m' c = Cert.KernelIdeal.Own.gradScalesIn m c := a2
    have e3 : Cert.ReferenceIdeal.Own.rowsIn m' c = Cert.KernelIdeal.Own.rowsIn m c := a3
    have e4 : Cert.ReferenceIdeal.Own.scalesIn m' c = Cert.KernelIdeal.Own.scalesIn m c := a4
    have e5 : Cert.ReferenceIdeal.Own.tokens m' c = Cert.KernelIdeal.Own.tokens m c := a5
    have e6 : Cert.ReferenceIdeal.Own.groups m' c = Cert.KernelIdeal.Own.groups m c := a6
    have e7 : Cert.ReferenceIdeal.Own.emaIn m' c = Cert.KernelIdeal.Own.emaIn m c := a7
    have hr' : Cert.KernelIdeal.Own.Routed (Cert.KernelIdeal.Own.tokens m c) (Cert.ReferenceIdeal.Own.groups m' c) := by
      rw [e6]; exact hr c
    refine ⟨?_, ?_, ?_, ?_, hargs⟩
    · intro i hi
      exact absurd (show (0#1 : BitVec 1) = 1#1 from hi) (by decide)
    · intro i _
      refine (congrFun h1 i).trans ((Cert.ReferenceIdeal.Own.final_ema m' c hr' i).trans ?_)
      rw [e6, e4, e3, e7]
    · intro i hi
      have hz := Cert.ReferenceIdeal.Own.count_zero _ _ _ _ _ _ _ _ i hi
      refine (congrFun h2 i).trans ((Cert.ReferenceIdeal.Own.final_grad m' c hr' i ?_).trans ?_)
      · rw [e5, e6]; exact hz
      · rw [e6, e4, e3, e7, e1, e2]
    · intro i _
      refine (congrFun h3 i).trans ((Cert.ReferenceIdeal.Own.final_mean m' c hr' i).trans ?_)
      rw [e6, e4, e3]

theorem claim : Cert.Claim := ⟨Cert.Kernel.Gen.facts, Cert.KernelIdeal.Gen.facts, Cert.ReferenceIdeal.Gen.facts, Cert.Pre_routed.Gen.facts,
  Cert.On_reached.Gen.facts, frame_bits, frame_ideal, frame_ref, trivial, algebraic⟩

end Cert.Proof

end
